-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Expert [hPre_tables_ok : Cert.Pre_tables_ok.Facts] (m : (ℓ : Loc Cert.Expert.nD Cert.Expert.τ Cert.Expert.sig) → Buf (Elt Bits) ℓ) : Prop :=
  ∀ c : Dev Cert.Expert.nD,
    (Cert.Pre_tables_ok.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5)) (m ((c.tc : Thread Cert.Expert.nD Cert.Expert.τ).loc Cert.Expert.main_arg6))) = (fun _ => 1#1)

def Pre_ExpertIdeal [hPre_tables_ok : Cert.Pre_tables_ok.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_tables_ok.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) = (fun _ => 1#1)

def Pre_ExpertRefIdeal [hPre_tables_ok : Cert.Pre_tables_ok.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_tables_ok.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5)) (m ((c.tc : Thread Cert.ExpertRefIdeal.nD Cert.ExpertRefIdeal.τ).loc Cert.ExpertRefIdeal.main_arg6))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Expert [hExpert : Cert.Expert.Facts] [hPre_tables_ok : Cert.Pre_tables_ok.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5)
      ∧ r.2.mem ((c.tc : Thread Cert.Expert.nD Cert.Expert.τ).loc Cert.Expert.main_arg6) = m ((c.tc : Thread Cert.Expert.nD Cert.Expert.τ).loc Cert.Expert.main_arg6))
      ∧ r.2.sem = fun _ => 0)

def quiescent_ExpertIdeal [hExpertIdeal : Cert.ExpertIdeal.Facts] [hPre_tables_ok : Cert.Pre_tables_ok.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ r.2.sem = fun _ => 0)

def quiescent_ExpertRefIdeal [hExpertRefIdeal : Cert.ExpertRefIdeal.Facts] [hPre_tables_ok : Cert.Pre_tables_ok.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v33_0)) (v1 : (c : Dev Cert.AttnIdeal.nD) → Buf (Elt Ideal) ((c.tc : Thread Cert.AttnIdeal.nD Cert.AttnIdeal.τ).loc Cert.AttnIdeal.main_v33_1)) (v2 : (c : Dev Cert.AttnIdeal.nD) → Buf (Elt Ideal) ((c.tc : Thread Cert.AttnIdeal.nD Cert.AttnIdeal.τ).loc Cert.AttnIdeal.main_v33_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v33_0) = v0 c
          ∧ r.2.mem ((c.tc : Thread Cert.AttnIdeal.nD Cert.AttnIdeal.τ).loc Cert.AttnIdeal.main_v33_1) = v1 c
          ∧ r.2.mem ((c.tc : Thread Cert.AttnIdeal.nD Cert.AttnIdeal.τ).loc Cert.AttnIdeal.main_v33_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v144) = v0 c
          ∧ r.2.mem ((c.tc : Thread Cert.AttnRefIdeal.nD Cert.AttnRefIdeal.τ).loc Cert.AttnRefIdeal.main_v145) = v1 c
          ∧ r.2.mem ((c.tc : Thread Cert.AttnRefIdeal.nD Cert.AttnRefIdeal.τ).loc Cert.AttnRefIdeal.main_v146) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v23) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v20) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_v38) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Expert_ExpertIdeal : Prop :=
  True

def algebraic_ExpertIdeal_ExpertRefIdeal [hExpertIdeal : Cert.ExpertIdeal.Facts] [hExpertRefIdeal : Cert.ExpertRefIdeal.Facts] [hPre_tables_ok : Cert.Pre_tables_ok.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)
      ∧ m' ((c.tc : Thread Cert.ExpertRefIdeal.nD Cert.ExpertRefIdeal.τ).loc Cert.ExpertRefIdeal.main_arg6) = m ((c.tc : Thread Cert.ExpertIdeal.nD Cert.ExpertIdeal.τ).loc Cert.ExpertIdeal.main_arg6)) →
    ∃ (v0 : (c : Dev Cert.ExpertIdeal.nD) → Buf (Elt Ideal) ((c.tc : Thread Cert.ExpertIdeal.nD Cert.ExpertIdeal.τ).loc Cert.ExpertIdeal.main_v10)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v10) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
          ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v60) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5)
          ∧ r.2.mem ((c.tc : Thread Cert.ExpertRefIdeal.nD Cert.ExpertRefIdeal.τ).loc Cert.ExpertRefIdeal.main_arg6) = m' ((c.tc : Thread Cert.ExpertRefIdeal.nD Cert.ExpertRefIdeal.τ).loc Cert.ExpertRefIdeal.main_arg6))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hExpert : Cert.Expert.Facts) (hExpertIdeal : Cert.ExpertIdeal.Facts) (hExpertRefIdeal : Cert.ExpertRefIdeal.Facts) (hPre_attn_finite : Cert.Pre_attn_finite.Facts) (hPre_tables_ok : Cert.Pre_tables_ok.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Expert (hExpert := hExpert) (hPre_tables_ok := hPre_tables_ok)
    ∧ quiescent_ExpertIdeal (hExpertIdeal := hExpertIdeal) (hPre_tables_ok := hPre_tables_ok)
    ∧ quiescent_ExpertRefIdeal (hExpertRefIdeal := hExpertRefIdeal) (hPre_tables_ok := hPre_tables_ok)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Expert_ExpertIdeal
    ∧ algebraic_ExpertIdeal_ExpertRefIdeal (hExpertIdeal := hExpertIdeal) (hExpertRefIdeal := hExpertRefIdeal) (hPre_tables_ok := hPre_tables_ok)
-- ==== Pre_attn_finite.lean ====
abbrev S16896x7680 : Shape := ⟨2, ![16896, 7680]⟩
abbrev S16 : Shape := ⟨1, ![16]⟩
abbrev S_ : Shape := ⟨0, ![]⟩

class Facts : Prop where
  bcast_S_S16896x7680 : S_.BroadcastsInDim S16896x7680 (![] : Fin 0 → Fin S16896x7680.rank)
  reducesTo_S16896x7680_S_d0_1 : S16896x7680.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16896x7680 .f32) (main_arg1 : FVec F S16 .f32) : IVec S_ 1 :=
  let main_v0 : FVec F S16896x7680 .f32 := Host.absf main_arg0
  let main_cst : FVec F S_ .f32 := constant S_ .f32 0x7F800000#32
  let main_v1 : FVec F S16896x7680 .f32 := broadcastInDim S16896x7680 ![] bcast_S_S16896x7680 main_cst
  let main_v2 : IVec S16896x7680 1 := cmpf .olt main_v0 main_v1
  let main_c : IVec S_ 1 := constantI S_ 1 1#1
  let main_v3 : IVec S_ 1 := (fun x v => Host.reduce IntOp.andi x v reducesTo_S16896x7680_S_d0_1 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Pre_tables_ok.lean ====
abbrev S296 : Shape := ⟨1, ![296]⟩
abbrev S1 : Shape := ⟨1, ![1]⟩
abbrev S75776x1024 : Shape := ⟨2, ![75776, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S296 : S_.BroadcastsInDim S296 (![] : Fin 0 → Fin S296.rank)
  reducesTo_S296_S_d0 : S296.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S296 32) (main_arg1 : IVec S1 32) (main_arg2 : FVec F S75776x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S296 32 := broadcastInDim S296 ![] bcast_S_S296 main_c
  let main_v1 : IVec S296 1 := cmpi .sge main_arg0 main_v0
  let main_c_0 : IVec S_ 1 := constantI S_ 1 1#1
  let main_v2 : IVec S_ 1 := (fun x v => Host.reduce IntOp.andi x v reducesTo_S296_S_d0 h_S_) main_v1 main_c_0
  let main_c_1 : IVec S_ 32 := constantI S_ 32 32#32
  let main_v3 : IVec S296 32 := broadcastInDim S296 ![] bcast_S_S296 main_c_1
  let main_v4 : IVec S296 1 := cmpi .slt main_arg0 main_v3
  let main_c_2 : IVec S_ 1 := constantI S_ 1 1#1
  let main_v5 : IVec S_ 1 := (fun x v => Host.reduce IntOp.andi x v reducesTo_S296_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 296#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Attn.lean ====
abbrev S16896x7680 : Shape := ⟨2, ![16896, 7680]⟩
abbrev S16 : Shape := ⟨1, ![16]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1024 : Shape := ⟨2, ![16384, 1024]⟩
abbrev S2x128x256 : Shape := ⟨3, ![2, 128, 256]⟩
abbrev S128x1024 : Shape := ⟨2, ![128, 1024]⟩
abbrev S128x256 : Shape := ⟨2, ![128, 256]⟩
abbrev S128x128 : Shape := ⟨2, ![128, 128]⟩
abbrev S1x128x256 : Shape := ⟨3, ![1, 128, 256]⟩
abbrev S4x128x64 : Shape := ⟨3, ![4, 128, 64]⟩
abbrev S128x64 : Shape := ⟨2, ![128, 64]⟩
abbrev S1x128x64 : Shape := ⟨3, ![1, 128, 64]⟩
abbrev S1 : Shape := ⟨1, ![1]⟩
abbrev S128 : Shape := ⟨1, ![128]⟩
abbrev S128x1 : Shape := ⟨2, ![128, 1]⟩

abbrev nBuf : Space → Nat
  | .hbm => 45
  | .vmem => 20
  | .smem => 1
  | _ => 0

abbrev bufTy : (tb : Table) → Fin (tcTables nBuf tb) → BufTy
  | .hbm, ⟨0, _⟩ => ⟨S16896x7680, .f32⟩
  | .hbm, ⟨1, _⟩ => ⟨S16, .f32⟩
  | .hbm, ⟨2, _⟩ => ⟨S8192, .i32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8192, .f32⟩
  | .hbm, ⟨14, _⟩ => ⟨S8192x1, .f32⟩
  | .hbm, ⟨15, _⟩ => ⟨S1x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192x48, .f32⟩
  | .hbm, ⟨23, _⟩ => ⟨S8192x64, .f32⟩
  | .hbm, ⟨24, _⟩ => ⟨S8192x8, .f32⟩
  | .hbm, ⟨25, _⟩ => ⟨S_, .f32⟩
  | .hbm, ⟨26, _⟩ => ⟨S8192x56, .f32⟩
  | .hbm, ⟨27, _⟩ => ⟨S8192x64, .f32⟩
  | .hbm, ⟨28, _⟩ => ⟨S_, .f32⟩
  | .hbm, ⟨29, _⟩ => ⟨S8192x8, .f32⟩
  | .hbm, ⟨30, _⟩ => ⟨S_, .f32⟩
  | .hbm, ⟨31, _⟩ => ⟨S8192x48, .f32⟩
  | .hbm, ⟨32, _⟩ => ⟨S8192x64, .f32⟩
  | .hbm, ⟨33, _⟩ => ⟨S1x8192x1x64, .f32⟩
  | .hbm, ⟨34, _⟩ => ⟨S1x8192x2x64, .f32⟩
  | .hbm, ⟨35, _⟩ => ⟨S8192x128, .f32⟩
  | .hbm, ⟨36, _⟩ => ⟨S1x8192x1x64, .f32⟩
  | .hbm, ⟨37, _⟩ => ⟨S1x8192x2x64, .f32⟩
  | .hbm, ⟨38, _⟩ => ⟨S8192x128, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S16384x1024, .f32⟩
  | .hbm, ⟨43, _⟩ => ⟨S2x128x256, .f32⟩
  | .hbm, ⟨44, _⟩ => ⟨S2x128x256, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1024, .f32⟩
  | .local _ .vmem, ⟨13, _⟩ => ⟨S128x1024, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S4x128x64, .bf16⟩
  | .local _ .vmem, ⟨19, _⟩ => ⟨S4x128x64, .bf16⟩
  | .local _ .smem, ⟨0, _⟩ => ⟨S16, .f32⟩
  | _, _ => ⟨S16896x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c28_i32 : BitVec 32 := 28#32
  let c0_i32 : BitVec 32 := 0#32
  ![v1.toNat, c28_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c29_i32 : BitVec 32 := 29#32
  let c0_i32 : BitVec 32 := 0#32
  ![v1.toNat, c29_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnRefIdeal.lean ====
abbrev S16896x7680 : Shape := ⟨2, ![16896, 7680]⟩
abbrev S16 : Shape := ⟨1, ![16]⟩
abbrev S16384x7680 : Shape := ⟨2, ![16384, 7680]⟩
abbrev S2x8192x7680 : Shape := ⟨3, ![2, 8192, 7680]⟩
abbrev S2x8192x1024 : Shape := ⟨3, ![2, 8192, 1024]⟩
abbrev S2x8192x256 : Shape := ⟨3, ![2, 8192, 256]⟩
abbrev S8192 : Shape := ⟨1, ![8192]⟩
abbrev S2x8192x16x64 : Shape := ⟨4, ![2, 8192, 16, 64]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x16x16 : Shape := ⟨4, ![2, 8192, 16, 16]⟩
abbrev S2x8192x16x8 : Shape := ⟨4, ![2, 8192, 16, 8]⟩
abbrev S1x8192x1x8 : Shape := ⟨4, ![1, 8192, 1, 8]⟩
abbrev S2x8192x16x48 : Shape := ⟨4, ![2, 8192, 16, 48]⟩
abbrev S2x8192x4x64 : Shape := ⟨4, ![2, 8192, 4, 64]⟩
abbrev S2x8192x4x16 : Shape := ⟨4, ![2, 8192, 4, 16]⟩
abbrev S2x8192x4x8 : Shape := ⟨4, ![2, 8192, 4, 8]⟩
abbrev S2x8192x4x48 : Shape := ⟨4, ![2, 8192, 4, 48]⟩
abbrev S4x4 : Shape := ⟨2, ![4, 4]⟩
abbrev S2x64x128x4x4x64 : Shape := ⟨6, ![2, 64, 128, 4, 4, 64]⟩
abbrev S8320 : Shape := ⟨1, ![8320]⟩
abbrev S65x128 : Shape := ⟨2, ![65, 128]⟩
abbrev S64x128 : Shape := ⟨2, ![64, 128]⟩
abbrev S64x256 : Shape := ⟨2, ![64, 256]⟩
abbrev S2x8320x4x64 : Shape := ⟨4, ![2, 8320, 4, 64]⟩
abbrev S2x65x128x4x64 : Shape := ⟨5, ![2, 65, 128, 4, 64]⟩
abbrev S2x64x128x4x64 : Shape := ⟨5, ![2, 64, 128, 4, 64]⟩
abbrev S2x64x256x4x64 : Shape := ⟨5, ![2, 64, 256, 4, 64]⟩
abbrev S2x64x4x256x128x4 : Shape := ⟨6, ![2, 64, 4, 256, 128, 4]⟩
abbrev S2x64x4x4x128x256 : Shape := ⟨6, ![2, 64, 4, 4, 128, 256]⟩
abbrev S64x128x1 : Shape := ⟨3, ![64, 128, 1]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S4x4x1x1 : Shape := ⟨4, ![4, 4, 1, 1]⟩
abbrev S2x64x4x4x128x1 : Shape := ⟨6, ![2, 64, 4, 4, 128, 1]⟩
abbrev S2x64x4x4x128x257 : Shape := ⟨6, ![2, 64, 4, 4, 128, 257]⟩
abbrev S2x64x4x4x128 : Shape := ⟨5, ![2, 64, 4, 4, 128]⟩
abbrev S2x64x4x64x4x128 : Shape := ⟨6, ![2, 64, 4, 64, 4, 128]⟩
abbrev S2x128x4x64 : Shape := ⟨4, ![2, 128, 4, 64]⟩
abbrev S16384x1024 : Shape := ⟨2, ![16384, 1024]⟩
abbrev S2x128x256 : Shape := ⟨3, ![2, 128, 256]⟩

abbrev nBuf : Space → Nat
  | .hbm => 170
  | .vmem => 0
  | .smem => 0
  | _ => 0

abbrev hbmTy0_0 (i : Nat) : BufTy := match i % 128 with
  | 0 => ⟨S16896x7680, .f32⟩
  | 1 => ⟨S16, .f32⟩
  | 2 => ⟨S16384x7680, .f32⟩
  | 3 => ⟨S2x8192x7680, .f32⟩
  | 4 => ⟨S2x8192x1024, .f32⟩
  | 5 => ⟨S2x8192x256, .f32⟩
  | 6 => ⟨S2x8192x256, .f32⟩
  | 7 => ⟨S8192, .i32⟩
  | 8 => ⟨S2x8192x16x64, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S8192, .f32⟩
  | 20 => ⟨S8192x1, .f32⟩
  | 21 => ⟨S1x8, .f32⟩
  | 22 => ⟨S8192x8, .f32⟩
  | 23 => ⟨S8192x8, .f32⟩
  | 24 => ⟨S8192x8, .f32⟩
  | 25 => ⟨S8192x8, .f32⟩
  | 26 => ⟨S8192x1x8, .f32⟩
  | 27 => ⟨S8192x8, .f32⟩
  | 28 => ⟨S8192x1x8, .f32⟩
  | 29 => ⟨S2x8192x16x16, .f32⟩
  | 30 => ⟨S2x8192x16x8, .f32⟩
  | 31 => ⟨S2x8192x16x8, .f32⟩
  | 32 => ⟨S1x8192x1x8, .f32⟩
  | 33 => ⟨S2x8192x16x8, .f32⟩
  | 34 => ⟨S2x8192x16x8, .f32⟩
  | 35 => ⟨S1x8192x1x8, .f32⟩
  | 36 => ⟨S2x8192x16x8, .f32⟩
  | 37 => ⟨S2x8192x16x8, .f32⟩
  | 38 => ⟨S2x8192x16x8, .f32⟩
  | 39 => ⟨S1x8192x1x8, .f32⟩
  | 40 => ⟨S2x8192x16x8, .f32⟩
  | 41 => ⟨S2x8192x16x8, .f32⟩
  | 42 => ⟨S1x8192x1x8, .f32⟩
  | 43 => ⟨S2x8192x16x8, .f32⟩
  | 44 => ⟨S2x8192x16x8, .f32⟩
  | 45 => ⟨S2x8192x16x8, .f32⟩
  | 46 => ⟨S2x8192x16x16, .f32⟩
  | 47 => ⟨S2x8192x16x48, .f32⟩
  | 48 => ⟨S2x8192x16x64, .f32⟩
  | 49 => ⟨S2x8192x4x64, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S_, .f32⟩
  | 58 => ⟨S8, .f32⟩
  | 59 => ⟨S8, .f32⟩
  | 60 => ⟨S8192, .f32⟩
  | 61 => ⟨S8192x1, .f32⟩
  | 62 => ⟨S1x8, .f32⟩
  | 63 => ⟨S8192x8, .f32⟩
  | 64 => ⟨S8192x8, .f32⟩
  | 65 => ⟨S8192x8, .f32⟩
  | 66 => ⟨S8192x8, .f32⟩
  | 67 => ⟨S8192x1x8, .f32⟩
  | 68 => ⟨S8192x8, .f32⟩
  | 69 => ⟨S8192x1x8, .f32⟩
  | 70 => ⟨S2x8192x4x16, .f32⟩
  | 71 => ⟨S2x8192x4x8, .f32⟩
  | 72 => ⟨S2x8192x4x8, .f32⟩
  | 73 => ⟨S1x8192x1x8, .f32⟩
  | 74 => ⟨S2x8192x4x8, .f32⟩
  | 75 => ⟨S2x8192x4x8, .f32⟩
  | 76 => ⟨S1x8192x1x8, .f32⟩
  | 77 => ⟨S2x8192x4x8, .f32⟩
  | 78 => ⟨S2x8192x4x8, .f32⟩
  | 79 => ⟨S2x8192x4x8, .f32⟩
  | 80 => ⟨S1x8192x1x8, .f32⟩
  | 81 => ⟨S2x8192x4x8, .f32⟩
  | 82 => ⟨S2x8192x4x8, .f32⟩
  | 83 => ⟨S1x8192x1x8, .f32⟩
  | 84 => ⟨S2x8192x4x8, .f32⟩
  | 85 => ⟨S2x8192x4x8, .f32⟩
  | 86 => ⟨S2x8192x4x8, .f32⟩
  | 87 => ⟨S2x8192x4x16, .f32⟩
  | 88 => ⟨S2x8192x4x48, .f32⟩
  | 89 => ⟨S2x8192x4x64, .f32⟩
  | 90 => ⟨S2x8192x4x64, .f32⟩
  | 91 => ⟨S4x4, .f32⟩
  | 92 => ⟨S2x64x128x4x4x64, .f32⟩
  | 93 => ⟨S8320, .i32⟩
  | 94 => ⟨S_, .i32⟩
  | 95 => ⟨S8320, .i32⟩
  | 96 => ⟨S8320, .i32⟩
  | 97 => ⟨S65x128, .i32⟩
  | 98 => ⟨S64x128, .i32⟩
  | 99 => ⟨S64x128, .i32⟩
  | 100 => ⟨S64x256, .i32⟩
  | 101 => ⟨S_, .i32⟩
  | 102 => ⟨S_, .f32⟩
  | 103 => ⟨S2x8320x4x64, .f32⟩
  | 104 => ⟨S2x65x128x4x64, .f32⟩
  | 105 => ⟨S2x64x128x4x64, .f32⟩
  | 106 => ⟨S2x64x128x4x64, .f32⟩
  | 107 => ⟨S2x64x256x4x64, .f32⟩
  | 108 => ⟨S_, .i32⟩
  | 109 => ⟨S_, .f32⟩
  | 110 => ⟨S2x8320x4x64, .f32⟩
  | 111 => ⟨S2x65x128x4x64, .f32⟩
  | 112 => ⟨S2x64x128x4x64, .f32⟩
  | 113 => ⟨S2x64x128x4x64, .f32⟩
  | 114 => ⟨S2x64x256x4x64, .f32⟩
  | 115 => ⟨S64x128, .i32⟩
  | 116 => ⟨S2x64x4x256x128x4, .f32⟩
  | 117 => ⟨S2x64x4x4x128x256, .f32⟩
  | 118 => ⟨S_, .f32⟩
  | 119 => ⟨S2x64x4x4x128x256, .f32⟩
  | 120 => ⟨S2x64x4x4x128x256, .f32⟩
  | 121 => ⟨S64x128x1, .i32⟩
  | 122 => ⟨S64x1x256, .i32⟩
  | 123 => ⟨S64x128x256, .i32⟩
  | 124 => ⟨S64x128x256, .i32⟩
  | 125 => ⟨S64x128x256, .i1⟩
  | 126 => ⟨S_, .i32⟩
  | 127 => ⟨S64x128x1, .i32⟩
  | _ => ⟨S16896x7680, .f32⟩

abbrev hbmTy0_1 (i : Nat) : BufTy := match i % 128 with
  | 0 => ⟨S64x128x1, .i32⟩
  | 1 => ⟨S64x128x256, .i32⟩
  | 2 => ⟨S64x128x256, .i32⟩
  | 3 => ⟨S64x128x256, .i1⟩
  | 4 => ⟨S64x128x256, .i1⟩
  | 5 => ⟨S_, .i32⟩
  | 6 => ⟨S64x1x256, .i32⟩
  | 7 => ⟨S64x1x256, .i1⟩
  | 8 => ⟨S64x128x256, .i1⟩
  | 9 => ⟨S64x128x256, .i1⟩
  | 10 => ⟨S1x64x1x1x128x256, .i1⟩
  | 11 => ⟨S_, .f32⟩
  | 12 => ⟨S_, .f32⟩
  | 13 => ⟨S2x64x4x4x128x256, .i1⟩
  | 14 => ⟨S2x64x4x4x128x256, .f32⟩
  | 15 => ⟨S2x64x4x4x128x256, .f32⟩
  | 16 => ⟨S4x4x1x1, .f32⟩
  | 17 => ⟨S2x64x4x4x128x1, .f32⟩
  | 18 => ⟨S2x64x4x4x128x257, .f32⟩
  | 19 => ⟨S_, .f32⟩
  | 20 => ⟨S2x64x4x4x128, .f32⟩
  | 21 => ⟨S_, .f32⟩
  | 22 => ⟨S2x64x4x4x128, .f32⟩
  | 23 => ⟨S2x64x4x4x128, .f32⟩
  | 24 => ⟨S2x64x4x4x128x1, .f32⟩
  | 25 => ⟨S2x64x4x4x128x257, .f32⟩
  | 26 => ⟨S2x64x4x4x128x257, .f32⟩
  | 27 => ⟨S2x64x4x4x128x257, .f32⟩
  | 28 => ⟨S_, .f32⟩
  | 29 => ⟨S2x64x4x4x128, .f32⟩
  | 30 => ⟨S2x64x4x4x128x1, .f32⟩
  | 31 => ⟨S2x64x4x4x128x257, .f32⟩
  | 32 => ⟨S2x64x4x4x128x257, .f32⟩
  | 33 => ⟨S2x64x4x4x128x256, .f32⟩
  | 34 => ⟨S2x64x4x64x4x128, .f32⟩
  | 35 => ⟨S2x64x128x4x4x64, .f32⟩
  | 36 => ⟨S2x8192x1024, .f32⟩
  | 37 => ⟨S2x128x4x64, .f32⟩
  | 38 => ⟨S2x128x4x64, .f32⟩
  | 39 => ⟨S16384x1024, .f32⟩
  | 40 => ⟨S2x128x256, .f32⟩
  | 41 => ⟨S2x128x256, .f32⟩
  | _ => ⟨S16896x7680, .f32⟩

abbrev hbmTy (i : Nat) : BufTy := match i / 128 with
  | 0 => hbmTy0_0 i
  | 1 => hbmTy0_1 i
  | _ => ⟨S16896x7680, .f32⟩

abbrev bufTy : (tb : Table) → Fin (tcTables nBuf tb) → BufTy
  | .hbm, ⟨i, _⟩ => hbmTy i
  | _, _ => ⟨S16896x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_2 : Ref sig .tc := ⟨.hbm, 51, rfl⟩
abbrev main_v46 : Ref sig .tc := ⟨.hbm, 52, rfl⟩
abbrev main_v47 : Ref sig .tc := ⟨.hbm, 53, rfl⟩
abbrev main_cst_3 : Ref sig .tc := ⟨.hbm, 54, rfl⟩
abbrev main_v48 : Ref sig .tc := ⟨.hbm, 55, rfl⟩
abbrev main_v49 : Ref sig .tc := ⟨.hbm, 56, rfl⟩
abbrev main_cst_4 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_c : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_c_5 : Ref sig .tc := ⟨.hbm, 101, rfl⟩
abbrev main_call0_v0 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_c_6 : Ref sig .tc := ⟨.hbm, 108, rfl⟩
abbrev main_call1_v0 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_cst_7 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_c_8 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_c_9 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_cst_10 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_cst_11 : Ref sig .tc := ⟨.hbm, 147, rfl⟩
abbrev main_v127 : Ref sig .tc := ⟨.hbm, 148, rfl⟩
abbrev main_cst_12 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_cst_13 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩

abbrev nD : Nat := 1
abbrev τ : Topo := Topo.v7x

variable {F : FTy → Type} [FloatOps F]
-- ==== Proj.lean ====
abbrev S16896x1024 : Shape := ⟨2, ![16896, 1024]⟩
abbrev S1024 : Shape := ⟨1, ![1024]⟩
abbrev S1024x7680 : Shape := ⟨2, ![1024, 7680]⟩
abbrev S1024x1024 : Shape := ⟨2, ![1024, 1024]⟩
abbrev S1024x256 : Shape := ⟨2, ![1024, 256]⟩
abbrev S1x1024 : Shape := ⟨2, ![1, 1024]⟩
abbrev S16896x7680 : Shape := ⟨2, ![16896, 7680]⟩
abbrev S512x1024 : Shape := ⟨2, ![512, 1024]⟩
abbrev S1024x1536 : Shape := ⟨2, ![1024, 1536]⟩
abbrev S512x1536 : Shape := ⟨2, ![512, 1536]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x7680, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x256, .f32⟩
  | .hbm, ⟨11, _⟩ => ⟨S1024x256, .f32⟩
  | .hbm, ⟨12, _⟩ => ⟨S1024x7680, .f32⟩
  | .hbm, ⟨13, _⟩ => ⟨S1024x7680, .bf16⟩
  | .hbm, ⟨14, _⟩ => ⟨S1x1024, .f32⟩
  | .hbm, ⟨15, _⟩ => ⟨S16896x7680, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .bf16⟩
  | .local _ .vmem, ⟨5, _⟩ => ⟨S512x1536, .f32⟩
  | .local _ .vmem, ⟨6, _⟩ => ⟨S512x1536, .f32⟩
  | .local _ .vmem, ⟨7, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16896x1024 : Shape := ⟨2, ![16896, 1024]⟩
abbrev S1024 : Shape := ⟨1, ![1024]⟩
abbrev S1024x7680 : Shape := ⟨2, ![1024, 7680]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x7680 : Shape := ⟨2, ![16896, 7680]⟩
abbrev S16896x256 : Shape := ⟨2, ![16896, 256]⟩

abbrev nBuf : Space → Nat
  | .hbm => 30
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1024x7680, .f32⟩
  | .hbm, ⟨3, _⟩ => ⟨S16896x1024, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x1024, .f32⟩
  | .hbm, ⟨15, _⟩ => ⟨S16896x1024, .f32⟩
  | .hbm, ⟨16, _⟩ => ⟨S1x1024, .f32⟩
  | .hbm, ⟨17, _⟩ => ⟨S16896x1024, .f32⟩
  | .hbm, ⟨18, _⟩ => ⟨S16896x1024, .f32⟩
  | .hbm, ⟨19, _⟩ => ⟨S16896x7680, .f32⟩
  | .hbm, ⟨20, _⟩ => ⟨S16896x1024, .f32⟩
  | .hbm, ⟨21, _⟩ => ⟨S16896x256, .f32⟩
  | .hbm, ⟨22, _⟩ => ⟨S16896x256, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1024, .f32⟩
  | .hbm, ⟨29, _⟩ => ⟨S16896x7680, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Merge.lean ====
abbrev S16896x7680 : Shape := ⟨2, ![16896, 7680]⟩
abbrev S16384x1024 : Shape := ⟨2, ![16384, 1024]⟩
abbrev S512x1024 : Shape := ⟨2, ![512, 1024]⟩
abbrev S16896x1024 : Shape := ⟨2, ![16896, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S16896x128 : Shape := ⟨2, ![16896, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 23
  | .vmem => 24
  | .smem => 0
  | _ => 0

abbrev bufTy : (tb : Table) → Fin (tcTables nBuf tb) → BufTy
  | .hbm, ⟨0, _⟩ => ⟨S16896x7680, .f32⟩
  | .hbm, ⟨1, _⟩ => ⟨S16384x1024, .f32⟩
  | .hbm, ⟨2, _⟩ => ⟨S512x1024, .f32⟩
  | .hbm, ⟨3, _⟩ => ⟨S16384x1024, .f32⟩
  | .hbm, ⟨4, _⟩ => ⟨S512x1024, .f32⟩
  | .hbm, ⟨5, _⟩ => ⟨S16896x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S1024x1024, .bf16⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S16896x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x1024, .bf16⟩
  | .local _ .vmem, ⟨15, _⟩ => ⟨S1x1024, .f32⟩
  | .local _ .vmem, ⟨16, _⟩ => ⟨S1024x128, .bf16⟩
  | .local _ .vmem, ⟨17, _⟩ => ⟨S1x128, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x128, .f32⟩
  | .local _ .vmem, ⟨23, _⟩ => ⟨S256x128, .f32⟩
  | _, _ => ⟨S16896x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16896x7680 : Shape := ⟨2, ![16896, 7680]⟩
abbrev S16384x1024 : Shape := ⟨2, ![16384, 1024]⟩
abbrev S512x1024 : Shape := ⟨2, ![512, 1024]⟩
abbrev S16896x1024 : Shape := ⟨2, ![16896, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S16896 : Shape := ⟨1, ![16896]⟩
abbrev S16896x1 : Shape := ⟨2, ![16896, 1]⟩
abbrev S1x1024 : Shape := ⟨2, ![1, 1024]⟩
abbrev S16896x32 : Shape := ⟨2, ![16896, 32]⟩
abbrev S1x32 : Shape := ⟨2, ![1, 32]⟩
abbrev S16896x128 : Shape := ⟨2, ![16896, 128]⟩

abbrev nBuf : Space → Nat
  | .hbm => 58
  | .vmem => 0
  | .smem => 0
  | _ => 0

abbrev bufTy : (tb : Table) → Fin (tcTables nBuf tb) → BufTy
  | .hbm, ⟨0, _⟩ => ⟨S16896x7680, .f32⟩
  | .hbm, ⟨1, _⟩ => ⟨S16384x1024, .f32⟩
  | .hbm, ⟨2, _⟩ => ⟨S512x1024, .f32⟩
  | .hbm, ⟨3, _⟩ => ⟨S16384x1024, .f32⟩
  | .hbm, ⟨4, _⟩ => ⟨S512x1024, .f32⟩
  | .hbm, ⟨5, _⟩ => ⟨S16896x1024, .f32⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S16896x1024, .f32⟩
  | .hbm, ⟨11, _⟩ => ⟨S16896x1024, .f32⟩
  | .hbm, ⟨12, _⟩ => ⟨S16896x1024, .f32⟩
  | .hbm, ⟨13, _⟩ => ⟨S16896x1024, .f32⟩
  | .hbm, ⟨14, _⟩ => ⟨S16896x1024, .f32⟩
  | .hbm, ⟨15, _⟩ => ⟨S16896x1024, .f32⟩
  | .hbm, ⟨16, _⟩ => ⟨S_, .f32⟩
  | .hbm, ⟨17, _⟩ => ⟨S16896x1024, .f32⟩
  | .hbm, ⟨18, _⟩ => ⟨S16896x1024, .f32⟩
  | .hbm, ⟨19, _⟩ => ⟨S_, .f32⟩
  | .hbm, ⟨20, _⟩ => ⟨S16896x1024, .f32⟩
  | .hbm, ⟨21, _⟩ => ⟨S16896x1024, .f32⟩
  | .hbm, ⟨22, _⟩ => ⟨S16896x1024, .f32⟩
  | .hbm, ⟨23, _⟩ => ⟨S16896x1024, .f32⟩
  | .hbm, ⟨24, _⟩ => ⟨S16896x1024, .f32⟩
  | .hbm, ⟨25, _⟩ => ⟨S_, .f32⟩
  | .hbm, ⟨26, _⟩ => ⟨S16896x1024, .f32⟩
  | .hbm, ⟨27, _⟩ => ⟨S16896x1024, .f32⟩
  | .hbm, ⟨28, _⟩ => ⟨S_, .f32⟩
  | .hbm, ⟨29, _⟩ => ⟨S16896x1024, .f32⟩
  | .hbm, ⟨30, _⟩ => ⟨S16896x1024, .f32⟩
  | .hbm, ⟨31, _⟩ => ⟨S16896x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S16896x1024, .f32⟩
  | .hbm, ⟨36, _⟩ => ⟨S_, .f32⟩
  | .hbm, ⟨37, _⟩ => ⟨S16896, .f32⟩
  | .hbm, ⟨38, _⟩ => ⟨S16896x1, .f32⟩
  | .hbm, ⟨39, _⟩ => ⟨S_, .f32⟩
  | .hbm, ⟨40, _⟩ => ⟨S16896x1, .f32⟩
  | .hbm, ⟨41, _⟩ => ⟨S16896x1, .f32⟩
  | .hbm, ⟨42, _⟩ => ⟨S_, .f32⟩
  | .hbm, ⟨43, _⟩ => ⟨S16896x1, .f32⟩
  | .hbm, ⟨44, _⟩ => ⟨S16896x1, .f32⟩
  | .hbm, ⟨45, _⟩ => ⟨S16896x1, .f32⟩
  | .hbm, ⟨46, _⟩ => ⟨S16896x1024, .f32⟩
  | .hbm, ⟨47, _⟩ => ⟨S16896x1024, .f32⟩
  | .hbm, ⟨48, _⟩ => ⟨S1x1024, .f32⟩
  | .hbm, ⟨49, _⟩ => ⟨S16896x1024, .f32⟩
  | .hbm, ⟨50, _⟩ => ⟨S16896x1024, .f32⟩
  | .hbm, ⟨51, _⟩ => ⟨S16896x32, .f32⟩
  | .hbm, ⟨52, _⟩ => ⟨S1x32, .f32⟩
  | .hbm, ⟨53, _⟩ => ⟨S16896x32, .f32⟩
  | .hbm, ⟨54, _⟩ => ⟨S16896x32, .f32⟩
  | .hbm, ⟨55, _⟩ => ⟨S_, .i32⟩
  | .hbm, ⟨56, _⟩ => ⟨S_, .f32⟩
  | .hbm, ⟨57, _⟩ => ⟨S16896x128, .f32⟩
  | _, _ => ⟨S16896x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c : Ref sig .tc := ⟨.hbm, 55, rfl⟩
abbrev main_call0_v0 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Expert.lean ====
abbrev S296 : Shape := ⟨1, ![296]⟩
abbrev S1 : Shape := ⟨1, ![1]⟩
abbrev S75776x1024 : Shape := ⟨2, ![75776, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 16
  | .vmem => 12
  | .smem => 2
  | _ => 0

abbrev bufTy : (tb : Table) → Fin (tcTables nBuf tb) → BufTy
  | .hbm, ⟨0, _⟩ => ⟨S75776x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x1024, .f32⟩
  | .hbm, ⟨6, _⟩ => ⟨S32x1024x1024, .f32⟩
  | .hbm, ⟨7, _⟩ => ⟨S32x1024x2048, .f32⟩
  | .hbm, ⟨8, _⟩ => ⟨S32x1024x2048, .bf16⟩
  | .hbm, ⟨9, _⟩ => ⟨S32x1024, .f32⟩
  | .hbm, ⟨10, _⟩ => ⟨S32x1024, .f32⟩
  | .hbm, ⟨11, _⟩ => ⟨S32x2048, .f32⟩
  | .hbm, ⟨12, _⟩ => ⟨S32x1x2048, .f32⟩
  | .hbm, ⟨13, _⟩ => ⟨S32x1024x1024, .bf16⟩
  | .hbm, ⟨14, _⟩ => ⟨S32x1x1024, .f32⟩
  | .hbm, ⟨15, _⟩ => ⟨S75776x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S296, .i32⟩
  | .local _ .smem, ⟨1, _⟩ => ⟨S1, .i32⟩
  | _, _ => ⟨S75776x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![296], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .slt arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S296.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S296) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertRefIdeal.lean ====
abbrev S296 : Shape := ⟨1, ![296]⟩
abbrev S1 : Shape := ⟨1, ![1]⟩
abbrev S75776x1024 : Shape := ⟨2, ![75776, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S296x256x1024 : Shape := ⟨3, ![296, 256, 1024]⟩
abbrev S_ : Shape := ⟨0, ![]⟩
abbrev S296x1 : Shape := ⟨2, ![296, 1]⟩
abbrev S296x1024x2048 : Shape := ⟨3, ![296, 1024, 2048]⟩
abbrev S296x256x2048 : Shape := ⟨3, ![296, 256, 2048]⟩
abbrev S296x2048 : Shape := ⟨2, ![296, 2048]⟩
abbrev S296x1x2048 : Shape := ⟨3, ![296, 1, 2048]⟩
abbrev S296x1024x1024 : Shape := ⟨3, ![296, 1024, 1024]⟩
abbrev S296x1024 : Shape := ⟨2, ![296, 1024]⟩
abbrev S296x1x1024 : Shape := ⟨3, ![296, 1, 1024]⟩
abbrev S296x1x1 : Shape := ⟨3, ![296, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S296, .i32⟩
  | .hbm, ⟨1, _⟩ => ⟨S1, .i32⟩
  | .hbm, ⟨2, _⟩ => ⟨S75776x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S296x256x1024, .f32⟩
  | .hbm, ⟨8, _⟩ => ⟨S_, .i32⟩
  | .hbm, ⟨9, _⟩ => ⟨S296, .i32⟩
  | .hbm, ⟨10, _⟩ => ⟨S296, .i1⟩
  | .hbm, ⟨11, _⟩ => ⟨S_, .i32⟩
  | .hbm, ⟨12, _⟩ => ⟨S296, .i32⟩
  | .hbm, ⟨13, _⟩ => ⟨S296, .i32⟩
  | .hbm, ⟨14, _⟩ => ⟨S296, .i32⟩
  | .hbm, ⟨15, _⟩ => ⟨S296x1, .i32⟩
  | .hbm, ⟨16, _⟩ => ⟨S296x1024x2048, .f32⟩
  | .hbm, ⟨17, _⟩ => ⟨S296x256x2048, .f32⟩
  | .hbm, ⟨18, _⟩ => ⟨S_, .i32⟩
  | .hbm, ⟨19, _⟩ => ⟨S296, .i32⟩
  | .hbm, ⟨20, _⟩ => ⟨S296, .i1⟩
  | .hbm, ⟨21, _⟩ => ⟨S_, .i32⟩
  | .hbm, ⟨22, _⟩ => ⟨S296, .i32⟩
  | .hbm, ⟨23, _⟩ => ⟨S296, .i32⟩
  | .hbm, ⟨24, _⟩ => ⟨S296, .i32⟩
  | .hbm, ⟨25, _⟩ => ⟨S296x1, .i32⟩
  | .hbm, ⟨26, _⟩ => ⟨S296x2048, .f32⟩
  | .hbm, ⟨27, _⟩ => ⟨S296x1x2048, .f32⟩
  | .hbm, ⟨28, _⟩ => ⟨S296x256x2048, .f32⟩
  | .hbm, ⟨29, _⟩ => ⟨S296x256x2048, .f32⟩
  | .hbm, ⟨30, _⟩ => ⟨S296x256x1024, .f32⟩
  | .hbm, ⟨31, _⟩ => ⟨S_, .f32⟩
  | .hbm, ⟨32, _⟩ => ⟨S296x256x1024, .f32⟩
  | .hbm, ⟨33, _⟩ => ⟨S296x256x1024, .f32⟩
  | .hbm, ⟨34, _⟩ => ⟨S296x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S296x256x1024, .f32⟩
  | .hbm, ⟨39, _⟩ => ⟨S296x256x1024, .f32⟩
  | .hbm, ⟨40, _⟩ => ⟨S_, .f32⟩
  | .hbm, ⟨41, _⟩ => ⟨S296x256x1024, .f32⟩
  | .hbm, ⟨42, _⟩ => ⟨S296x256x1024, .f32⟩
  | .hbm, ⟨43, _⟩ => ⟨S_, .f32⟩
  | .hbm, ⟨44, _⟩ => ⟨S296x256x1024, .f32⟩
  | .hbm, ⟨45, _⟩ => ⟨S296x256x1024, .f32⟩
  | .hbm, ⟨46, _⟩ => ⟨S296x256x1024, .f32⟩
  | .hbm, ⟨47, _⟩ => ⟨S296x256x1024, .f32⟩
  | .hbm, ⟨48, _⟩ => ⟨S_, .f32⟩
  | .hbm, ⟨49, _⟩ => ⟨S296x256x1024, .f32⟩
  | .hbm, ⟨50, _⟩ => ⟨S296x256x1024, .f32⟩
  | .hbm, ⟨51, _⟩ => ⟨S_, .f32⟩
  | .hbm, ⟨52, _⟩ => ⟨S296x256x1024, .f32⟩
  | .hbm, ⟨53, _⟩ => ⟨S296x256x1024, .f32⟩
  | .hbm, ⟨54, _⟩ => ⟨S296x256x1024, .f32⟩
  | .hbm, ⟨55, _⟩ => ⟨S_, .f32⟩
  | .hbm, ⟨56, _⟩ => ⟨S296x256x1024, .f32⟩
  | .hbm, ⟨57, _⟩ => ⟨S296x256x1024, .f32⟩
  | .hbm, ⟨58, _⟩ => ⟨S296x256x1024, .f32⟩
  | .hbm, ⟨59, _⟩ => ⟨S_, .i32⟩
  | .hbm, ⟨60, _⟩ => ⟨S296, .i32⟩
  | .hbm, ⟨61, _⟩ => ⟨S296, .i1⟩
  | .hbm, ⟨62, _⟩ => ⟨S_, .i32⟩
  | .hbm, ⟨63, _⟩ => ⟨S296, .i32⟩
  | .hbm, ⟨64, _⟩ => ⟨S296, .i32⟩
  | .hbm, ⟨65, _⟩ => ⟨S296, .i32⟩
  | .hbm, ⟨66, _⟩ => ⟨S296x1, .i32⟩
  | .hbm, ⟨67, _⟩ => ⟨S296x1024x1024, .f32⟩
  | .hbm, ⟨68, _⟩ => ⟨S296x256x1024, .f32⟩
  | .hbm, ⟨69, _⟩ => ⟨S_, .i32⟩
  | .hbm, ⟨70, _⟩ => ⟨S296, .i32⟩
  | .hbm, ⟨71, _⟩ => ⟨S296, .i1⟩
  | .hbm, ⟨72, _⟩ => ⟨S_, .i32⟩
  | .hbm, ⟨73, _⟩ => ⟨S296, .i32⟩
  | .hbm, ⟨74, _⟩ => ⟨S296, .i32⟩
  | .hbm, ⟨75, _⟩ => ⟨S296, .i32⟩
  | .hbm, ⟨76, _⟩ => ⟨S296x1, .i32⟩
  | .hbm, ⟨77, _⟩ => ⟨S296x1024, .f32⟩
  | .hbm, ⟨78, _⟩ => ⟨S296x1x1024, .f32⟩
  | .hbm, ⟨79, _⟩ => ⟨S296x256x1024, .f32⟩
  | .hbm, ⟨80, _⟩ => ⟨S296x256x1024, .f32⟩
  | .hbm, ⟨81, _⟩ => ⟨S296, .i32⟩
  | .hbm, ⟨82, _⟩ => ⟨S_, .i32⟩
  | .hbm, ⟨83, _⟩ => ⟨S296, .i32⟩
  | .hbm, ⟨84, _⟩ => ⟨S296, .i1⟩
  | .hbm, ⟨85, _⟩ => ⟨S296x1x1, .i1⟩
  | .hbm, ⟨86, _⟩ => ⟨S_, .f32⟩
  | .hbm, ⟨87, _⟩ => ⟨S_, .f32⟩
  | .hbm, ⟨88, _⟩ => ⟨S296x256x1024, .i1⟩
  | .hbm, ⟨89, _⟩ => ⟨S296x256x1024, .f32⟩
  | .hbm, ⟨90, _⟩ => ⟨S296x256x1024, .f32⟩
  | .hbm, ⟨91, _⟩ => ⟨S75776x1024, .f32⟩
  | _, _ => ⟨S296, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.ProjBlock.lean ====
/-
  The in-projection: what one grid point of the kernel leaves in its output block and in the scratch it carries.
-/
module

public import proofs.«01_k».proof.Proof.Gen.ProjIdeal.Value
public import Idealize.ShloMosaic.Lib.Pointwise
public import Idealize.ShloMosaic.Lib.Tactic

@[expose] public section

set_option maxRecDepth 16384

noncomputable section

namespace Cert.ProjIdeal.Pv

open Cert.ProjIdeal Cert.ProjIdeal.Gen Idealize.ShloMosaic Idealize.ShloMosaic.TcCoe Idealize.SL.Sem

variable {F : FTy → Type} [FloatOps F]
variable (m : (ℓ : Loc nD τ sig) → Buf (Elt F) ℓ)

/-- The two zero offsets of a whole-block access. -/
theorem off0 : (![0, 0] : Fin 2 → Nat) = fun _ => 0 := funext fun a => by fin_cases a <;> rfl

/-- The reset case leaves the normalised row tile in the scratch. -/
theorem scr_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S512x1536 .f32) (h5 : a5.IsWhole) (a6 : Memref sig .tc .vmem S512x1024 .bf16) (h6 : a6.IsWhole)
    (hc : cond0_0 i) (x0 : Vec F S512x1024 .f32) (x1 : Vec F S1x1024 .f32) (x2 : Vec F S1024x1536 .bf16) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero off0]
  simp only [View.readAt_eq_ld, h2.read_unread, h3.read_unread, View.ld_unit_zero (S := S512x1024) off0,
    View.ld_unit_zero (S := S1x1024) off0]

/-- The reset case leaves the product of the normalised row tile in the output block. -/
theorem out_A (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S512x1536 .f32) (h5 : a5.IsWhole) (a6 : Memref sig .tc .vmem S512x1024 .bf16) (h6 : a6.IsWhole)
    (hc : cond0_0 i) (x0 : Vec F S512x1024 .f32) (x1 : Vec F S1x1024 .f32) (x2 : Vec F S1024x1536 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero off0]
  rw [View.readCov_unit_zero (S := S512x1024) _ off0]
  simp only [View.readAt_eq_ld, h2.read_unread, h3.read_unread, h4.read_unread, View.ld_unit_zero (S := S512x1024) off0,
    View.ld_unit_zero (S := S1x1024) off0, View.ld_unit_zero (S := S1024x1536) off0]

/-- The other case leaves the product of what the scratch holds in the output block. -/
theorem out_B (c : Dev nD) (i : grid0.Coords) (a2 : Memref sig .tc .vmem S512x1024 .f32) (h2 : a2.IsWhole)
    (a3 : Memref sig .tc .vmem S1x1024 .f32) (h3 : a3.IsWhole) (a4 : Memref sig .tc .vmem S1024x1536 .bf16) (h4 : a4.IsWhole)
    (a5 : Memref sig .tc .vmem S512x1536 .f32) (h5 : a5.IsWhole) (a6 : Memref sig .tc .vmem S512x1024 .bf16) (h6 : a6.IsWhole)
    (hc : ¬cond0_0 i) (x0 : Vec F S512x1024 .f32) (x1 : Vec F S1x1024 .f32) (x2 : Vec F S1024x1536 .bf16)
    (xs : Vec F S512x1024 .bf16) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero off0]
  simp only [View.readAt_eq_ld, h4.read_unread, h6.read_unread, View.ld_unit_zero (S := S512x1024) off0,
    View.ld_unit_zero (S := S1024x1536) off0]

/-- The index maps of the three inputs at grid point `t`: row tile `t / 5`, and column tile `t % 5` for the weights. -/
theorem maps : ∀ t : Fin cfg0.N, win0_0.index t (0 : Fin 2) = t.val / 5 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 5 :=
  (by decide +kernel : ∀ t : Fin grid0.N, _)

/-- The row tile of `x` at point `t`, read at an index. -/
theorem iblk_x (c : Dev nD) (t : Fin cfg0.N) (r : Fin 512) (k : Fin 1024) (R : Fin 16896) (hR : R.val = 512 * (t.val / 5) + r.val) :
    (iblk m c 0 t : Vec F S512x1024 .f32) (ix2 r k) = (V m c main_arg0 : Vec F S16896x1024 .f32) (ix2 R k) := by
  obtain ⟨e0, e1, -⟩ := maps t
  unfold iblk
  rw [View.read_apply]
  show V m c main_arg0 _ = V m c main_arg0 _
  congr 1
  funext a
  apply Fin.ext
  match a with
  | ⟨0, _⟩ => show win0_0.index t 0 * 512 + 1 * r.val = R.val; rw [e0, hR]; omega
  | ⟨1, _⟩ => show win0_0.index t 1 * 1024 + 1 * k.val = k.val; rw [e1]; omega

/-- The gains at point `t`, read at an index. -/
theorem iblk_g (c : Dev nD) (t : Fin cfg0.N) (k : Fin 1024) :
    (iblk m c 1 t : Vec F S1x1024 .f32) (ix2 0 k) = (V m c main_v11 : Vec F S1x1024 .f32) (ix2 0 k) := by
  obtain ⟨-, -, e0, e1, -⟩ := maps t
  unfold iblk
  rw [View.read_apply]
  show V m c main_v11 _ = V m c main_v11 _
  congr 1
  funext a
  apply Fin.ext
  match a with
  | ⟨0, _⟩ => show win0_1.index t 0 * 1 + 1 * 0 = 0; rw [e0]
  | ⟨1, _⟩ => show win0_1.index t 1 * 1024 + 1 * k.val = k.val; rw [e1]; omega

/-- The weights' column tile at point `t`, read at an index. -/
theorem iblk_w (c : Dev nD) (t : Fin cfg0.N) (k : Fin 1024) (l : Fin 1536) (C : Fin 7680) (hC : C.val = 1536 * (t.val % 5) + l.val) :
    (iblk m c 2 t : Vec F S1024x1536 .bf16) (ix2 k l) = (V m c main_v10 : Vec F S1024x7680 .bf16) (ix2 k C) := by
  obtain ⟨-, -, -, -, e0, e1⟩ := maps t
  unfold iblk
  rw [View.read_apply]
  show V m c main_v10 _ = V m c main_v10 _
  congr 1
  funext a
  apply Fin.ext
  match a with
  | ⟨0, _⟩ => show win0_2.index t 0 * 1024 + 1 * k.val = k.val; rw [e0]; omega
  | ⟨1, _⟩ => show win0_2.index t 1 * 1536 + 1 * l.val = C.val; rw [e1, hC]; omega

/-- Two points of one row tile see the same block of `x`. -/
theorem iblk_x_congr (c : Dev nD) (t t' : Fin cfg0.N) (h : t.val / 5 = t'.val / 5) :
    (iblk m c 0 t : Vec F S512x1024 .f32) = iblk m c 0 t' := by
  have ht : t.val < 165 := lt_of_lt_of_eq t.isLt N_0
  funext j
  obtain ⟨r, k, rfl⟩ : ∃ (r : Fin 512) (k : Fin 1024), j = ix2 r k := ⟨j 0, j 1, eq_ix2 j⟩
  rw [iblk_x m c t r k ⟨512 * (t.val / 5) + r.val, by omega⟩ rfl, iblk_x m c t' r k ⟨512 * (t.val / 5) + r.val, by omega⟩ (congrArg (512 * · + r.val) h)]

/-- Every point sees the same gains. -/
theorem iblk_g_congr (c : Dev nD) (t t' : Fin cfg0.N) :
    (iblk m c 1 t : Vec F S1x1024 .f32) = iblk m c 1 t' := by
  funext j
  obtain ⟨r, k, rfl⟩ : ∃ (r : Fin 1) (k : Fin 1024), j = ix2 r k := ⟨j 0, j 1, eq_ix2 j⟩
  obtain rfl : r = 0 := Subsingleton.elim _ _
  rw [iblk_g, iblk_g]

/-- A point that resets leaves the normalised row tile in the scratch. -/
theorem scratch_reset (c : Dev nD) (t : Fin cfg0.N) (h0 : t.val % 5 = 0) :
    (outsAt0 m c t.val t.isLt).2 = k0_pay1 (iblk m c 0 t : Vec F S512x1024 .f32) (iblk m c 1 t : Vec F S1x1024 .f32) := by
  rw [outsAt0_A m c t h0]
  dsimp only
  rw [scr_A]

/-- A point that does not reset leaves the scratch as it found it. -/
theorem scratch_step (c : Dev nD) (t : Fin cfg0.N) (h0 : ¬t.val % 5 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- After point `t` the carried scratch holds the normalised row tile of that point. -/
theorem scratch (c : Dev nD) : ∀ (n : ℕ) (t : Fin cfg0.N), t.val = n →
    (outsAt0 m c t.val t.isLt).2 = k0_pay1 (iblk m c 0 t : Vec F S512x1024 .f32) (iblk m c 1 t : Vec F S1x1024 .f32) := by
  intro n
  induction n with
  | zero =>
    intro t ht
    exact scratch_reset m c t (by rw [ht])
  | succ n ih =>
    intro t ht
    by_cases h0 : t.val % 5 = 0
    · exact scratch_reset m c t h0
    · have hn : t.val - 1 < cfg0.N := Nat.lt_of_le_of_lt (Nat.sub_le _ _) t.isLt
      rw [iblk_x_congr m c t ⟨t.val - 1, hn⟩ (by dsimp only; omega), iblk_g_congr m c t ⟨t.val - 1, hn⟩,
        ← ih ⟨t.val - 1, hn⟩ (by dsimp only; omega), scratch_step m c t h0]

/-- After point `t` the output block holds the product of the point's normalised row tile with its weight tile. -/
theorem block (c : Dev nD) (t : Fin cfg0.N) :
    (outsAt0 m c t.val t.isLt).1 = k0_pay2 (k0_pay1 (iblk m c 0 t : Vec F S512x1024 .f32) (iblk m c 1 t : Vec F S1x1024 .f32))
      (iblk m c 2 t : Vec F S1024x1536 .bf16) := by
  by_cases h0 : t.val % 5 = 0
  · rw [outsAt0_A m c t h0]
    dsimp only
    rw [out_A]
  · rw [← scratch m c t.val t rfl, scratch_step m c t h0, outsAt0_B m c t h0]
    dsimp only
    rw [out_B]

/-- The result array at an index: the block of the point that covers it, at the index's place in the block. -/
theorem result_apply (c : Dev nD) (i : S16896x7680.Idx) (h : Value.pt3Of i < cfg0.N) :
    Value.G3 m c i = k0_pay2 (k0_pay1 (iblk m c 0 ⟨Value.pt3Of i, h⟩ : Vec F S512x1024 .f32) (iblk m c 1 ⟨Value.pt3Of i, h⟩ : Vec F S1x1024 .f32))
      (iblk m c 2 ⟨Value.pt3Of i, h⟩ : Vec F S1024x1536 .bf16) (Value.loc3Of i) := by
  unfold Value.G3
  rw [dif_pos h, ← block m c ⟨Value.pt3Of i, h⟩, ← Value.outsAt0_sweep]

end Cert.ProjIdeal.Pv

end
-- ==== Proof.ProjEq.lean ====
/-
  The in-projection: the kernel's tiled product over the reordered weight columns is the reference's product with its
  columns reordered afterwards.
-/
module

public import proofs.«01_k».proof.Proof.ProjBlock
public import proofs.«01_k».proof.Proof.Gen.ProjRefIdeal.Read
public import proofs.«01_k».proof.Defs
public import Idealize.ShloMosaic.Lib.Quiescent
public import Idealize.ShloMosaic.Lib.Tactic.CleanTypes

@[expose] public section

set_option maxRecDepth 16384

noncomputable section

namespace Cert.Proof.Proj

open Idealize.ShloMosaic Idealize.ShloMosaic.TcCoe Idealize.SL.Sem

/-- Which column of the problem's product stands at column `j` of the kernel's layout. -/
def src (j : Fin 7680) : Fin 7680 :=
  if h : j.val < 1024 then j
  else if h' : j.val < 7168 then ⟨j.val + 512, by omega⟩
  else ⟨j.val - 6144, by omega⟩

end Cert.Proof.Proj

namespace Cert.ProjIdeal.Pv

open Cert.ProjIdeal Cert.ProjIdeal.Gen Idealize.ShloMosaic Idealize.ShloMosaic.TcCoe Idealize.SL.Sem

variable (m : (ℓ : Loc nD τ sig) → Buf (Elt Ideal) ℓ)

/-- The weights' columns in the kernel's order, as the host lays them out. -/
def reordered (w : Vec Ideal S1024x7680 .f32) : Vec Ideal S1024x7680 .bf16 :=
  truncf (F := Ideal) .bf16 (concatenate S1024x7680 1 [
      ⟨S1024x1024, (extractStridedSlice S1024x1024 ![0, 0] w slices_S1024x7680_S1024x1024_0_0 : Vec Ideal S1024x1024 .f32)⟩,
      ⟨S1024x1024, (extractStridedSlice S1024x1024 ![0, 1536] w slices_S1024x7680_S1024x1024_0_1536 : Vec Ideal S1024x1024 .f32)⟩,
      ⟨S1024x1024, (extractStridedSlice S1024x1024 ![0, 2560] w slices_S1024x7680_S1024x1024_0_2560 : Vec Ideal S1024x1024 .f32)⟩,
      ⟨S1024x1024, (extractStridedSlice S1024x1024 ![0, 3584] w slices_S1024x7680_S1024x1024_0_3584 : Vec Ideal S1024x1024 .f32)⟩,
      ⟨S1024x1024, (extractStridedSlice S1024x1024 ![0, 4608] w slices_S1024x7680_S1024x1024_0_4608 : Vec Ideal S1024x1024 .f32)⟩,
      ⟨S1024x1024, (extractStridedSlice S1024x1024 ![0, 5632] w slices_S1024x7680_S1024x1024_0_5632 : Vec Ideal S1024x1024 .f32)⟩,
      ⟨S1024x1024, (extractStridedSlice S1024x1024 ![0, 6656] w slices_S1024x7680_S1024x1024_0_6656 : Vec Ideal S1024x1024 .f32)⟩,
      ⟨S1024x256, (extractStridedSlice S1024x256 ![0, 1024] w slices_S1024x7680_S1024x256_0_1024 : Vec Ideal S1024x256 .f32)⟩,
      ⟨S1024x256, (extractStridedSlice S1024x256 ![0, 1280] w slices_S1024x7680_S1024x256_0_1280 : Vec Ideal S1024x256 .f32)⟩]
    concatenates_S1024x1024_S1024x1024_S1024x1024_S1024x1024_S1024x1024_S1024x1024_S1024x1024_S1024x256_S1024x256_S1024x7680_d1) bitsLt_bf16_f32

/-- The region reads the reordered weights. -/
theorem weights_eq (c : Dev nD) : (V m c main_v10 : Vec Ideal S1024x7680 .bf16)
    = reordered (m ((c : Thread nD τ).loc main_arg2) : Vec Ideal S1024x7680 .f32) := by
  unfold V
  after_results <;> first | rfl | (unfold reordered; rfl)

set_option maxHeartbeats 1000000 in
/-- The reordered weights at an index: column `C` is the problem's column `src C`. -/
theorem weights (c : Dev nD) (k : Fin 1024) (C : Fin 7680) :
    (V m c main_v10 : Vec Ideal S1024x7680 .bf16) (ix2 k C)
      = (m ((c : Thread nD τ).loc main_arg2) : Vec Ideal S1024x7680 .f32) (ix2 k (Cert.Proof.Proj.src C)) := by
  rw [weights_eq]
  generalize (m ((c : Thread nD τ).loc main_arg2) : Vec Ideal S1024x7680 .f32) = w
  have hC := C.isLt
  pointwise [reordered]
  unfold Cert.Proof.Proj.src
  repeat' split
  all_goals first | omega | (refine congrArg (fun q => w (ix2 k q)) (Fin.ext ?_); dsimp only <;> omega)

/-- The gains as the region reads them. -/
theorem gains (c : Dev nD) (k : Fin 1024) :
    (V m c main_v11 : Vec Ideal S1x1024 .f32) (ix2 0 k) = (m ((c : Thread nD τ).loc main_arg1) : Vec Ideal S1024 .f32) (ix1 k) := by
  have e : (V m c main_v11 : Vec Ideal S1x1024 .f32)
      = shapeCast S1x1024 (m ((c : Thread nD τ).loc main_arg1) : Vec Ideal S1024 .f32) shapeCasts_S1024_S1x1024 := by
    unfold V
    after_results <;> rfl
  rw [e]
  pointwise

/-- One element of a block: the normalised row against the weights' column. -/
theorem pay_apply (x : Vec Ideal S512x1024 .f32) (g : Vec Ideal S1x1024 .f32) (w : Vec Ideal S1024x1536 .bf16)
    (r : Fin 512) (l : Fin 1536) :
    k0_pay2 (k0_pay1 x g) w (ix2 r l)
      = ∑ k : Fin 1024, x (ix2 r k) * Ideal.rsqrt (Ideal.div (∑ q : Fin 1024, x (ix2 r q) * x (ix2 r q)) (Ideal.ofBits .f32 0x44800000#32)
          + Ideal.ofBits .f32 0x3727C5AC#32) * g (ix2 0 k) * w (ix2 k l) := by
  pointwise [k0_pay2, k0_pay1]

end Cert.ProjIdeal.Pv

namespace Cert.ProjRefIdeal.Pv

open Cert.ProjRefIdeal Cert.ProjRefIdeal.Gen Cert.ProjRefIdeal.Read Idealize.ShloMosaic Idealize.ShloMosaic.TcCoe Idealize.SL.Sem

set_option maxHeartbeats 1000000 in
/-- The reference reorders the product's columns: column `C` of its result is column `src C` of the product. -/
theorem columns (x : Vec Ideal S16896x1024 .f32) (g : Vec Ideal S1024 .f32) (w : Vec Ideal S1024x7680 .f32)
    (R : Fin 16896) (C : Fin 7680) :
    val_main_v23 (F := Ideal) x g w (ix2 R C) = val_main_v13 (F := Ideal) x g w (ix2 R (Cert.Proof.Proj.src C)) := by
  unfold val_main_v23 val_main_v14 val_main_v15 val_main_v16 val_main_v17 val_main_v18 val_main_v19 val_main_v20 val_main_v21
    val_main_v22
  generalize val_main_v13 (F := Ideal) x g w = y
  have hC := C.isLt
  pointwise
  unfold Cert.Proof.Proj.src
  repeat' split
  all_goals first | omega | (refine congrArg (fun q => y (ix2 R q)) (Fin.ext ?_); dsimp only <;> omega)

/-- One element of the reference's product: the normalised row against the weights' column. -/
theorem product (x : Vec Ideal S16896x1024 .f32) (g : Vec Ideal S1024 .f32) (w : Vec Ideal S1024x7680 .f32)
    (R : Fin 16896) (C : Fin 7680) :
    val_main_v13 (F := Ideal) x g w (ix2 R C)
      = ∑ k : Fin 1024, x (ix2 R k) * Ideal.rsqrt (Ideal.div (∑ q : Fin 1024, x (ix2 R q) * x (ix2 R q)) (Ideal.ofBits .f32 0x44800000#32)
          + Ideal.ofBits .f32 0x3727C5AC#32) * g (ix1 k) * w (ix2 k C) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

end Cert.ProjRefIdeal.Pv

namespace Cert.Proof.Proj

open Cert.ProjIdeal Cert.ProjIdeal.Gen Cert.ProjIdeal.Pv Idealize.ShloMosaic Idealize.ShloMosaic.TcCoe Idealize.SL.Sem

/-- The kernel's result array is the reference's, entry by entry. -/
theorem result_eq (m : (ℓ : Loc nD τ sig) → Buf (Elt Ideal) ℓ) (c : Dev nD) :
    Value.G3 m c = Cert.ProjRefIdeal.Read.val_main_v23 (F := Ideal)
      (m ((c : Thread nD τ).loc main_arg0)) (m ((c : Thread nD τ).loc main_arg1)) (m ((c : Thread nD τ).loc main_arg2)) := by
  funext i
  obtain ⟨R, C, rfl⟩ : ∃ (R : Fin 16896) (C : Fin 7680), i = ix2 R C := ⟨i 0, i 1, eq_ix2 i⟩
  have hR := R.isLt
  have hC := C.isLt
  have hp : Value.pt3Of (ix2 R C) = 5 * (R.val / 512) + C.val / 1536 := by
    show 5 * (R.val / 512 - 0) + 1 * (C.val / 1536 - 0) = _
    omega
  have h : Value.pt3Of (ix2 R C) < cfg0.N := by
    rw [hp]; exact lt_of_lt_of_eq (by omega) N_0.symm
  have hl : Value.loc3Of (ix2 R C) = ix2 (⟨R.val % 512, by omega⟩ : Fin 512) (⟨C.val % 1536, by omega⟩ : Fin 1536) := by
    funext a
    match a with
    | ⟨0, _⟩ => rfl
    | ⟨1, _⟩ => rfl
  rw [Cert.ProjRefIdeal.Pv.columns, Cert.ProjRefIdeal.Pv.product, result_apply m c _ h, hl, pay_apply]
  have ex : ∀ k : Fin 1024, (iblk m c 0 ⟨Value.pt3Of (ix2 R C), h⟩ : Vec Ideal S512x1024 .f32) (ix2 ⟨R.val % 512, by omega⟩ k)
      = (m ((c : Thread nD τ).loc main_arg0) : Vec Ideal S16896x1024 .f32) (ix2 R k) := fun k => by
    rw [iblk_x m c _ _ k R (by dsimp only; rw [hp]; omega), V_main_arg0]
  have ew : ∀ k : Fin 1024, (iblk m c 2 ⟨Value.pt3Of (ix2 R C), h⟩ : Vec Ideal S1024x1536 .bf16) (ix2 k ⟨C.val % 1536, by omega⟩)
      = (m ((c : Thread nD τ).loc main_arg2) : Vec Ideal S1024x7680 .f32) (ix2 k (src C)) := fun k => by
    rw [iblk_w m c _ k _ C (by dsimp only; rw [hp]; omega), weights]
  have eg : ∀ k : Fin 1024, (iblk m c 1 ⟨Value.pt3Of (ix2 R C), h⟩ : Vec Ideal S1x1024 .f32) (ix2 0 k)
      = (m ((c : Thread nD τ).loc main_arg1) : Vec Ideal S1024 .f32) (ix1 k) := fun k => by
    rw [iblk_g m c _ k, gains]
  simp only [ex, ew, eg]

/-- The in-projection's kernel and its reference leave the same result. -/
theorem algebraic : Cert.algebraic_ProjIdeal_ProjRefIdeal := by
  intro m ρ m' ρ' _ hagree
  refine ⟨fun c => Value.G3 m c, Value.run m ρ, ?_⟩
  refine (θ_run Cert.ProjRefIdeal.defs _ _).mono (fun _ h c => ⟨((h c).1.trans ?_), (h c).2⟩)
    (Cert.ProjRefIdeal.Value.run (F := Ideal) m' ρ')
  show _ = Value.G3 m c
  rw [result_eq, Cert.ProjRefIdeal.Read.val_main_v23_eq, (hagree c).1, (hagree c).2.1, (hagree c).2.2]

end Cert.Proof.Proj

end
-- ==== Proof.MergeBlock.lean ====
/-
  The merge: what one grid point of the kernel leaves in its three output blocks, and where its blocks lie in the arrays.
-/
module

public import proofs.«01_k».proof.Proof.Gen.MergeIdeal.Value
public import Idealize.ShloMosaic.Lib.Pointwise
public import Idealize.ShloMosaic.Lib.Tactic

@[expose] public section

set_option maxRecDepth 16384

noncomputable section

namespace Cert.MergeIdeal.Pv

open Cert.MergeIdeal Cert.MergeIdeal.Gen Idealize.ShloMosaic Idealize.ShloMosaic.TcCoe Idealize.SL.Sem

variable {F : FTy → Type} [FloatOps F]
variable (m : (ℓ : Loc nD τ sig) → Buf (Elt F) ℓ)

/-- The two zero offsets of a whole-block access. -/
theorem off0 : (![0, 0] : Fin 2 → Nat) = fun _ => 0 := funext fun a => by fin_cases a <;> rfl

/-- The residual stream's tile at point `t`: the payload of the first store at the point's blocks. -/
def mid (c : Dev nD) (t : Fin cfg0.N) : Vec F S256x1024 .f32 :=
  k0_pay3 (grid0.coords t) (iblk m c 2 t : Vec F S256x1024 .f32) (iblk m c 3 t : Vec F S256x1024 .f32)
    (iblk m c 4 t : Vec F S256x1024 .f32) (iblk m c 5 t : Vec F S256x1024 .f32) (X0_0 m c t) (X0_1 m c t)
    (iblk m c 6 t : Vec F S256x1024 .f32) (iblk m c 7 t : Vec F S1024x1024 .bf16)

set_option maxHeartbeats 1000000 in
/-- What a point leaves in its three output blocks. -/
theorem block (c : Dev nD) (t : Fin cfg0.N) :
    outsAt0 m c t = (mid m c t, k0_pay1 (mid m c t) (iblk m c 8 t : Vec F S1x1024 .f32),
      k0_pay2 (mid m c t) (iblk m c 8 t : Vec F S1x1024 .f32) (iblk m c 9 t : Vec F S1024x128 .bf16) (iblk m c 10 t : Vec F S1x128 .f32)) := by
  unfold outsAt0 mid
  refine Prod.ext ?_ (Prod.ext ?_ ?_)
  · unfold out0_A_11
    rw [View.read_writes_eq_canon _ _ _ (cover0_A_11 c _ _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ _ _ _ _ _ _ _ _ _ _)]
    unfold kernelRun0_A
    dsimp only
    sl_unfold_words
    rw [View.canon_unit_zero off0]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread,
      View.ld_unit_zero (S := S256x1024) off0, View.ld_unit_zero (S := S1024x1024) off0]
  · unfold out0_A_12
    dsimp only
    rw [View.read_writes_eq_canon _ _ _ (cover0_A_12 c _ _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ _ _ _ _ _ _ _ _ _ _)]
    unfold kernelRun0_A
    dsimp only
    sl_unfold_words
    rw [View.canon_unit_zero off0]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      View.ld_unit_zero (S := S256x1024) off0, View.ld_unit_zero (S := S1024x1024) off0, View.ld_unit_zero (S := S1x1024) off0]
  · unfold out0_A_13
    dsimp only
    rw [View.read_writes_eq_canon _ _ _ (cover0_A_13 c _ _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ _ _ _ _ _ _ _ _ _ _)]
    unfold kernelRun0_A
    dsimp only
    sl_unfold_words
    rw [View.canon_unit_zero off0]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      (hs0_9 t).read_unread, (hs0_10 t).read_unread,
      View.ld_unit_zero (S := S256x1024) off0, View.ld_unit_zero (S := S1024x1024) off0, View.ld_unit_zero (S := S1x1024) off0,
      View.ld_unit_zero (S := S1024x128) off0, View.ld_unit_zero (S := S1x128) off0]

/-- The index maps at grid point `t`. -/
theorem maps : ∀ t : Fin cfg0.N,
    (win0_0.index t (0 : Fin 2) = t.val ∧ win0_0.index t (1 : Fin 2) = 5) ∧ (win0_1.index t (0 : Fin 2) = t.val ∧ win0_1.index t (1 : Fin 2) = 6)
    ∧ (win0_2.index t (0 : Fin 2) = min t.val 63 ∧ win0_2.index t (1 : Fin 2) = 0)
    ∧ (win0_3.index t (0 : Fin 2) = t.val - 64 ∧ win0_3.index t (1 : Fin 2) = 0)
    ∧ (win0_4.index t (0 : Fin 2) = min t.val 63 ∧ win0_4.index t (1 : Fin 2) = 0)
    ∧ (win0_5.index t (0 : Fin 2) = t.val - 64 ∧ win0_5.index t (1 : Fin 2) = 0)
    ∧ (win0_6.index t (0 : Fin 2) = t.val ∧ win0_6.index t (1 : Fin 2) = 0) :=
  (by decide +kernel : ∀ t : Fin grid0.N, _)

/-- The constant index maps. -/
theorem maps_const : ∀ t : Fin cfg0.N,
    (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) ∧ (win0_10.index t (0 : Fin 2) = 0 ∧ win0_10.index t (1 : Fin 2) = 0) :=
  (by decide +kernel : ∀ t : Fin grid0.N, _)

/-- The index maps of the three results. -/
theorem maps_out : ∀ t : Fin cfg0.N,
    (win0_11.index t (0 : Fin 2) = t.val ∧ win0_11.index t (1 : Fin 2) = 0) ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Every point writes back. -/
theorem flush_out : ∀ t : Fin cfg0.N, (cfg0.win 11).flush t = true ∧ (cfg0.win 12).flush t = true ∧ (cfg0.win 13).flush t = true :=
  (by decide +kernel : ∀ t : Fin grid0.N, _)

section Reads
variable (c : Dev nD) (t : Fin cfg0.N) (r : Fin 256) (k : Fin 1024)

/-- The first gate's tile: columns 5120 on of the projection. -/
theorem blk_ga (R : Fin 16896) (hR : R.val = 256 * t.val + r.val) :
    X0_0 m c t (ix2 r k) = (V m c main_arg0 : Vec F S16896x7680 .f32) (ix2 R ⟨5120 + k.val, by omega⟩) := by
  obtain ⟨⟨e0, e1⟩, -⟩ := maps t
  unfold X0_0 Pipeline.Window.fill
  rw [dif_pos (moved0_0 t (ix2 r k))]
  unfold iblk
  rw [View.read_apply]
  show V m c main_arg0 _ = V m c main_arg0 _
  refine congrArg (V m c main_arg0) ?_
  funext a
  apply Fin.ext
  match a with
  | ⟨0, _⟩ => show win0_0.index t 0 * 256 + 1 * r.val = R.val; rw [e0, hR]; omega
  | ⟨1, _⟩ => show win0_0.index t 1 * 1024 + 1 * k.val = 5120 + k.val; rw [e1]; omega

/-- The second gate's tile: columns 6144 on of the projection. -/
theorem blk_gb (R : Fin 16896) (hR : R.val = 256 * t.val + r.val) :
    X0_1 m c t (ix2 r k) = (V m c main_arg0 : Vec F S16896x7680 .f32) (ix2 R ⟨6144 + k.val, by omega⟩) := by
  obtain ⟨-, ⟨e0, e1⟩, -⟩ := maps t
  unfold X0_1 Pipeline.Window.fill
  rw [dif_pos (moved0_1 t (ix2 r k))]
  unfold iblk
  rw [View.read_apply]
  show V m c main_arg0 _ = V m c main_arg0 _
  refine congrArg (V m c main_arg0) ?_
  funext a
  apply Fin.ext
  match a with
  | ⟨0, _⟩ => show win0_1.index t 0 * 256 + 1 * r.val = R.val; rw [e0, hR]; omega
  | ⟨1, _⟩ => show win0_1.index t 1 * 1024 + 1 * k.val = 6144 + k.val; rw [e1]; omega

/-- The prompt's attention tile, at a prompt point. -/
theorem blk_ap (ht : t.val < 64) (R : Fin 16384) (hR : R.val = 256 * t.val + r.val) :
    (iblk m c 2 t : Vec F S256x1024 .f32) (ix2 r k) = (V m c main_arg1 : Vec F S16384x1024 .f32) (ix2 R k) := by
  obtain ⟨-, -, ⟨e0, e1⟩, -⟩ := maps t
  unfold iblk
  rw [View.read_apply]
  show V m c main_arg1 _ = V m c main_arg1 _
  refine congrArg (V m c main_arg1) ?_
  funext a
  apply Fin.ext
  match a with
  | ⟨0, _⟩ => show win0_2.index t 0 * 256 + 1 * r.val = R.val; rw [e0, hR]; omega
  | ⟨1, _⟩ => show win0_2.index t 1 * 1024 + 1 * k.val = k.val; rw [e1]; omega

/-- The samples' attention tile, at a sample point. -/
theorem blk_as (ht : 64 ≤ t.val) (R : Fin 512) (hR : R.val = 256 * (t.val - 64) + r.val) :
    (iblk m c 3 t : Vec F S256x1024 .f32) (ix2 r k) = (V m c main_arg2 : Vec F S512x1024 .f32) (ix2 R k) := by
  obtain ⟨-, -, -, ⟨e0, e1⟩, -⟩ := maps t
  unfold iblk
  rw [View.read_apply]
  show V m c main_arg2 _ = V m c main_arg2 _
  refine congrArg (V m c main_arg2) ?_
  funext a
  apply Fin.ext
  match a with
  | ⟨0, _⟩ => show win0_3.index t 0 * 256 + 1 * r.val = R.val; rw [e0, hR]; omega
  | ⟨1, _⟩ => show win0_3.index t 1 * 1024 + 1 * k.val = k.val; rw [e1]; omega

/-- The prompt's recurrence tile, at a prompt point. -/
theorem blk_bp (ht : t.val < 64) (R : Fin 16384) (hR : R.val = 256 * t.val + r.val) :
    (iblk m c 4 t : Vec F S256x1024 .f32) (ix2 r k) = (V m c main_arg3 : Vec F S16384x1024 .f32) (ix2 R k) := by
  obtain ⟨-, -, -, -, ⟨e0, e1⟩, -⟩ := maps t
  unfold iblk
  rw [View.read_apply]
  show V m c main_arg3 _ = V m c main_arg3 _
  refine congrArg (V m c main_arg3) ?_
  funext a
  apply Fin.ext
  match a with
  | ⟨0, _⟩ => show win0_4.index t 0 * 256 + 1 * r.val = R.val; rw [e0, hR]; omega
  | ⟨1, _⟩ => show win0_4.index t 1 * 1024 + 1 * k.val = k.val; rw [e1]; omega

/-- The samples' recurrence tile, at a sample point. -/
theorem blk_bs (ht : 64 ≤ t.val) (R : Fin 512) (hR : R.val = 256 * (t.val - 64) + r.val) :
    (iblk m c 5 t : Vec F S256x1024 .f32) (ix2 r k) = (V m c main_arg4 : Vec F S512x1024 .f32) (ix2 R k) := by
  obtain ⟨-, -, -, -, -, ⟨e0, e1⟩, -⟩ := maps t
  unfold iblk
  rw [View.read_apply]
  show V m c main_arg4 _ = V m c main_arg4 _
  refine congrArg (V m c main_arg4) ?_
  funext a
  apply Fin.ext
  match a with
  | ⟨0, _⟩ => show win0_5.index t 0 * 256 + 1 * r.val = R.val; rw [e0, hR]; omega
  | ⟨1, _⟩ => show win0_5.index t 1 * 1024 + 1 * k.val = k.val; rw [e1]; omega

/-- The residual stream's tile. -/
theorem blk_x (R : Fin 16896) (hR : R.val = 256 * t.val + r.val) :
    (iblk m c 6 t : Vec F S256x1024 .f32) (ix2 r k) = (V m c main_arg5 : Vec F S16896x1024 .f32) (ix2 R k) := by
  obtain ⟨-, -, -, -, -, -, ⟨e0, e1⟩⟩ := maps t
  unfold iblk
  rw [View.read_apply]
  show V m c main_arg5 _ = V m c main_arg5 _
  refine congrArg (V m c main_arg5) ?_
  funext a
  apply Fin.ext
  match a with
  | ⟨0, _⟩ => show win0_6.index t 0 * 256 + 1 * r.val = R.val; rw [e0, hR]; omega
  | ⟨1, _⟩ => show win0_6.index t 1 * 1024 + 1 * k.val = k.val; rw [e1]; omega

/-- The projection's weights, the same at every point. -/
theorem blk_wo (l : Fin 1024) :
    (iblk m c 7 t : Vec F S1024x1024 .bf16) (ix2 k l) = (V m c main_v0 : Vec F S1024x1024 .bf16) (ix2 k l) := by
  obtain ⟨⟨e0, e1⟩, -⟩ := maps_const t
  unfold iblk
  rw [View.read_apply]
  show V m c main_v0 _ = V m c main_v0 _
  refine congrArg (V m c main_v0) ?_
  funext a
  apply Fin.ext
  match a with
  | ⟨0, _⟩ => show win0_7.index t 0 * 1024 + 1 * k.val = k.val; rw [e0]; omega
  | ⟨1, _⟩ => show win0_7.index t 1 * 1024 + 1 * l.val = l.val; rw [e1]; omega

/-- The norm's gains. -/
theorem blk_g : (iblk m c 8 t : Vec F S1x1024 .f32) (ix2 0 k) = (V m c main_v5 : Vec F S1x1024 .f32) (ix2 0 k) := by
  obtain ⟨-, ⟨e0, e1⟩, -⟩ := maps_const t
  unfold iblk
  rw [View.read_apply]
  show V m c main_v5 _ = V m c main_v5 _
  refine congrArg (V m c main_v5) ?_
  funext a
  apply Fin.ext
  match a with
  | ⟨0, _⟩ => show win0_8.index t 0 * 1 + 1 * 0 = 0; rw [e0]
  | ⟨1, _⟩ => show win0_8.index t 1 * 1024 + 1 * k.val = k.val; rw [e1]; omega

/-- The router's weights. -/
theorem blk_wr (l : Fin 128) :
    (iblk m c 9 t : Vec F S1024x128 .bf16) (ix2 k l) = (V m c main_v2 : Vec F S1024x128 .bf16) (ix2 k l) := by
  obtain ⟨-, -, ⟨e0, e1⟩, -⟩ := maps_const t
  unfold iblk
  rw [View.read_apply]
  show V m c main_v2 _ = V m c main_v2 _
  refine congrArg (V m c main_v2) ?_
  funext a
  apply Fin.ext
  match a with
  | ⟨0, _⟩ => show win0_9.index t 0 * 1024 + 1 * k.val = k.val; rw [e0]; omega
  | ⟨1, _⟩ => show win0_9.index t 1 * 128 + 1 * l.val = l.val; rw [e1]; omega

/-- The router's bias. -/
theorem blk_br (l : Fin 128) : (iblk m c 10 t : Vec F S1x128 .f32) (ix2 0 l) = (V m c main_v4 : Vec F S1x128 .f32) (ix2 0 l) := by
  obtain ⟨-, -, -, ⟨e0, e1⟩⟩ := maps_const t
  unfold iblk
  rw [View.read_apply]
  show V m c main_v4 _ = V m c main_v4 _
  refine congrArg (V m c main_v4) ?_
  funext a
  apply Fin.ext
  match a with
  | ⟨0, _⟩ => show win0_10.index t 0 * 1 + 1 * 0 = 0; rw [e0]
  | ⟨1, _⟩ => show win0_10.index t 1 * 128 + 1 * l.val = l.val; rw [e1]; omega

/-- The new residual stream at an index. -/
theorem mid_at (R : Fin 16896) (hR : R.val = 256 * t.val + r.val) :
    ((dats m 0 c).arrAt 11 cfg0.N : Vec F S16896x1024 .f32) (ix2 R k) = mid m c t (ix2 r k) := by
  have e := (dats m 0 c).arrAt_emb_eq_flushed 11 (fun t t' hf hf' h => Value.disjoint11 t t' hf hf' h) t (flush_out t).1 (ix2 r k)
  have hp : ((cfg0.win 11).blk t).view.emb (ix2 r k) = (ix2 R k : S16896x1024.Idx) := by
    funext a
    apply Fin.ext
    match a with
    | ⟨0, _⟩ => show win0_11.index t 0 * 256 + 1 * r.val = R.val; rw [(maps_out t).1.1, hR]; omega
    | ⟨1, _⟩ => show win0_11.index t 1 * 1024 + 1 * k.val = k.val; rw [(maps_out t).1.2]; omega
  rw [hp] at e
  refine e.trans ?_
  rw [Value.flushed11, block]
  rfl

/-- The normalised rows at an index. -/
theorem normed_at (R : Fin 16896) (hR : R.val = 256 * t.val + r.val) :
    ((dats m 0 c).arrAt 12 cfg0.N : Vec F S16896x1024 .f32) (ix2 R k)
      = k0_pay1 (mid m c t) (iblk m c 8 t : Vec F S1x1024 .f32) (ix2 r k) := by
  have e := (dats m 0 c).arrAt_emb_eq_flushed 12 (fun t t' hf hf' h => Value.disjoint12 t t' hf hf' h) t (flush_out t).2.1 (ix2 r k)
  have hp : ((cfg0.win 12).blk t).view.emb (ix2 r k) = (ix2 R k : S16896x1024.Idx) := by
    funext a
    apply Fin.ext
    match a with
    | ⟨0, _⟩ => show win0_12.index t 0 * 256 + 1 * r.val = R.val; rw [(maps_out t).2.1.1, hR]; omega
    | ⟨1, _⟩ => show win0_12.index t 1 * 1024 + 1 * k.val = k.val; rw [(maps_out t).2.1.2]; omega
  rw [hp] at e
  refine e.trans ?_
  rw [Value.flushed12, block]
  rfl

/-- The router's logits at an index. -/
theorem logits_at (l : Fin 128) (R : Fin 16896) (hR : R.val = 256 * t.val + r.val) :
    ((dats m 0 c).arrAt 13 cfg0.N : Vec F S16896x128 .f32) (ix2 R l)
      = k0_pay2 (mid m c t) (iblk m c 8 t : Vec F S1x1024 .f32) (iblk m c 9 t : Vec F S1024x128 .bf16) (iblk m c 10 t : Vec F S1x128 .f32) (ix2 r l) := by
  have e := (dats m 0 c).arrAt_emb_eq_flushed 13 (fun t t' hf hf' h => Value.disjoint13 t t' hf hf' h) t (flush_out t).2.2 (ix2 r l)
  have hp : ((cfg0.win 13).blk t).view.emb (ix2 r l) = (ix2 R l : S16896x128.Idx) := by
    funext a
    apply Fin.ext
    match a with
    | ⟨0, _⟩ => show win0_13.index t 0 * 256 + 1 * r.val = R.val; rw [(maps_out t).2.2.1, hR]; omega
    | ⟨1, _⟩ => show win0_13.index t 1 * 128 + 1 * l.val = l.val; rw [(maps_out t).2.2.2]; omega
  rw [hp] at e
  refine e.trans ?_
  rw [Value.flushed13, block]
  rfl

end Reads

end Cert.MergeIdeal.Pv

end
-- ==== Proof.MergeEq.lean ====
/-
  The merge: the kernel's three results are the reference's, entry by entry.
-/
module

public import proofs.«01_k».proof.Proof.MergeBlock
public import proofs.«01_k».proof.Proof.Gen.MergeRefIdeal.Read
public import proofs.«01_k».proof.Defs
public import Idealize.ShloMosaic.Lib.Quiescent
public import Idealize.ShloMosaic.Lib.Tactic.CleanTypes

@[expose] public section

set_option maxRecDepth 16384

noncomputable section

namespace Cert.Proof.Merge

open Idealize.ShloMosaic

/-- The gate function as both programs write it. -/
def gate (x : EReal) : EReal :=
  Ideal.div 1 (1 + Ideal.exp (-x))

/-- The scale of a row from the sum of its squares. -/
def scale (s : EReal) : EReal := Ideal.rsqrt (Ideal.div s (Ideal.ofBits .f32 0x44800000#32) + Ideal.ofBits .f32 0x3727C5AC#32)

end Cert.Proof.Merge

namespace Cert.MergeIdeal.Pv

open Cert.MergeIdeal Cert.MergeIdeal.Gen Idealize.ShloMosaic Idealize.ShloMosaic.TcCoe Idealize.SL.Sem
open Cert.Proof.Merge

variable (m : (ℓ : Loc nD τ sig) → Buf (Elt Ideal) ℓ)

/-- The first coordinate of a grid point is its number. -/
theorem coord : ∀ t : Fin cfg0.N, ((grid0.coords t) 0).val = t.val := (by decide +kernel : ∀ t : Fin grid0.N, _)

/-- The branch word: the point stands before the samples' points. -/
theorem word (t : Fin cfg0.N) : Scalar.cmpi .slt (BitVec.ofNat 32 ((grid0.coords t) 0).val) 64#32 = if t.val < 64 then 1#1 else 0#1 := by
  rw [coord]
  revert t
  exact (by decide +kernel : ∀ t : Fin grid0.N, Scalar.cmpi .slt (BitVec.ofNat 32 t.val) 64#32 = if t.val < 64 then 1#1 else 0#1)

/-- One element of the first store: the residual entry plus the gated branches' row against the weights' column. -/
theorem pay3_apply (t : Fin cfg0.N) (v1 v2 v4 v5 v7 v16 v26 : Vec Ideal S256x1024 .f32) (w : Vec Ideal S1024x1024 .bf16) (r : Fin 256) (l : Fin 1024) :
    k0_pay3 (grid0.coords t) v1 v2 v4 v5 v7 v16 v26 w (ix2 r l)
      = v26 (ix2 r l) + ∑ k : Fin 1024, (gate (v7 (ix2 r k)) * (if t.val < 64 then v1 else v2) (ix2 r k)
          + gate (v16 (ix2 r k)) * (if t.val < 64 then v4 else v5) (ix2 r k)) * w (ix2 k l) := by
  unfold k0_pay3
  dsimp only
  rw [word]
  have e : ∀ (a b : Vec Ideal S256x1024 .f32), Scalar.select (if t.val < 64 then 1#1 else 0#1) a b = if t.val < 64 then a else b := by
    intro a b; split <;> rfl
  rw [e, e]
  generalize (if t.val < 64 then v1 else v2) = a
  generalize (if t.val < 64 then v4 else v5) = b
  pointwise
  unfold gate
  simp only [zero_sub]

/-- One element of the second store: the row normalised. -/
theorem pay1_apply (x : Vec Ideal S256x1024 .f32) (g : Vec Ideal S1x1024 .f32) (r : Fin 256) (l : Fin 1024) :
    k0_pay1 x g (ix2 r l) = x (ix2 r l) * scale (∑ q : Fin 1024, x (ix2 r q) * x (ix2 r q)) * g (ix2 0 l) := by
  unfold scale
  pointwise [k0_pay1]

/-- One element of the third store: the normalised row against the router's column, and its bias. -/
theorem pay2_apply (x : Vec Ideal S256x1024 .f32) (g : Vec Ideal S1x1024 .f32) (w : Vec Ideal S1024x128 .bf16) (b : Vec Ideal S1x128 .f32)
    (r : Fin 256) (l : Fin 128) :
    k0_pay2 x g w b (ix2 r l) = (∑ k : Fin 1024, k0_pay1 x g (ix2 r k) * w (ix2 k l)) + b (ix2 0 l) := by
  unfold k0_pay2
  generalize k0_pay1 x g = h
  pointwise

/-- The projection's weights as the region reads them. -/
theorem wo (c : Dev nD) (k l : Fin 1024) :
    (V m c main_v0 : Vec Ideal S1024x1024 .bf16) (ix2 k l) = (m ((c : Thread nD τ).loc main_arg6) : Vec Ideal S1024x1024 .f32) (ix2 k l) := by
  have e : (V m c main_v0 : Vec Ideal S1024x1024 .bf16)
      = truncf (F := Ideal) .bf16 (m ((c : Thread nD τ).loc main_arg6) : Vec Ideal S1024x1024 .f32) bitsLt_bf16_f32 := by
    unfold V
    simp only [hostOps0, hostOps0_1, hostOps0_2, hostOps0_3, hostOps0_4, List.flatten_cons, List.flatten_nil, List.append_nil, List.cons_append, List.nil_append]
    after_results <;> rfl
  rw [e]
  pointwise

/-- The gains as the region reads them. -/
theorem gains (c : Dev nD) (k : Fin 1024) :
    (V m c main_v5 : Vec Ideal S1x1024 .f32) (ix2 0 k) = (m ((c : Thread nD τ).loc main_arg7) : Vec Ideal S1024 .f32) (ix1 k) := by
  have e : (V m c main_v5 : Vec Ideal S1x1024 .f32)
      = shapeCast S1x1024 (m ((c : Thread nD τ).loc main_arg7) : Vec Ideal S1024 .f32) shapeCasts_S1024_S1x1024 := by
    unfold V
    simp only [hostOps0, hostOps0_1, hostOps0_2, hostOps0_3, hostOps0_4, List.flatten_cons, List.flatten_nil, List.append_nil, List.cons_append, List.nil_append]
    after_results <;> rfl
  rw [e]
  pointwise

/-- The zero the paddings use. -/
def zeroS : Vec Ideal S_ .f32 := sitofp (F := Ideal) .f32 (constantI S_ 32 0#32)

/-- The router's weights padded with zero columns. -/
def wrPad (w : Vec Ideal S1024x32 .f32) : Vec Ideal S1024x128 .bf16 :=
  truncf (F := Ideal) .bf16 (pad S1024x128 ![0, 0] ![0, 96] ![0, 0] w zeroS pads_S1024x32_S1024x128_000_0960 h_S_ : Vec Ideal S1024x128 .f32) bitsLt_bf16_f32

/-- The router's bias padded with zeros. -/
def brPad (b : Vec Ideal S32 .f32) : Vec Ideal S1x128 .f32 :=
  shapeCast S1x128 (pad S128 ![0] ![96] ![0] b zeroS pads_S32_S128_0960 h_S_ : Vec Ideal S128 .f32) shapeCasts_S128_S1x128

/-- The region reads the padded weights. -/
theorem wr_eq (c : Dev nD) : (V m c main_v2 : Vec Ideal S1024x128 .bf16) = wrPad (m ((c : Thread nD τ).loc main_arg8) : Vec Ideal S1024x32 .f32) := by
  unfold V
  simp only [hostOps0, hostOps0_1, hostOps0_2, hostOps0_3, hostOps0_4, List.flatten_cons, List.flatten_nil, List.append_nil, List.cons_append, List.nil_append]
  after_results <;> first | rfl | (unfold wrPad zeroS; rfl)

/-- The region reads the padded bias. -/
theorem br_eq (c : Dev nD) : (V m c main_v4 : Vec Ideal S1x128 .f32) = brPad (m ((c : Thread nD τ).loc main_arg9) : Vec Ideal S32 .f32) := by
  unfold V
  simp only [hostOps0, hostOps0_1, hostOps0_2, hostOps0_3, hostOps0_4, List.flatten_cons, List.flatten_nil, List.append_nil, List.cons_append, List.nil_append]
  after_results <;> first | rfl | (unfold brPad zeroS; rfl)

/-- The padding's value. -/
theorem zeroS_apply (i : S_.Idx) : zeroS i = 0 := by
  show ((((0#32 : BitVec 32).toInt : ℤ) : ℝ) : EReal) = 0
  simp

/-- A padded weight. -/
theorem wrPad_apply (w : Vec Ideal S1024x32 .f32) (k : Fin 1024) (l : Fin 128) :
    wrPad w (ix2 k l) = if h : l.val < 32 then w (ix2 k ⟨l.val, h⟩) else 0 := by
  pointwise [wrPad]
  rw [zeroS_apply]

/-- A padded bias. -/
theorem brPad_apply (b : Vec Ideal S32 .f32) (l : Fin 128) :
    brPad b (ix2 0 l) = if h : l.val < 32 then b (ix1 ⟨l.val, h⟩) else 0 := by
  pointwise [brPad]
  rw [zeroS_apply]

end Cert.MergeIdeal.Pv

namespace Cert.MergeRefIdeal.Pv

open Cert.MergeRefIdeal Cert.MergeRefIdeal.Gen Cert.MergeRefIdeal.Read Idealize.ShloMosaic Idealize.ShloMosaic.TcCoe Idealize.SL.Sem
open Cert.Proof.Merge

variable (x0 : Vec Ideal S16896x7680 .f32) (x1 : Vec Ideal S16384x1024 .f32) (x2 : Vec Ideal S512x1024 .f32)
  (x3 : Vec Ideal S16384x1024 .f32) (x4 : Vec Ideal S512x1024 .f32) (x5 : Vec Ideal S16896x1024 .f32) (x6 : Vec Ideal S1024x1024 .f32)
  (x7 : Vec Ideal S1024 .f32) (x8 : Vec Ideal S1024x32 .f32) (x9 : Vec Ideal S32 .f32)

/-- The two groups' rows one after the other, read in the prompt's part. -/
theorem join_prompt (a : Vec Ideal S16384x1024 .f32) (b : Vec Ideal S512x1024 .f32) (R : Fin 16896) (k : Fin 1024) (h : R.val < 16384) :
    val_main_v2 (F := Ideal) a b (ix2 R k) = a (ix2 ⟨R.val, h⟩ k) := by
  pointwise [val_main_v2]
  rw [dif_pos h]

/-- The same in the samples' part. -/
theorem join_sample (a : Vec Ideal S16384x1024 .f32) (b : Vec Ideal S512x1024 .f32) (R : Fin 16896) (k : Fin 1024) (h : ¬ R.val < 16384) :
    val_main_v2 (F := Ideal) a b (ix2 R k) = b (ix2 ⟨R.val - 16384, by omega⟩ k) := by
  pointwise [val_main_v2]
  rw [dif_neg h]

/-- The gated sum of the branches. -/
theorem merged_apply (R : Fin 16896) (k : Fin 1024) :
    val_main_v18 (F := Ideal) x0 x1 x2 x3 x4 (ix2 R k)
      = gate (x0 (ix2 R ⟨5120 + k.val, by omega⟩)) * val_main_v2 (F := Ideal) x1 x2 (ix2 R k)
        + gate (x0 (ix2 R ⟨6144 + k.val, by omega⟩)) * val_main_v2 (F := Ideal) x3 x4 (ix2 R k) := by
  unfold val_main_v18 val_main_v17 val_main_v10
  have e : val_main_v3 (F := Ideal) x3 x4 = val_main_v2 (F := Ideal) x3 x4 := rfl
  rw [e]
  generalize val_main_v2 (F := Ideal) x1 x2 = a
  generalize val_main_v2 (F := Ideal) x3 x4 = b
  unfold gate
  pointwise [val_main_v0, val_main_v1, val_main_v4, val_main_v5, val_main_v6, val_main_v7, val_main_v8, val_main_v9, val_main_v11,
    val_main_v12, val_main_v13, val_main_v14, val_main_v15, val_main_v16, val_main_cst, val_main_cst_0, val_main_cst_1, val_main_cst_2]

/-- The residual stream. -/
theorem mid_apply (R : Fin 16896) (l : Fin 1024) :
    val_main_v20 (F := Ideal) x0 x1 x2 x3 x4 x5 x6 (ix2 R l)
      = x5 (ix2 R l) + ∑ k : Fin 1024, val_main_v18 (F := Ideal) x0 x1 x2 x3 x4 (ix2 R k) * x6 (ix2 k l) := by
  unfold val_main_v20 val_main_v19
  generalize val_main_v18 (F := Ideal) x0 x1 x2 x3 x4 = y
  pointwise

/-- The normalised rows. -/
theorem normed_apply (R : Fin 16896) (l : Fin 1024) :
    val_main_v33 (F := Ideal) x0 x1 x2 x3 x4 x5 x6 x7 (ix2 R l)
      = val_main_v20 (F := Ideal) x0 x1 x2 x3 x4 x5 x6 (ix2 R l)
        * scale (∑ q : Fin 1024, val_main_v20 (F := Ideal) x0 x1 x2 x3 x4 x5 x6 (ix2 R q) * val_main_v20 (F := Ideal) x0 x1 x2 x3 x4 x5 x6 (ix2 R q))
        * x7 (ix1 l) := by
  unfold val_main_v33 val_main_v30 val_main_v29 val_main_v28 val_main_v27 val_main_v25 val_main_v23 val_main_v22 val_main_v21
  generalize val_main_v20 (F := Ideal) x0 x1 x2 x3 x4 x5 x6 = y
  unfold scale
  pointwise [val_main_v24, val_main_v26, val_main_v31, val_main_v32, val_main_cst_3, val_main_cst_4, val_main_cst_5]

/-- The padded logits. -/
theorem logits_apply (R : Fin 16896) (l : Fin 128) :
    val_main_v38 (F := Ideal) x0 x1 x2 x3 x4 x5 x6 x7 x8 x9 (ix2 R l)
      = if h : l.val < 32 then (∑ k : Fin 1024, val_main_v33 (F := Ideal) x0 x1 x2 x3 x4 x5 x6 x7 (ix2 R k) * x8 (ix2 k ⟨l.val, h⟩)) + x9 (ix1 ⟨l.val, h⟩)
        else 0 := by
  unfold val_main_v38 val_main_v37 val_main_v34
  generalize val_main_v33 (F := Ideal) x0 x1 x2 x3 x4 x5 x6 x7 = y
  pointwise [val_main_v35, val_main_v36]
  have e : ∀ i, val_main_call0_v0 (F := Ideal) i = 0 := fun i => by
    show ((((0#32 : BitVec 32).toInt : ℤ) : ℝ) : EReal) = 0
    simp
  rw [e]

end Cert.MergeRefIdeal.Pv

namespace Cert.Proof.Merge

open Cert.MergeIdeal Cert.MergeIdeal.Gen Cert.MergeIdeal.Pv Idealize.ShloMosaic Idealize.ShloMosaic.TcCoe Idealize.SL.Sem

variable (m : (ℓ : Loc nD τ sig) → Buf (Elt Ideal) ℓ)

/-- The reference's residual stream at the kernel's arguments. -/
abbrev refMid (c : Dev nD) : Vec Ideal S16896x1024 .f32 :=
  Cert.MergeRefIdeal.Read.val_main_v20 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The reference's normalised rows at the kernel's arguments. -/
abbrev refNormed (c : Dev nD) : Vec Ideal S16896x1024 .f32 :=
  Cert.MergeRefIdeal.Read.val_main_v33 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The reference's logits at the kernel's arguments. -/
abbrev refLogits (c : Dev nD) : Vec Ideal S16896x128 .f32 :=
  Cert.MergeRefIdeal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- A branch's tile at a point is the joined rows' tile. -/
theorem branch_a (c : Dev nD) (t : Fin cfg0.N) (r : Fin 256) (k : Fin 1024) (R : Fin 16896) (hR : R.val = 256 * t.val + r.val) :
    (if t.val < 64 then (iblk m c 2 t : Vec Ideal S256x1024 .f32) else (iblk m c 3 t : Vec Ideal S256x1024 .f32)) (ix2 r k)
      = Cert.MergeRefIdeal.Read.val_main_v2 (F := Ideal) (m ((c : Thread nD τ).loc main_arg1)) (m ((c : Thread nD τ).loc main_arg2)) (ix2 R k) := by
  have hr := r.isLt
  by_cases h : t.val < 64
  · have h' : R.val < 16384 := by omega
    rw [if_pos h, Cert.MergeRefIdeal.Pv.join_prompt _ _ R k h', blk_ap m c t r k h ⟨R.val, h'⟩ hR, V_main_arg1]
  · have h' : ¬ R.val < 16384 := by omega
    rw [if_neg h, Cert.MergeRefIdeal.Pv.join_sample _ _ R k h', blk_as m c t r k (by omega) ⟨R.val - 16384, by omega⟩ (by dsimp only; omega), V_main_arg2]

/-- The other branch's. -/
theorem branch_b (c : Dev nD) (t : Fin cfg0.N) (r : Fin 256) (k : Fin 1024) (R : Fin 16896) (hR : R.val = 256 * t.val + r.val) :
    (if t.val < 64 then (iblk m c 4 t : Vec Ideal S256x1024 .f32) else (iblk m c 5 t : Vec Ideal S256x1024 .f32)) (ix2 r k)
      = Cert.MergeRefIdeal.Read.val_main_v2 (F := Ideal) (m ((c : Thread nD τ).loc main_arg3)) (m ((c : Thread nD τ).loc main_arg4)) (ix2 R k) := by
  have hr := r.isLt
  by_cases h : t.val < 64
  · have h' : R.val < 16384 := by omega
    rw [if_pos h, Cert.MergeRefIdeal.Pv.join_prompt _ _ R k h', blk_bp m c t r k h ⟨R.val, h'⟩ hR, V_main_arg3]
  · have h' : ¬ R.val < 16384 := by omega
    rw [if_neg h, Cert.MergeRefIdeal.Pv.join_sample _ _ R k h', blk_bs m c t r k (by omega) ⟨R.val - 16384, by omega⟩ (by dsimp only; omega), V_main_arg4]

/-- The kernel's residual tile is the reference's. -/
theorem mid_tile (c : Dev nD) (t : Fin cfg0.N) (r : Fin 256) (l : Fin 1024) (R : Fin 16896) (hR : R.val = 256 * t.val + r.val) :
    mid m c t (ix2 r l) = refMid m c (ix2 R l) := by
  unfold mid refMid
  rw [pay3_apply, Cert.MergeRefIdeal.Pv.mid_apply, blk_x m c t r l R hR, V_main_arg5]
  refine congrArg₂ (fun y z : EReal => y + z) rfl (Finset.sum_congr rfl fun k _ => ?_)
  rw [branch_a m c t r k R hR, branch_b m c t r k R hR, blk_ga m c t r k R hR, blk_gb m c t r k R hR, V_main_arg0, blk_wo m c t k l, wo,
    Cert.MergeRefIdeal.Pv.merged_apply]

/-- The kernel's normalised tile is the reference's. -/
theorem normed_tile (c : Dev nD) (t : Fin cfg0.N) (r : Fin 256) (l : Fin 1024) (R : Fin 16896) (hR : R.val = 256 * t.val + r.val) :
    k0_pay1 (mid m c t) (iblk m c 8 t : Vec Ideal S1x1024 .f32) (ix2 r l) = refNormed m c (ix2 R l) := by
  unfold refNormed
  rw [pay1_apply, Cert.MergeRefIdeal.Pv.normed_apply, blk_g m c t l, gains]
  simp only [fun q => mid_tile m c t r q R hR]

/-- The kernel's logits are the reference's. -/
theorem logits_tile (c : Dev nD) (t : Fin cfg0.N) (r : Fin 256) (l : Fin 128) (R : Fin 16896) (hR : R.val = 256 * t.val + r.val) :
    k0_pay2 (mid m c t) (iblk m c 8 t : Vec Ideal S1x1024 .f32) (iblk m c 9 t : Vec Ideal S1024x128 .bf16) (iblk m c 10 t : Vec Ideal S1x128 .f32) (ix2 r l)
      = refLogits m c (ix2 R l) := by
  unfold refLogits
  rw [pay2_apply, Cert.MergeRefIdeal.Pv.logits_apply, blk_br m c t l, br_eq, brPad_apply]
  have e : ∀ k : Fin 1024, (iblk m c 9 t : Vec Ideal S1024x128 .bf16) (ix2 k l)
      = wrPad (m ((c : Thread nD τ).loc main_arg8) : Vec Ideal S1024x32 .f32) (ix2 k l) := fun k => by
    rw [blk_wr m c t k l, wr_eq]
  simp only [fun q => normed_tile m c t r q R hR, e, wrPad_apply]
  by_cases h : l.val < 32
  · simp only [dif_pos h]
  · simp only [dif_neg h, mul_zero, Finset.sum_const_zero, add_zero]

/-- Every row of the arrays is some point's row. -/
theorem row (R : Fin 16896) : ∃ (t : Fin cfg0.N) (r : Fin 256), R.val = 256 * t.val + r.val :=
  ⟨⟨R.val / 256, lt_of_lt_of_eq (by omega) N_0.symm⟩, ⟨R.val % 256, by omega⟩, by dsimp only; omega⟩

/-- The kernel's three result arrays are the reference's. -/
theorem result_eq (c : Dev nD) :
    ((dats m 0 c).arrAt 11 cfg0.N : Vec Ideal S16896x1024 .f32) = refMid m c
      ∧ ((dats m 0 c).arrAt 12 cfg0.N : Vec Ideal S16896x1024 .f32) = refNormed m c
      ∧ ((dats m 0 c).arrAt 13 cfg0.N : Vec Ideal S16896x128 .f32) = refLogits m c := by
  refine ⟨funext fun (i : S16896x1024.Idx) => ?_, funext fun (i : S16896x1024.Idx) => ?_, funext fun (i : S16896x128.Idx) => ?_⟩
  · obtain ⟨R, l, rfl⟩ : ∃ (R : Fin 16896) (l : Fin 1024), i = ix2 R l := ⟨i 0, i 1, eq_ix2 i⟩
    obtain ⟨t, r, hR⟩ := row R
    rw [mid_at m c t r l R hR, mid_tile m c t r l R hR]
  · obtain ⟨R, l, rfl⟩ : ∃ (R : Fin 16896) (l : Fin 1024), i = ix2 R l := ⟨i 0, i 1, eq_ix2 i⟩
    obtain ⟨t, r, hR⟩ := row R
    rw [normed_at m c t r l R hR, normed_tile m c t r l R hR]
  · obtain ⟨R, l, rfl⟩ : ∃ (R : Fin 16896) (l : Fin 128), i = ix2 R l := ⟨i 0, i 1, eq_ix2 i⟩
    obtain ⟨t, r, hR⟩ := row R
    rw [logits_at m c t r l R hR, logits_tile m c t r l R hR]

/-- The merge's kernel and its reference leave the same results. -/
theorem algebraic : Cert.algebraic_MergeIdeal_MergeRefIdeal := by
  intro m ρ m' ρ' _ hagree
  refine ⟨fun c => (dats m 0 c).arrAt 11 cfg0.N, fun c => (dats m 0 c).arrAt 12 cfg0.N, fun c => (dats m 0 c).arrAt 13 cfg0.N,
    Value.run_blocks m ρ, ?_⟩
  refine (θ_run Cert.MergeRefIdeal.defs _ _).mono
    (fun _ h c => ⟨((h c).1.trans ?_), ((h c).2.1.trans ?_), ((h c).2.2.1.trans ?_), (h c).2.2.2⟩)
    (Cert.MergeRefIdeal.Value.run (F := Ideal) m' ρ')
  all_goals obtain ⟨a0, a1, a2, a3, a4, a5, a6, a7, a8, a9⟩ := hagree c
  · rw [Cert.MergeRefIdeal.Read.val_main_v20_eq, a0, a1, a2, a3, a4, a5, a6]
    exact (result_eq m c).1.symm
  · rw [Cert.MergeRefIdeal.Read.val_main_v33_eq, a0, a1, a2, a3, a4, a5, a6, a7]
    exact (result_eq m c).2.1.symm
  · rw [Cert.MergeRefIdeal.Read.val_main_v38_eq, a0, a1, a2, a3, a4, a5, a6, a7, a8, a9]
    exact (result_eq m c).2.2.symm

end Cert.Proof.Merge

end
-- ==== Proof.ExpertRun.lean ====
/- What the launch of the experts' call needs before its body runs: the arrays the region finds, the two prefetched tables,
   the windows' blocks, and the branch that the live count selects. -/
module

public import proofs.«01_k».proof.Proof.Gen.ExpertIdeal.Launch
public import proofs.«01_k».proof.Proof.Gen.ExpertIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertIdeal.Pv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory after the host operations. -/
abbrev V (c : Dev nD) (b : Ref sig .tc) : Buf (Elt F) ((c : Thread nD τ).loc b) :=
  StableHlo.after hostOps0 (fun b => m (c, b)) b

/-- No host operation takes a buffer fresh. -/
theorem ops_fresh : (hostOps0 : List (HloOp τ sig (Elt F))).Forall fun op => op.fresh = ∅ := by
  simp only [List.Forall]; repeat' constructor

set_option maxHeartbeats 800000 in
/-- @main is its host operations and then the region. -/
theorem main_run (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub ops_fresh main_chain

/-- The arguments reach the region as launched: no host operation writes one. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) := by
  refine ⟨?_, ?_, ?_, ?_, ?_, ?_, ?_⟩ <;>
  · refine StableHlo.after_of_forall_not_mem _ _ (List.forall_iff_forall_mem.mp ?_)
    simp only [hostOps0, List.Forall, StableHlo.unary_writes, StableHlo.binary_writes, StableHlo.reshape_writes,
      Finset.mem_singleton]
    repeat' apply And.intro
    all_goals exact StableHlo.devRef_ne_of_ne (by decide)

/-- The tables' contents at the region's entry (one device). -/
def tbl : pre0.Contents (Elt F) := fun j => V m (0 : Dev nD) (pre0.ref j)
/-- Every device finds those contents. -/
theorem V_tbl (c : Dev nD) (j : Fin 2) : V m c (pre0.ref j) = tbl m j := by
  obtain rfl : c = 0 := Subsingleton.elim _ _; rfl

/-- The tables keep every block inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev tab0 : Memref sig .tc .smem S296 .i32 := Memref.whole main_arg0
abbrev tab1 : Memref sig .tc .smem S1 .i32 := Memref.whole main_arg1

/-- A table's buffer on core `c`, and the half of it that the body may read. -/
abbrev TBuf (c : Dev nD) {S : Shape} {e : EltTy} (M : Memref sig .tc .smem S e) : Type := Buf (Elt F) (M.view.loc (c : Thread nD τ))
abbrev tHeld (c : Dev nD) {S : Shape} {e : EltTy} (M : Memref sig .tc .smem S e) (f : TBuf (F := F) c M) : sProp 𝕄 :=
  M.view.loc (c : Thread nD τ) ↦{fullShare.right} f

/-- The body's halves of the tables, one by one. -/
theorem held_eq (c : Dev nD) :
    (Pipeline.ΦT pre0 (tbl m) c : sProp 𝕄) = iprop(tHeld c tab0 (tbl m 0) ∗ tHeld c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks -/

/-- Window `w`'s block at point `t`, read off its array as the region finds it. -/
def blk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The memref that window `w` stages through at point `t`, and its wholeness. -/
abbrev st0 (hO : Ok m) (t : Fin (cfgM m hO).N) : Memref sig .tc .vmem S256x1024 .f32 := spec0_0.stage ((cfgM m hO).slots t 0)
abbrev wh0 (hO : Ok m) (t : Fin (cfgM m hO).N) : (st0 m hO t).IsWhole := hstage0_0 (((cfgM m hO).slots t 0).cast nbuf0_0)
abbrev st1 (hO : Ok m) (t : Fin (cfgM m hO).N) : Memref sig .tc .vmem S1x1024x2048 .bf16 := spec0_1.stage ((cfgM m hO).slots t 1)
abbrev wh1 (hO : Ok m) (t : Fin (cfgM m hO).N) : (st1 m hO t).IsWhole := hstage0_1 (((cfgM m hO).slots t 1).cast nbuf0_1)
abbrev st2 (hO : Ok m) (t : Fin (cfgM m hO).N) : Memref sig .tc .vmem S1x1x2048 .f32 := spec0_2.stage ((cfgM m hO).slots t 2)
abbrev wh2 (hO : Ok m) (t : Fin (cfgM m hO).N) : (st2 m hO t).IsWhole := hstage0_2 (((cfgM m hO).slots t 2).cast nbuf0_2)
abbrev st3 (hO : Ok m) (t : Fin (cfgM m hO).N) : Memref sig .tc .vmem S1x1024x1024 .bf16 := spec0_3.stage ((cfgM m hO).slots t 3)
abbrev wh3 (hO : Ok m) (t : Fin (cfgM m hO).N) : (st3 m hO t).IsWhole := hstage0_3 (((cfgM m hO).slots t 3).cast nbuf0_3)
abbrev st4 (hO : Ok m) (t : Fin (cfgM m hO).N) : Memref sig .tc .vmem S1x1x1024 .f32 := spec0_4.stage ((cfgM m hO).slots t 4)
abbrev wh4 (hO : Ok m) (t : Fin (cfgM m hO).N) : (st4 m hO t).IsWhole := hstage0_4 (((cfgM m hO).slots t 4).cast nbuf0_4)
abbrev st5 (hO : Ok m) (t : Fin (cfgM m hO).N) : Memref sig .tc .vmem S256x1024 .f32 := spec0_5.stage ((cfgM m hO).slots t 5)
abbrev wh5 (hO : Ok m) (t : Fin (cfgM m hO).N) : (st5 m hO t).IsWhole := hstage0_5 (((cfgM m hO).slots t 5).cast nbuf0_5)

/-- The body at point `t`, as the pipeline calls it. -/
abbrev bodyAt (hO : Ok m) (t : Fin (cfgM m hO).N) : Prog (TpuEff nD τ sig (Elt F) Λ₀ .tc) PUnit :=
  cc0_experts (grid0.coords t) tab0 (Memref.isWhole_whole _) tab1 (Memref.isWhole_whole _) (st0 m hO t) (wh0 m hO t)
    (st1 m hO t) (wh1 m hO t) (st2 m hO t) (wh2 m hO t) (st3 m hO t) (wh3 m hO t) (st4 m hO t) (wh4 m hO t) (st5 m hO t) (wh5 m hO t)

/-! ## The body: a live row tile and a dead one -/

/-- A buffer of the output's kind, through which what it ends with is stated. -/
abbrev outV : View sig .tc .vmem S256x1024 .f32 := (Memref.whole cc0_stg5_0 : Memref sig .tc .vmem S256x1024 .f32).view

/-- The count of live row tiles as the body reads it: the one word of the second table. -/
abbrev count (c : Dev nD) (t1 : TBuf (F := F) c tab1) : BitVec 32 :=
  View.readAt (Elt F) tab1.view (Rect.unit (s := S1) ![0] S1.size inb_S1_S1_0).toLoadRect t1
    (Shape.Idx.first (numel1_S1.symm ▸ Nat.one_pos))

/-- The body runs from the input blocks and the tables to the same, the output's buffer with the pieces `L` written. -/
abbrev Runs (c : Dev nD) (i : grid0.Coords)
    (a3 : Memref sig .tc .vmem S256x1024 .f32) (w3 : a3.IsWhole) (a4 : Memref sig .tc .vmem S1x1024x2048 .bf16) (w4 : a4.IsWhole)
    (a5 : Memref sig .tc .vmem S1x1x2048 .f32) (w5 : a5.IsWhole) (a6 : Memref sig .tc .vmem S1x1024x1024 .bf16) (w6 : a6.IsWhole)
    (a7 : Memref sig .tc .vmem S1x1x1024 .f32) (w7 : a7.IsWhole) (a8 : Memref sig .tc .vmem S256x1024 .f32) (w8 : a8.IsWhole)
    (x0 : Vec F S256x1024 .f32) (x1 : Vec F S1x1024x2048 .bf16) (x2 : Vec F S1x1x2048 .f32) (x3 : Vec F S1x1024x1024 .bf16)
    (x4 : Vec F S1x1x1024 .f32) (t0 : TBuf (F := F) c tab0) (t1 : TBuf (F := F) c tab1)
    (L : List (View.Piece (Elt F) S256x1024 .f32)) : Prop :=
  ∀ (E : Set ℕ) (K : PUnit → sProp 𝕄),
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a7 fullShare x4 ∗ (∃ d, owns (c : Thread nD τ) a8 fullShare d)
        ∗ tHeld c tab0 t0 ∗ tHeld c tab1 t1
        ∗ (iprop(owns (c : Thread nD τ) a3 fullShare x0 ∗ owns (c : Thread nD τ) a4 fullShare x1
            ∗ owns (c : Thread nD τ) a5 fullShare x2 ∗ owns (c : Thread nD τ) a6 fullShare x3
            ∗ owns (c : Thread nD τ) a7 fullShare x4
            ∗ (∃ f, a8.view.loc (c : Thread nD τ) ↦[a8.view.set]{fullShare} a8.view.writes (Elt F) f L)
            ∗ tHeld c tab0 t0 ∗ tHeld c tab1 t1) -∗ K ⟨⟩))
      ⊢ wp frame (wpE (defs₀ (F := F)) Variants.none c none) E
        (cc0_experts i tab0 (Memref.isWhole_whole _) tab1 (Memref.isWhole_whole _) a3 w3 a4 w4 a5 w5 a6 w6 a7 w7 a8 w8) K

set_option maxHeartbeats 1000000 in
/-- The body at a live row tile: it stores the tile's outputs, and the pieces are found by running it. -/
def liveRun (c : Dev nD) (i : grid0.Coords)
    (a3 : Memref sig .tc .vmem S256x1024 .f32) (w3 : a3.IsWhole) (a4 : Memref sig .tc .vmem S1x1024x2048 .bf16) (w4 : a4.IsWhole)
    (a5 : Memref sig .tc .vmem S1x1x2048 .f32) (w5 : a5.IsWhole) (a6 : Memref sig .tc .vmem S1x1024x1024 .bf16) (w6 : a6.IsWhole)
    (a7 : Memref sig .tc .vmem S1x1x1024 .f32) (w7 : a7.IsWhole) (a8 : Memref sig .tc .vmem S256x1024 .f32) (w8 : a8.IsWhole)
    (x0 : Vec F S256x1024 .f32) (x1 : Vec F S1x1024x2048 .bf16) (x2 : Vec F S1x1x2048 .f32) (x3 : Vec F S1x1024x1024 .bf16)
    (x4 : Vec F S1x1x1024 .f32) (t0 : TBuf (F := F) c tab0) (t1 : TBuf (F := F) c tab1)
    (h1 : ¬ k0_cond1 i (count c t1) = 1#1) (h2 : k0_cond2 i (count c t1) = 1#1) :
    { L : List (View.Piece (Elt F) S256x1024 .f32) // Runs c i a3 w3 a4 w4 a5 w5 a6 w6 a7 w7 a8 w8 x0 x1 x2 x3 x4 t0 t1 L } := by
  refine ⟨?_, fun E K => ?run⟩
  case run =>
    simp only [cc0_experts_eq_skeleton]; unfold cc0_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := w3.eq_unread hf0; obtain rfl := w4.eq_unread hf1; obtain rfl := w5.eq_unread hf2
    obtain rfl := w6.eq_unread hf3; obtain rfl := w7.eq_unread hf4
    sl_exec (disch := first | sl_exact h1 | sl_exact h2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [H4]
    · iexists _; isplitr; · ipureintro; exact w7.read_unread _
      iexact H4
    isplitl [H5]; · iexists _; iexact H5
    isplitl [HT0]; · iexact HT0
    iexact HT1

set_option maxHeartbeats 1000000 in
/-- The body past the live row tiles: it stores zeros. -/
def deadRun (c : Dev nD) (i : grid0.Coords)
    (a3 : Memref sig .tc .vmem S256x1024 .f32) (w3 : a3.IsWhole) (a4 : Memref sig .tc .vmem S1x1024x2048 .bf16) (w4 : a4.IsWhole)
    (a5 : Memref sig .tc .vmem S1x1x2048 .f32) (w5 : a5.IsWhole) (a6 : Memref sig .tc .vmem S1x1024x1024 .bf16) (w6 : a6.IsWhole)
    (a7 : Memref sig .tc .vmem S1x1x1024 .f32) (w7 : a7.IsWhole) (a8 : Memref sig .tc .vmem S256x1024 .f32) (w8 : a8.IsWhole)
    (x0 : Vec F S256x1024 .f32) (x1 : Vec F S1x1024x2048 .bf16) (x2 : Vec F S1x1x2048 .f32) (x3 : Vec F S1x1024x1024 .bf16)
    (x4 : Vec F S1x1x1024 .f32) (t0 : TBuf (F := F) c tab0) (t1 : TBuf (F := F) c tab1)
    (h1 : k0_cond1 i (count c t1) = 1#1) (h2 : ¬ k0_cond2 i (count c t1) = 1#1) :
    { L : List (View.Piece (Elt F) S256x1024 .f32) // Runs c i a3 w3 a4 w4 a5 w5 a6 w6 a7 w7 a8 w8 x0 x1 x2 x3 x4 t0 t1 L } := by
  refine ⟨?_, fun E K => ?run⟩
  case run =>
    simp only [cc0_experts_eq_skeleton]; unfold cc0_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := w3.eq_unread hf0; obtain rfl := w4.eq_unread hf1; obtain rfl := w5.eq_unread hf2
    obtain rfl := w6.eq_unread hf3; obtain rfl := w7.eq_unread hf4
    sl_exec (disch := first | sl_exact h1 | sl_exact h2)
    sl_step
    iapply Hk
    isplitl [H0]
    · iexists _; isplitr; · ipureintro; exact w3.read_unread _
      iexact H0
    isplitl [H1]
    · iexists _; isplitr; · ipureintro; exact w4.read_unread _
      iexact H1
    isplitl [H2]
    · iexists _; isplitr; · ipureintro; exact w5.read_unread _
      iexact H2
    isplitl [H3]
    · iexists _; isplitr; · ipureintro; exact w6.read_unread _
      iexact H3
    isplitl [H4]
    · iexists _; isplitr; · ipureintro; exact w7.read_unread _
      iexact H4
    isplitl [H5]; · iexists _; iexact H5
    isplitl [HT0]; · iexact HT0
    iexact HT1

end Cert.ExpertIdeal.Pv

end
-- ==== Proof.ExpertFrame.lean ====
/- The experts' call runs, for every admissible contents of its tables: what the output's staging buffer holds after each
   point, the body's obligation, the run and the frame. -/
module

public import proofs.«01_k».proof.Proof.ExpertRun
public import Idealize.ShloMosaic.Lib.Claim

@[expose] public section

set_option maxRecDepth 16384

noncomputable section

namespace Cert.ExpertIdeal.Pv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches exclude each other -/

/-- The second branch is taken exactly where the first is not: `<` against `≥`. -/
theorem cond_iff (i : grid0.Coords) (w : BitVec 32) : k0_cond2 i w = 1#1 ↔ ¬ k0_cond1 i w = 1#1 := by
  unfold k0_cond1 k0_cond2
  simp only [Scalar.cmpi, Scalar.extui, IntOp.cmpi]
  by_cases h : w.toInt ≤ (BitVec.ofNat 32 (i 0).val).toInt
  · have h' : ¬ (BitVec.ofNat 32 (i 0).val).toInt < w.toInt := not_lt.mpr h
    simp [BitVec.sle, BitVec.slt, h, h']
  · have h' : (BitVec.ofNat 32 (i 0).val).toInt < w.toInt := not_le.mp h
    simp [BitVec.sle, BitVec.slt, h, h']

/-- So the output's window is never idle. -/
theorem never_idle (pf : pre0.Contents (Elt F)) (i : grid0.Coords) : idle0 pf 5 i = false := by
  have h := cond_iff i (pf.atD 1 ![0])
  show (!(k0_cond1 i (pf.atD 1 ![0]) == 1#1) && !(k0_cond2 i (pf.atD 1 ![0]) == 1#1)) = false
  by_cases h1 : k0_cond1 i (pf.atD 1 ![0]) = 1#1
  · simp [h1]
  · simp [h.mpr h1]

/-! ## What the output holds -/

section Stored

variable (c : Dev nD) (i : grid0.Coords)
    (a3 : Memref sig .tc .vmem S256x1024 .f32) (w3 : a3.IsWhole) (a4 : Memref sig .tc .vmem S1x1024x2048 .bf16) (w4 : a4.IsWhole)
    (a5 : Memref sig .tc .vmem S1x1x2048 .f32) (w5 : a5.IsWhole) (a6 : Memref sig .tc .vmem S1x1024x1024 .bf16) (w6 : a6.IsWhole)
    (a7 : Memref sig .tc .vmem S1x1x1024 .f32) (w7 : a7.IsWhole) (a8 : Memref sig .tc .vmem S256x1024 .f32) (w8 : a8.IsWhole)
    (x0 : Vec F S256x1024 .f32) (x1 : Vec F S1x1024x2048 .bf16) (x2 : Vec F S1x1x2048 .f32) (x3 : Vec F S1x1024x1024 .bf16)
    (x4 : Vec F S1x1x1024 .f32) (t0 : TBuf (F := F) c tab0) (t1 : TBuf (F := F) c tab1)

/-- What a live tile's run stores covers the block, -/
theorem live_cover (h1 : ¬ k0_cond1 i (count c t1) = 1#1) (h2 : k0_cond2 i (count c t1) = 1#1) (y : S256x1024.Idx) :
    ∃ pc ∈ (liveRun c i a3 w3 a4 w4 a5 w5 a6 w6 a7 w7 a8 w8 x0 x1 x2 x3 x4 t0 t1 h1 h2).1, y ∈ pc.1.set :=
  View.cover_of_tiledL _ S256x1024.size (by sl_kernel_rfl) y

/-- and what a dead tile's does. -/
theorem dead_cover (h1 : k0_cond1 i (count c t1) = 1#1) (h2 : ¬ k0_cond2 i (count c t1) = 1#1) (y : S256x1024.Idx) :
    ∃ pc ∈ (deadRun c i a3 w3 a4 w4 a5 w5 a6 w6 a7 w7 a8 w8 x0 x1 x2 x3 x4 t0 t1 h1 h2).1, y ∈ pc.1.set :=
  View.cover_of_tiledL _ S256x1024.size (by sl_kernel_rfl) y

/-- A live tile's block. -/
def liveOut (h1 : ¬ k0_cond1 i (count c t1) = 1#1) (h2 : k0_cond2 i (count c t1) = 1#1) : Vec F S256x1024 .f32 :=
  outV.read (Elt F) (outV.writes (Elt F) outV.junk (liveRun c i a3 w3 a4 w4 a5 w5 a6 w6 a7 w7 a8 w8 x0 x1 x2 x3 x4 t0 t1 h1 h2).1)

/-- A dead tile's block. -/
def deadOut (h1 : k0_cond1 i (count c t1) = 1#1) (h2 : ¬ k0_cond2 i (count c t1) = 1#1) : Vec F S256x1024 .f32 :=
  outV.read (Elt F) (outV.writes (Elt F) outV.junk (deadRun c i a3 w3 a4 w4 a5 w5 a6 w6 a7 w7 a8 w8 x0 x1 x2 x3 x4 t0 t1 h1 h2).1)

end Stored

/-- What the output's staging buffer holds after point `t`. -/
def outAt (hO : Ok m) (c : Dev nD) (t : Fin (cfgM m hO).N) : Vec F S256x1024 .f32 :=
  if h1 : k0_cond1 (grid0.coords t) (count c (tbl m 1)) = 1#1 then
    deadOut c (grid0.coords t) (st0 m hO t) (wh0 m hO t) (st1 m hO t) (wh1 m hO t) (st2 m hO t) (wh2 m hO t) (st3 m hO t)
      (wh3 m hO t) (st4 m hO t) (wh4 m hO t) (st5 m hO t) (wh5 m hO t) (blk m hO c 0 t) (blk m hO c 1 t) (blk m hO c 2 t)
      (blk m hO c 3 t) (blk m hO c 4 t) (tbl m 0) (tbl m 1) h1 (fun h2 => (cond_iff _ _).mp h2 h1)
  else
    liveOut c (grid0.coords t) (st0 m hO t) (wh0 m hO t) (st1 m hO t) (wh1 m hO t) (st2 m hO t) (wh2 m hO t) (st3 m hO t)
      (wh3 m hO t) (st4 m hO t) (wh4 m hO t) (st5 m hO t) (wh5 m hO t) (blk m hO c 0 t) (blk m hO c 1 t) (blk m hO c 2 t)
      (blk m hO c 3 t) (blk m hO c 4 t) (tbl m 0) (tbl m 1) h1 ((cond_iff _ _).mpr h1)

/-! ## The proof data -/

/-- The pipeline's data on core `c`: the arrays as the region finds them; each input left at its block, the output at
    `outAt`; the tables' halves kept; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blk m hO c 0 t
    | ⟨1, _⟩ => blk m hO c 1 t
    | ⟨2, _⟩ => blk m hO c 2 t
    | ⟨3, _⟩ => blk m hO c 3 t
    | ⟨4, _⟩ => blk m hO c 4 t
    | ⟨5, _⟩ => outAt m hO c t
  Φ _ := iprop(Pipeline.ΦA spec0 c ∗ Pipeline.ΦT pre0 (tbl m) c)
  q _ := fullShare
  owed _ := 0

/-- The data's arrays are the region's. -/
theorem dats_A (hO : Ok m) (c : Dev nD) (w : Fin (cfgM m hO).W) : (dats m hO 0 c).A w = V m c (Pipeline.arrRef spec0 w) := by
  dsimp only [dats]

/-- What the body leaves in each window. -/
theorem left0 (hO : Ok m) (c : Dev nD) (t : Fin (cfgM m hO).N) : (dats m hO 0 c).after 0 t = blk m hO c 0 t := by dsimp only [dats]; rfl
theorem left1 (hO : Ok m) (c : Dev nD) (t : Fin (cfgM m hO).N) : (dats m hO 0 c).after 1 t = blk m hO c 1 t := by dsimp only [dats]; rfl
theorem left2 (hO : Ok m) (c : Dev nD) (t : Fin (cfgM m hO).N) : (dats m hO 0 c).after 2 t = blk m hO c 2 t := by dsimp only [dats]; rfl
theorem left3 (hO : Ok m) (c : Dev nD) (t : Fin (cfgM m hO).N) : (dats m hO 0 c).after 3 t = blk m hO c 3 t := by dsimp only [dats]; rfl
theorem left4 (hO : Ok m) (c : Dev nD) (t : Fin (cfgM m hO).N) : (dats m hO 0 c).after 4 t = blk m hO c 4 t := by dsimp only [dats]; rfl
theorem left5 (hO : Ok m) (c : Dev nD) (t : Fin (cfgM m hO).N) : (dats m hO 0 c).after 5 t = outAt m hO c t := by dsimp only [dats]; rfl

/-- Each input's current buffer holds its block at every point, fetched there or not. -/
theorem found0 (hO : Ok m) (c : Dev nD) (t : Fin (cfgM m hO).N) (d) : (dats m hO 0 c).before 0 t d = blk m hO c 0 t :=
  ((dats m hO 0 c).before_in_eq_fetched 0 rfl (fun _ => rfl) (fun _ _ _ => rfl)
    (fun t => by rw [left0]; unfold Dat.blockOf blk; rw [dats_A]) t d).trans
    (by unfold Dat.fetched Dat.blockOf blk; rw [dats_A]; rfl)
theorem found1 (hO : Ok m) (c : Dev nD) (t : Fin (cfgM m hO).N) (d) : (dats m hO 0 c).before 1 t d = blk m hO c 1 t :=
  ((dats m hO 0 c).before_in_eq_fetched 1 rfl (fun _ => rfl) (fun _ _ _ => rfl)
    (fun t => by rw [left1]; unfold Dat.blockOf blk; rw [dats_A]) t d).trans
    (by unfold Dat.fetched Dat.blockOf blk; rw [dats_A]; rfl)
theorem found2 (hO : Ok m) (c : Dev nD) (t : Fin (cfgM m hO).N) (d) : (dats m hO 0 c).before 2 t d = blk m hO c 2 t :=
  ((dats m hO 0 c).before_in_eq_fetched 2 rfl (fun _ => rfl) (fun _ _ _ => rfl)
    (fun t => by rw [left2]; unfold Dat.blockOf blk; rw [dats_A]) t d).trans
    (by unfold Dat.fetched Dat.blockOf blk; rw [dats_A]; rfl)
theorem found3 (hO : Ok m) (c : Dev nD) (t : Fin (cfgM m hO).N) (d) : (dats m hO 0 c).before 3 t d = blk m hO c 3 t :=
  ((dats m hO 0 c).before_in_eq_fetched 3 rfl (fun _ => rfl) (fun _ _ _ => rfl)
    (fun t => by rw [left3]; unfold Dat.blockOf blk; rw [dats_A]) t d).trans
    (by unfold Dat.fetched Dat.blockOf blk; rw [dats_A]; rfl)
theorem found4 (hO : Ok m) (c : Dev nD) (t : Fin (cfgM m hO).N) (d) : (dats m hO 0 c).before 4 t d = blk m hO c 4 t :=
  ((dats m hO 0 c).before_in_eq_fetched 4 rfl (fun _ => rfl) (fun _ _ _ => rfl)
    (fun t => by rw [left4]; unfold Dat.blockOf blk; rw [dats_A]) t d).trans
    (by unfold Dat.fetched Dat.blockOf blk; rw [dats_A]; rfl)

/-! ## The body's obligation -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ (dats m hO 0 c).leavesExact 5 t)

/-- The output's window, live at every point, is left at `after`. -/
theorem leaves5 (hO : Ok m) (c : Dev nD) (t : Fin (cfgM m hO).N) :
    (dats m hO 0 c).leavesExact 5 t = owns (c : Thread nD τ) (st5 m hO t) fullShare (outAt m hO c t) := by
  unfold Dat.leavesExact
  rw [show (cfgM m hO).idle 5 ((cfgM m hO).grid.coords t) = false from never_idle (tbl m) _, left5]
  rfl

/-- The body at any point: the branch that the live count selects runs, and the invariant passes through. -/
theorem body_sound (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  rw [leaves5]
  unfold bodyAt
  simp only [found0, found1, found2, found3, found4]
  rw [show (dats m hO 0 c).Φ t.succ = (dats m hO 0 c).Φ t.castSucc from rfl,
    show (dats m hO 0 c).owesAt () t.succ = (dats m hO 0 c).owesAt () t.castSucc from rfl,
    left0, left1, left2, left3, left4]
  rw [show (dats m hO 0 c).Φ t.castSucc = iprop(Pipeline.ΦA spec0 c ∗ Pipeline.ΦT pre0 (tbl m) c) from rfl, held_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  by_cases h1 : k0_cond1 (grid0.coords t) (count c (tbl m 1)) = 1#1
  · have h2 : ¬ k0_cond2 (grid0.coords t) (count c (tbl m 1)) = 1#1 := fun h2 => (cond_iff _ _).mp h2 h1
    unfold outAt
    rw [dif_pos h1]
    unfold deadOut
    iapply ((deadRun c (grid0.coords t) _ _ _ _ _ _ _ _ _ _ _ _ (blk m hO c 0 t) (blk m hO c 1 t) (blk m hO c 2 t)
      (blk m hO c 3 t) (blk m hO c 4 t) (tbl m 0) (tbl m 1) h1 h2).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (dead_cover c _ _ _ _ _ _ _ _ _ _ _ _ _ _ _ _ _ _ _ _ h1 h2)
  · have h2 : k0_cond2 (grid0.coords t) (count c (tbl m 1)) = 1#1 := (cond_iff _ _).mpr h1
    unfold outAt
    rw [dif_neg h1]
    unfold liveOut
    iapply ((liveRun c (grid0.coords t) _ _ _ _ _ _ _ _ _ _ _ _ (blk m hO c 0 t) (blk m hO c 1 t) (blk m hO c 2 t)
      (blk m hO c 3 t) (blk m hO c 4 t) (tbl m 0) (tbl m 1) h1 h2).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    iintro ⟨H0, H1, H2, H3, H4, ⟨%e5, H5⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (live_cover c _ _ _ _ _ _ _ _ _ _ _ _ _ _ _ _ _ _ _ _ h1 h2)

/-- The body table's row at point `t` is the body there. -/
theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The obligation at every point. -/
theorem obligation (hO : Ok m) (c : Dev nD) :
    BodyObligation (dats (F := F) m hO 0 c) (defs₀ (F := F)) Variants.none () Set.univ := fun t => by
  rw [bigSep_W0, bigSep_W0, row_eq m hO]
  exact triple_restated (body_sound m hO c t) rfl .rfl fun _ => .rfl

/-! ## The run and the frame -/

set_option backward.isDefEq.respectTransparency.types false in
/-- Every run ends with the windows' arrays at what the data say, every other buffer as the region found it, and every
    semaphore at zero. -/
theorem run_quiet (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := main_run m Variants.none) (hA := dats_A m hO) (hpf := V_tbl m)
    (hΦ := fun _ _ => rfl)

/-- A finished run has the result array at what the data say and the seven arguments as launched. -/
theorem ends (hO : Ok m) (c : Dev nD) {r : PUnit × MemSt nD τ sig (Elt F)}
    (h : Pipeline.FramePost (Pipeline.pin pcfgs fun _ => adm m hO) (dats m hO) 0 (V m) r) :
    r.2.mem ((c.tc : Thread nD τ).loc main_v10) = (dats m hO 0 c).arrAt 5 (cfgM m hO).N
    ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) := by
  obtain ⟨v0, v1, v2, v3, v4, v5, v6⟩ := V_args m c
  have rest := (h c).2
  exact ⟨(h c).1 5, (rest main_arg0 (by decide : main_arg0 ∈ Pipeline.restRefs sig spec0)).trans v0,
    (rest main_arg1 (by decide : main_arg1 ∈ Pipeline.restRefs sig spec0)).trans v1,
    ((h c).1 0).trans (((dats m hO 0 c).arrAt_in 0 rfl _).trans ((dats_A m hO c 0).trans v2)),
    (rest main_arg3 (by decide : main_arg3 ∈ Pipeline.restRefs sig spec0)).trans v3,
    (rest main_arg4 (by decide : main_arg4 ∈ Pipeline.restRefs sig spec0)).trans v4,
    (rest main_arg5 (by decide : main_arg5 ∈ Pipeline.restRefs sig spec0)).trans v5,
    (rest main_arg6 (by decide : main_arg6 ∈ Pipeline.restRefs sig spec0)).trans v6⟩

/-- The frame, for every admissible contents of the tables. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (ends m hO c h.1).2, h.2⟩) (run_quiet m ρ hO)

end Cert.ExpertIdeal.Pv

end
-- ==== Proof.ExpertMaps.lean ====
/- The experts: the two prefetched tables and the index maps that read them, for tables the precondition admits. -/
module

public import proofs.«01_k».proof.Proof.ExpertFrame
public import Idealize.ShloMosaic.Lib.Pointwise
public import Idealize.ShloMosaic.Lib.Tactic

@[expose] public section

set_option maxRecDepth 16384

noncomputable section

namespace Cert.ExpertIdeal.Pv

open Cert.ExpertIdeal Cert.ExpertIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The expert of row tile `t`, and the count of live row tiles, as launched. -/
def be (t : Fin 296) : BitVec 32 := (m ((0 : Dev nD).tc.loc main_arg0) : IVec S296 32) (ix1 t)
def nv : BitVec 32 := (m ((0 : Dev nD).tc.loc main_arg1) : IVec S1 32) (ix1 0)

/-- The one-entry table has one index. -/
theorem one_idx (i j : S1.Idx) : i = j := by
  funext a
  match a with
  | ⟨0, _⟩ => exact Subsingleton.elim (α := Fin 1) (i 0) (j 0)

/-- A grid point's coordinate is its number. -/
theorem coord : ∀ t : Fin grid0.N, ((grid0.coords t) 0).val = t.val := by decide +kernel

/-- The count that the body reads is the launched one. -/
theorem count_eq (c : Dev nD) : count c (tbl m 1) = nv m := by
  show tbl m 1 _ = _
  unfold tbl nv
  show V m 0 main_arg1 _ = _
  rw [(V_args m 0).2.1]
  refine congrArg (m ((0 : Dev nD).tc.loc main_arg1) : IVec S1 32) ?_
  exact one_idx _ _

/-- The count that the row tiles' index map reads is the launched one, -/
theorem at1_eq : (tbl m).at 1 (Rect.unit (s := S1) ![0] S1.size inb_S1_S1_0) numel1_S1 = nv m := by
  show tbl m 1 _ = _
  unfold tbl nv
  show V m 0 main_arg1 _ = _
  rw [(V_args m 0).2.1]
  refine congrArg (m ((0 : Dev nD).tc.loc main_arg1) : IVec S1 32) ?_
  exact one_idx _ _

/-- A grid point as a row tile's number. -/
abbrev tile (t : Fin grid0.N) : Fin 296 := ⟨t.val, lt_of_lt_of_eq t.isLt N_0⟩

/-- A grid point's coordinate, as the index maps compute it. -/
theorem coord_word (t : Fin grid0.N) : (Scalar.indexCast (BitVec.ofNat 32 ((grid0.coords t) 0).val)).toNat = t.val := by
  have ht : t.val < 296 := lt_of_lt_of_eq t.isLt N_0
  rw [coord]
  show (BitVec.ofNat 32 t.val).toNat = _
  rw [BitVec.toNat_ofNat]; omega

/-- and the expert that the weights' index maps read is the launched one of their row tile. -/
theorem at0_eq (t : Fin grid0.N) :
    (tbl m).at 0 (Rect.unit (s := S296) (k0_off1 (grid0.coords t)) S1.size (k0_off1_inb (grid0.coords t))) numel1_S1 = be m (tile t) := by
  show tbl m 0 _ = _
  unfold tbl be
  show V m 0 main_arg0 _ = _
  rw [(V_args m 0).1]
  refine congrArg (m ((0 : Dev nD).tc.loc main_arg0) : IVec S296 32) ?_
  funext a
  match a with
  | ⟨0, _⟩ =>
    refine Fin.ext ?_
    show (Scalar.indexCast (BitVec.ofNat 32 ((grid0.coords t) 0).val)).toNat + 1 * 0 = t.val
    rw [coord_word]
    omega

/-- The tables the precondition admits: every expert one of the 32, at least one and at most 296 row tiles live. -/
def Good : Prop := (∀ t : Fin 296, (be m t).toNat < 32) ∧ 1 ≤ (nv m).toNat ∧ (nv m).toNat ≤ 296

/-- A small number as a signed word. -/
theorem toInt_small (x : BitVec 32) (h : x.toNat < 1000) : x.toInt = (x.toNat : Int) := by
  rw [BitVec.toInt_eq_toNat_cond]; split <;> omega

/-- The row tiles' index map: the point's own tile while it is live, else the last live one. -/
theorem map0 (hG : Good m) (t : Fin grid0.N) :
    cc0_transform_0 inb_S1_S1_0 numel1_S1 (tbl m) (grid0.coords t) = ![min t.val ((nv m).toNat - 1), 0] := by
  obtain ⟨-, g1, g2⟩ := hG
  have ht : t.val < 296 := lt_of_lt_of_eq t.isLt N_0
  unfold cc0_transform_0
  dsimp only
  rw [at1_eq, coord]
  have e1 : (BitVec.ofNat 32 t.val).toNat = t.val := by rw [BitVec.toNat_ofNat]; omega
  have e2 : (Scalar.subi (nv m) 1#32).toNat = (nv m).toNat - 1 := by
    show (nv m - 1#32).toNat = _
    rw [BitVec.toNat_sub]; simp; omega
  have e : (Scalar.minsi (BitVec.ofNat 32 t.val) (Scalar.subi (nv m) 1#32)).toNat = min t.val ((nv m).toNat - 1) := by
    simp only [Scalar.minsi, IntOp.minsi]
    have k1 := toInt_small (BitVec.ofNat 32 t.val) (by omega)
    have k2 := toInt_small (Scalar.subi (nv m) 1#32) (by omega)
    simp only [BitVec.sle, BitVec.slt, k1, k2, e1, e2]
    split <;> rename_i hh <;> simp at hh <;> omega
  rw [e]
  rfl

/-- The weights' index maps: the row tile's expert. -/
theorem map1 (t : Fin grid0.N) :
    cc0_transform_1 k0_off1_inb numel1_S1 (tbl m) (grid0.coords t) = ![(be m (tile t)).toNat, 0, 0] := by
  show ![((tbl m).at 0 (Rect.unit (s := S296) (k0_off1 (grid0.coords t)) S1.size (k0_off1_inb (grid0.coords t))) numel1_S1).toNat, 0, 0] = _
  rw [at0_eq]
theorem map2 (t : Fin grid0.N) :
    cc0_transform_2 k0_off1_inb numel1_S1 (tbl m) (grid0.coords t) = ![(be m (tile t)).toNat, 0, 0] := map1 m t
theorem map3 (t : Fin grid0.N) :
    cc0_transform_3 k0_off1_inb numel1_S1 (tbl m) (grid0.coords t) = ![(be m (tile t)).toNat, 0, 0] := map1 m t
theorem map4 (t : Fin grid0.N) :
    cc0_transform_4 k0_off1_inb numel1_S1 (tbl m) (grid0.coords t) = ![(be m (tile t)).toNat, 0, 0] := map1 m t

/-- Every grid coordinate is some point's. -/
theorem coords_onto (i : grid0.Coords) : ∃ t : Fin grid0.N, grid0.coords t = i := by
  have hi : (i 0).val < 296 := (i 0).isLt
  refine ⟨⟨(i 0).val, lt_of_lt_of_eq hi N_0.symm⟩, ?_⟩
  funext a
  match a with
  | ⟨0, _⟩ => exact Fin.ext (coord _)

/-- Such tables keep every block inside its array. -/
theorem ok_of_good (hG : Good m) : Ok m := by
  obtain ⟨g0, g1, g2⟩ := id hG
  refine ⟨fun i => ?_, fun i => ?_, fun i => ?_, fun i => ?_, fun i => ?_⟩ <;> obtain ⟨t, rfl⟩ := coords_onto i
  · have ht : t.val < 296 := lt_of_lt_of_eq t.isLt N_0
    refine ⟨fun a => ?_, .inl rfl⟩
    rw [map0 m hG t]
    match a with
    | ⟨0, _⟩ => show (min t.val ((nv m).toNat - 1) + 1) * 256 ≤ 75776; omega
    | ⟨1, _⟩ => show (0 + 1) * 1024 ≤ 1024; omega
  · have hb := g0 (tile t)
    have hin : ∀ a, (cc0_transform_1 k0_off1_inb numel1_S1 (tbl m) (grid0.coords t) a + 1) * S1x1024x2048.size a ≤ S32x1024x2048.size a := by
      intro a
      rw [map1 m t]
      match a with
      | ⟨0, _⟩ => show ((be m (tile t)).toNat + 1) * 1 ≤ 32; omega
      | ⟨1, _⟩ => show (0 + 1) * 1024 ≤ 1024; omega
      | ⟨2, _⟩ => show (0 + 1) * 2048 ≤ 2048; omega
    refine ⟨hin, .inr (.inr ⟨by decide, rfl, ?_, rfl⟩)⟩
    show cc0_transform_1 k0_off1_inb numel1_S1 (tbl m) (grid0.coords t) 1 * 1024 = 0
    rw [map1 m t]; rfl
  · have hb := g0 (tile t)
    refine ⟨fun a => ?_, .inl rfl⟩
    rw [map2 m t]
    match a with
    | ⟨0, _⟩ => show ((be m (tile t)).toNat + 1) * 1 ≤ 32; omega
    | ⟨1, _⟩ => show (0 + 1) * 1 ≤ 1; omega
    | ⟨2, _⟩ => show (0 + 1) * 2048 ≤ 2048; omega
  · have hb := g0 (tile t)
    have hin : ∀ a, (cc0_transform_3 k0_off1_inb numel1_S1 (tbl m) (grid0.coords t) a + 1) * S1x1024x1024.size a ≤ S32x1024x1024.size a := by
      intro a
      rw [map3 m t]
      match a with
      | ⟨0, _⟩ => show ((be m (tile t)).toNat + 1) * 1 ≤ 32; omega
      | ⟨1, _⟩ => show (0 + 1) * 1024 ≤ 1024; omega
      | ⟨2, _⟩ => show (0 + 1) * 1024 ≤ 1024; omega
    refine ⟨hin, .inr (.inr ⟨by decide, rfl, ?_, rfl⟩)⟩
    show cc0_transform_3 k0_off1_inb numel1_S1 (tbl m) (grid0.coords t) 1 * 1024 = 0
    rw [map3 m t]; rfl
  · have hb := g0 (tile t)
    refine ⟨fun a => ?_, .inl rfl⟩
    rw [map4 m t]
    match a with
    | ⟨0, _⟩ => show ((be m (tile t)).toNat + 1) * 1 ≤ 32; omega
    | ⟨1, _⟩ => show (0 + 1) * 1 ≤ 1; omega
    | ⟨2, _⟩ => show (0 + 1) * 1024 ≤ 1024; omega

end Cert.ExpertIdeal.Pv

end
-- ==== Proof.ExpertBlock.lean ====
/- The experts: what one grid point leaves in its output block, where its blocks lie, and the result array at an index. -/
module

public import proofs.«01_k».proof.Proof.ExpertMaps
public import Idealize.ShloMosaic.Lib.Pipeline.Value
public import Idealize.ShloMosaic.Lib.Pointwise
public import Idealize.ShloMosaic.Lib.Tactic

@[expose] public section

set_option maxRecDepth 16384

noncomputable section

namespace Cert.ExpertIdeal.Pv

open Cert.ExpertIdeal Cert.ExpertIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The zero offsets of a whole-block access, on two axes and on three. -/
theorem off2 : (![0, 0] : Fin 2 → Nat) = fun _ => 0 := funext fun a => by fin_cases a <;> rfl
theorem off3 : (![0, 0, 0] : Fin 3 → Nat) = fun _ => 0 := funext fun a => by fin_cases a <;> rfl

section Stored

variable (c : Dev nD) (i : grid0.Coords)
    (a3 : Memref sig .tc .vmem S256x1024 .f32) (w3 : a3.IsWhole) (a4 : Memref sig .tc .vmem S1x1024x2048 .bf16) (w4 : a4.IsWhole)
    (a5 : Memref sig .tc .vmem S1x1x2048 .f32) (w5 : a5.IsWhole) (a6 : Memref sig .tc .vmem S1x1024x1024 .bf16) (w6 : a6.IsWhole)
    (a7 : Memref sig .tc .vmem S1x1x1024 .f32) (w7 : a7.IsWhole) (a8 : Memref sig .tc .vmem S256x1024 .f32) (w8 : a8.IsWhole)
    (x0 : Vec F S256x1024 .f32) (x1 : Vec F S1x1024x2048 .bf16) (x2 : Vec F S1x1x2048 .f32) (x3 : Vec F S1x1024x1024 .bf16)
    (x4 : Vec F S1x1x1024 .f32) (t0 : TBuf (F := F) c tab0) (t1 : TBuf (F := F) c tab1)

/-- A dead tile's block is zeros. -/
theorem deadOut_eq (h1 : k0_cond1 i (count c t1) = 1#1) (h2 : ¬ k0_cond2 i (count c t1) = 1#1) :
    deadOut c i a3 w3 a4 w4 a5 w5 a6 w6 a7 w7 a8 w8 x0 x1 x2 x3 x4 t0 t1 h1 h2 = k0_pay1 := by
  unfold deadOut
  rw [View.read_writes_eq_canon _ _ _ (dead_cover c i a3 w3 a4 w4 a5 w5 a6 w6 a7 w7 a8 w8 x0 x1 x2 x3 x4 t0 t1 h1 h2)]
  unfold deadRun
  dsimp only
  sl_unfold_words
  rw [View.canon_unit_zero off2]

/-- A live tile's block is the expert's two layers of the tile's rows. -/
theorem liveOut_eq (h1 : ¬ k0_cond1 i (count c t1) = 1#1) (h2 : k0_cond2 i (count c t1) = 1#1) :
    liveOut c i a3 w3 a4 w4 a5 w5 a6 w6 a7 w7 a8 w8 x0 x1 x2 x3 x4 t0 t1 h1 h2
      = k0_pay2 (k0_pay3 x0 x1 x2 x3) (k0_pay4 x4) := by
  unfold liveOut
  rw [View.read_writes_eq_canon _ _ _ (live_cover c i a3 w3 a4 w4 a5 w5 a6 w6 a7 w7 a8 w8 x0 x1 x2 x3 x4 t0 t1 h1 h2)]
  unfold liveRun
  dsimp only
  sl_unfold_words
  rw [View.canon_unit_zero off2]
  simp only [View.readAt_eq_ld, w3.read_unread, w4.read_unread, w5.read_unread, w6.read_unread, w7.read_unread,
    View.ld_unit_zero (S := S256x1024) off2, View.ld_unit_zero (S := S1x1024x2048) off3, View.ld_unit_zero (S := S1x1x2048) off3,
    View.ld_unit_zero (S := S1x1024x1024) off3, View.ld_unit_zero (S := S1x1x1024) off3]

end Stored

/-! ## The blocks read at an index -/

/-- A point's five input blocks at their literal shapes: the tile's rows, and its expert's weights and biases. -/
def bx (hO : Ok m) (c : Dev nD) (t : Fin grid0.N) : Vec F S256x1024 .f32 := blk m hO c 0 t
def bwu (hO : Ok m) (c : Dev nD) (t : Fin grid0.N) : Vec F S1x1024x2048 .bf16 := blk m hO c 1 t
def bbu (hO : Ok m) (c : Dev nD) (t : Fin grid0.N) : Vec F S1x1x2048 .f32 := blk m hO c 2 t
def bwd (hO : Ok m) (c : Dev nD) (t : Fin grid0.N) : Vec F S1x1024x1024 .bf16 := blk m hO c 3 t
def bbd (hO : Ok m) (c : Dev nD) (t : Fin grid0.N) : Vec F S1x1x1024 .f32 := blk m hO c 4 t

set_option maxHeartbeats 2000000 in
/-- The rows of a point's tile. -/
theorem blk_x (hO : Ok m) (hG : Good m) (c : Dev nD) (t : Fin grid0.N) (hl : t.val < (nv m).toNat) (r : Fin 256) (k : Fin 1024)
    (R : Fin 75776) (hR : R.val = 256 * t.val + r.val) :
    (bx m hO c t) (ix2 r k) = (V m c main_arg2 : Vec F S75776x1024 .f32) (ix2 R k) := by
  have e := map0 m hG t
  unfold bx blk
  show V m c main_arg2 ((((cfgM m hO).win 0).blk t).view.emb (ix2 r k)) = V m c main_arg2 _
  refine congrArg (V m c main_arg2) ?_
  funext a
  apply Fin.ext
  match a with
  | ⟨0, _⟩ =>
    show cc0_transform_0 inb_S1_S1_0 numel1_S1 (tbl m) (grid0.coords t) 0 * 256 + 1 * r.val = R.val
    rw [e, hR]; show min t.val ((nv m).toNat - 1) * 256 + 1 * r.val = _; rw [Nat.min_eq_left (by omega)]; omega
  | ⟨1, _⟩ =>
    show cc0_transform_0 inb_S1_S1_0 numel1_S1 (tbl m) (grid0.coords t) 1 * 1024 + 1 * k.val = k.val
    rw [e]; show 0 * 1024 + 1 * k.val = _; omega

/-- The first layer's weights of a point's expert, -/
theorem blk_wu (hO : Ok m) (c : Dev nD) (t : Fin grid0.N) (E : Fin 32) (hE : (be m (tile t)).toNat = E.val) (k : Fin 1024) (f : Fin 2048) :
    (bwu m hO c t) (ix3 0 k f) = (V m c main_v3 : Vec F S32x1024x2048 .bf16) (ix3 E k f) := by
  have e := map1 m t
  rw [hE] at e
  unfold bwu blk
  show V m c main_v3 ((((cfgM m hO).win 1).blk t).view.emb (ix3 0 k f)) = V m c main_v3 _
  refine congrArg (V m c main_v3) ?_
  funext a
  apply Fin.ext
  match a with
  | ⟨0, _⟩ =>
    show cc0_transform_1 k0_off1_inb numel1_S1 (tbl m) (grid0.coords t) 0 * 1 + 1 * 0 = E.val
    rw [e]; show E.val * 1 + 1 * 0 = _; omega
  | ⟨1, _⟩ =>
    show cc0_transform_1 k0_off1_inb numel1_S1 (tbl m) (grid0.coords t) 1 * 1024 + 1 * k.val = k.val
    rw [e]; show 0 * 1024 + 1 * k.val = _; omega
  | ⟨2, _⟩ =>
    show cc0_transform_1 k0_off1_inb numel1_S1 (tbl m) (grid0.coords t) 2 * 2048 + 1 * f.val = f.val
    rw [e]; show 0 * 2048 + 1 * f.val = _; omega

/-- and its bias; -/
theorem blk_bu (hO : Ok m) (c : Dev nD) (t : Fin grid0.N) (E : Fin 32) (hE : (be m (tile t)).toNat = E.val) (f : Fin 2048) :
    (bbu m hO c t) (ix3 0 0 f) = (V m c main_v7 : Vec F S32x1x2048 .f32) (ix3 E 0 f) := by
  have e := map2 m t
  rw [hE] at e
  unfold bbu blk
  show V m c main_v7 ((((cfgM m hO).win 2).blk t).view.emb (ix3 0 0 f)) = V m c main_v7 _
  refine congrArg (V m c main_v7) ?_
  funext a
  apply Fin.ext
  match a with
  | ⟨0, _⟩ =>
    show cc0_transform_2 k0_off1_inb numel1_S1 (tbl m) (grid0.coords t) 0 * 1 + 1 * 0 = E.val
    rw [e]; show E.val * 1 + 1 * 0 = _; omega
  | ⟨1, _⟩ =>
    show cc0_transform_2 k0_off1_inb numel1_S1 (tbl m) (grid0.coords t) 1 * 1 + 1 * 0 = 0
    rw [e]; rfl
  | ⟨2, _⟩ =>
    show cc0_transform_2 k0_off1_inb numel1_S1 (tbl m) (grid0.coords t) 2 * 2048 + 1 * f.val = f.val
    rw [e]; show 0 * 2048 + 1 * f.val = _; omega

/-- the second layer's weights, -/
theorem blk_wd (hO : Ok m) (c : Dev nD) (t : Fin grid0.N) (E : Fin 32) (hE : (be m (tile t)).toNat = E.val) (k : Fin 1024) (f : Fin 1024) :
    (bwd m hO c t) (ix3 0 k f) = (V m c main_v8 : Vec F S32x1024x1024 .bf16) (ix3 E k f) := by
  have e := map3 m t
  rw [hE] at e
  unfold bwd blk
  show V m c main_v8 ((((cfgM m hO).win 3).blk t).view.emb (ix3 0 k f)) = V m c main_v8 _
  refine congrArg (V m c main_v8) ?_
  funext a
  apply Fin.ext
  match a with
  | ⟨0, _⟩ =>
    show cc0_transform_3 k0_off1_inb numel1_S1 (tbl m) (grid0.coords t) 0 * 1 + 1 * 0 = E.val
    rw [e]; show E.val * 1 + 1 * 0 = _; omega
  | ⟨1, _⟩ =>
    show cc0_transform_3 k0_off1_inb numel1_S1 (tbl m) (grid0.coords t) 1 * 1024 + 1 * k.val = k.val
    rw [e]; show 0 * 1024 + 1 * k.val = _; omega
  | ⟨2, _⟩ =>
    show cc0_transform_3 k0_off1_inb numel1_S1 (tbl m) (grid0.coords t) 2 * 1024 + 1 * f.val = f.val
    rw [e]; show 0 * 1024 + 1 * f.val = _; omega

/-- and its bias. -/
theorem blk_bd (hO : Ok m) (c : Dev nD) (t : Fin grid0.N) (E : Fin 32) (hE : (be m (tile t)).toNat = E.val) (f : Fin 1024) :
    (bbd m hO c t) (ix3 0 0 f) = (V m c main_v9 : Vec F S32x1x1024 .f32) (ix3 E 0 f) := by
  have e := map4 m t
  rw [hE] at e
  unfold bbd blk
  show V m c main_v9 ((((cfgM m hO).win 4).blk t).view.emb (ix3 0 0 f)) = V m c main_v9 _
  refine congrArg (V m c main_v9) ?_
  funext a
  apply Fin.ext
  match a with
  | ⟨0, _⟩ =>
    show cc0_transform_4 k0_off1_inb numel1_S1 (tbl m) (grid0.coords t) 0 * 1 + 1 * 0 = E.val
    rw [e]; show E.val * 1 + 1 * 0 = _; omega
  | ⟨1, _⟩ =>
    show cc0_transform_4 k0_off1_inb numel1_S1 (tbl m) (grid0.coords t) 1 * 1 + 1 * 0 = 0
    rw [e]; rfl
  | ⟨2, _⟩ =>
    show cc0_transform_4 k0_off1_inb numel1_S1 (tbl m) (grid0.coords t) 2 * 1024 + 1 * f.val = f.val
    rw [e]; show 0 * 1024 + 1 * f.val = _; omega

/-! ## The result array -/

/-- The output's block index at a point is the point's number. -/
theorem map5 : ∀ t : Fin grid0.N, cc0_transform_5 (grid0.coords t) 0 = t.val ∧ cc0_transform_5 (grid0.coords t) 1 = 0 := by
  decide +kernel

/-- Every point writes its block back. -/
theorem flush5 (hO : Ok m) (t : Fin grid0.N) : ((cfgM m hO).win 5).flush t = true :=
  (Pipeline.Window.flushOf_reads cc0_transform_5 reads0_5 hreads0_5 0 (by decide) (by decide)
    (Pipeline.Window.sep_of_coord cc0_transform_5 0 0 (fun _ => rfl) (by decide)) (P := 1) (m := 0) (by decide) rfl t).mpr (Nat.mod_one _)

/-- Different points' blocks share no entry. -/
theorem disjoint5 (hO : Ok m) (t t' : Fin grid0.N) (hne : t ≠ t') :
    Disjoint (((cfgM m hO).win 5).blk t).view.set (((cfgM m hO).win 5).blk t').view.set :=
  ((cfgM m hO).win 5).disjoint_blk fun h => hne (Fin.ext (by
    have h0 : cc0_transform_5 (grid0.coords t) 0 = cc0_transform_5 (grid0.coords t') 0 := congrFun h (0 : Fin 2)
    rwa [(map5 t).1, (map5 t').1] at h0))

/-- The result array at an index: what the index's row tile stored there. -/
theorem result_at (hO : Ok m) (c : Dev nD) (t : Fin grid0.N) (r : Fin 256) (C : Fin 1024) (R : Fin 75776)
    (hR : R.val = 256 * t.val + r.val) :
    ((dats m hO 0 c).arrAt 5 (cfgM m hO).N : Vec F S75776x1024 .f32) (ix2 R C) = outAt m hO c t (ix2 r C) := by
  have e := (dats m hO 0 c).arrAt_emb_eq_flushed 5 (fun t t' _ _ h => disjoint5 m hO t t' h) t (flush5 m hO t) (ix2 r C)
  have hp : (((cfgM m hO).win 5).blk t).view.emb (ix2 r C) = (ix2 R C : S75776x1024.Idx) := by
    funext a
    apply Fin.ext
    match a with
    | ⟨0, _⟩ =>
      show cc0_transform_5 (grid0.coords t) 0 * 256 + 1 * r.val = R.val
      rw [(map5 t).1, hR]; omega
    | ⟨1, _⟩ =>
      show cc0_transform_5 (grid0.coords t) 1 * 1024 + 1 * C.val = C.val
      rw [(map5 t).2]; omega
  rw [hp] at e
  refine e.trans ?_
  show ((dats m hO 0 c).after 5 t) _ = _
  rw [left5]
  rfl

/-- A tile is live exactly below the count. -/
theorem live_iff (hG : Good m) (t : Fin grid0.N) (c : Dev nD) :
    k0_cond1 (grid0.coords t) (count c (tbl m 1)) = 1#1 ↔ (nv m).toNat ≤ t.val := by
  obtain ⟨-, g1, g2⟩ := hG
  have ht : t.val < 296 := lt_of_lt_of_eq t.isLt N_0
  rw [count_eq]
  unfold k0_cond1
  simp only [Scalar.cmpi, Scalar.extui, IntOp.cmpi]
  rw [coord]
  have e1 : (BitVec.ofNat 32 t.val).toNat = t.val := by rw [BitVec.toNat_ofNat]; omega
  have k1 := toInt_small (BitVec.ofNat 32 t.val) (by omega)
  have k2 := toInt_small (nv m) (by omega)
  by_cases h : (nv m).toNat ≤ t.val
  · have h' : (nv m).toInt ≤ (BitVec.ofNat 32 t.val).toInt := by rw [k1, k2, e1]; omega
    simp [BitVec.sle, h, h']
  · have h' : ¬ (nv m).toInt ≤ (BitVec.ofNat 32 t.val).toInt := by rw [k1, k2, e1]; omega
    simp only [BitVec.sle, h, h']
    simp

/-- A live point's block is the expert's two layers of the tile's rows, -/
theorem outAt_live (hO : Ok m) (hG : Good m) (c : Dev nD) (t : Fin grid0.N) (h : t.val < (nv m).toNat) :
    outAt m hO c t = k0_pay2 (k0_pay3 (bx m hO c t) (bwu m hO c t)
      (bbu m hO c t) (bwd m hO c t)) (k0_pay4 (bbd m hO c t)) := by
  unfold outAt
  rw [dif_neg (fun h1 => by have := (live_iff m hG t c).mp h1; omega)]
  exact liveOut_eq c (grid0.coords t) (st0 m hO t) (wh0 m hO t) (st1 m hO t) (wh1 m hO t) (st2 m hO t) (wh2 m hO t) (st3 m hO t)
    (wh3 m hO t) (st4 m hO t) (wh4 m hO t) (st5 m hO t) (wh5 m hO t) (bx m hO c t) (bwu m hO c t) (bbu m hO c t)
    (bwd m hO c t) (bbd m hO c t) (tbl m 0) (tbl m 1) _ _

/-- and a dead point's is zeros. -/
theorem outAt_dead (hO : Ok m) (hG : Good m) (c : Dev nD) (t : Fin grid0.N) (h : ¬ t.val < (nv m).toNat) :
    outAt m hO c t = k0_pay1 := by
  unfold outAt
  rw [dif_pos ((live_iff m hG t c).mpr (by omega))]
  exact deadOut_eq c (grid0.coords t) (st0 m hO t) (wh0 m hO t) (st1 m hO t) (wh1 m hO t) (st2 m hO t) (wh2 m hO t) (st3 m hO t)
    (wh3 m hO t) (st4 m hO t) (wh4 m hO t) (st5 m hO t) (wh5 m hO t) (bx m hO c t) (bwu m hO c t) (bbu m hO c t)
    (bwd m hO c t) (bbd m hO c t) (tbl m 0) (tbl m 1) _ _

end Cert.ExpertIdeal.Pv

end
-- ==== Proof.ExpertRef.lean ====
/-
  The reference's experts at an index: gathered weights, the clamped activation, and the mask of the live row tiles.
-/
module

public import proofs.«01_k».proof.Proof.Gen.ExpertRefIdeal.Read
public import Idealize.ShloMosaic.Lib.Pointwise

@[expose] public section

set_option maxRecDepth 16384

noncomputable section

namespace Cert.Proof.Expert

open Idealize.ShloMosaic

/-- The clamped activation of a gate and a linear entry. -/
def act (g l : EReal) : EReal :=
  min g (Ideal.ofBits .f32 0x40E00000#32)
      * Ideal.div (Ideal.ofBits .f32 0x3F800000#32) (Ideal.ofBits .f32 0x3F800000#32
          + Ideal.exp (-(Ideal.ofBits .f32 0x3FD9DB23#32 * min g (Ideal.ofBits .f32 0x40E00000#32))))
    * (min (Ideal.ofBits .f32 0x40E00000#32) (max (Ideal.ofBits .f32 0xC0E00000#32) l) + Ideal.ofBits .f32 0x3F800000#32)

section Gather

variable {α : Type}

/-- A gather of whole slices of a rank-3 operand, one per start index. -/
abbrev slabDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A gather of whole rows of a rank-2 operand, one per start index. -/
abbrev rowDims (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- Such a gather at an index whose start index is in range: the operand's slice of that number. -/
theorem slab_apply {N A B R w : Nat}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) (E : Fin N)
    (hE : (idx (ix2 r 0)).toInt.toNat = E.val) :
    Host.gather (slabDims N A B R wf) x idx (ix3 r a b) = x (ix3 E a b) := by
  unfold Host.gather
  congr 1
  funext d
  refine Fin.ext ?_
  show (slabDims N A B R wf).start (ix3 r a b) idx d + (slabDims N A B R wf).batchCoord (ix3 r a b) d + (slabDims N A B R wf).offCoord (ix3 r a b) d = _
  rw [GatherDims.batchCoord_eq_zero _ _ _ List.not_mem_nil]
  match d with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (slabDims N A B R wf).siIdx (ix3 r a b) ⟨List.idxOf (0 : Fin 3) (slabDims N A B R wf).startIndexMap,
        List.idxOf_lt_length_iff.2 (List.mem_singleton.mpr rfl)⟩ = ix2 r 0 := by
      funext e; refine Fin.ext ?_
      match e with
      | ⟨0, _⟩ => rfl
      | ⟨1, _⟩ => rfl
    have hN := E.isLt
    refine (congrArg (fun z => min (idx z).toInt.toNat (N - 1)) hsi).trans ?_
    show min (idx (ix2 r 0)).toInt.toNat (N - 1) = E.val
    rw [hE]
    omega
  | ⟨1, _⟩ =>
    unfold GatherDims.start
    rw [dif_neg (fun h => absurd (congrArg Fin.val (List.mem_singleton.mp h)) (by decide : ¬ (1 : Nat) = 0))]
    show 0 + 0 + a.val = a.val
    omega
  | ⟨2, _⟩ =>
    unfold GatherDims.start
    rw [dif_neg (fun h => absurd (congrArg Fin.val (List.mem_singleton.mp h)) (by decide : ¬ (2 : Nat) = 0))]
    show 0 + 0 + b.val = b.val
    omega

/-- The same of rows. -/
theorem row_apply {N A R w : Nat}
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) (E : Fin N)
    (hE : (idx (ix2 r 0)).toInt.toNat = E.val) :
    Host.gather (rowDims N A R wf) x idx (ix2 r a) = x (ix2 E a) := by
  unfold Host.gather
  congr 1
  funext d
  refine Fin.ext ?_
  show (rowDims N A R wf).start (ix2 r a) idx d + (rowDims N A R wf).batchCoord (ix2 r a) d + (rowDims N A R wf).offCoord (ix2 r a) d = _
  rw [GatherDims.batchCoord_eq_zero _ _ _ List.not_mem_nil]
  match d with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (rowDims N A R wf).siIdx (ix2 r a) ⟨List.idxOf (0 : Fin 2) (rowDims N A R wf).startIndexMap,
        List.idxOf_lt_length_iff.2 (List.mem_singleton.mpr rfl)⟩ = ix2 r 0 := by
      funext e; refine Fin.ext ?_
      match e with
      | ⟨0, _⟩ => rfl
      | ⟨1, _⟩ => rfl
    have hN := E.isLt
    refine (congrArg (fun z => min (idx z).toInt.toNat (N - 1)) hsi).trans ?_
    show min (idx (ix2 r 0)).toInt.toNat (N - 1) = E.val
    rw [hE]
    omega
  | ⟨1, _⟩ =>
    unfold GatherDims.start
    rw [dif_neg (fun h => absurd (congrArg Fin.val (List.mem_singleton.mp h)) (by decide : ¬ (1 : Nat) = 0))]
    show 0 + 0 + a.val = a.val
    omega

end Gather

end Cert.Proof.Expert

namespace Cert.ExpertRefIdeal.Pv

open Cert.ExpertRefIdeal Cert.ExpertRefIdeal.Gen Cert.ExpertRefIdeal.Read Idealize.ShloMosaic Idealize.ShloMosaic.TcCoe Idealize.SL.Sem
open Cert.Proof.Expert

set_option maxHeartbeats 1000000 in
/-- The activation's entry from the first layer's. -/
theorem act_apply (x0 : Vec Ideal S296 .i32) (x2 : Vec Ideal S75776x1024 .f32) (x3 : Vec Ideal S32x1024x2048 .f32) (x4 : Vec Ideal S32x2048 .f32)
    (t : Fin 296) (r : Fin 256) (f : Fin 1024) :
    val_main_v35 (F := Ideal) x0 x2 x3 x4 (ix3 t r f)
      = act (val_main_v18 (F := Ideal) x0 x2 x3 x4 (ix3 t r ⟨2 * f.val, by omega⟩))
          (val_main_v18 (F := Ideal) x0 x2 x3 x4 (ix3 t r ⟨2 * f.val + 1, by omega⟩)) := by
  unfold val_main_v35 val_main_v34 val_main_v33 val_main_v32 val_main_v31 val_main_v30 val_main_v29 val_main_v28 val_main_v27
    val_main_v26 val_main_v25 val_main_v24 val_main_v23 val_main_v21 val_main_v20 val_main_v19
    val_main_call0_v4 val_main_call0_v3 val_main_call0_v2 val_main_call0_v1 val_main_call0_v0 val_main_v22
  generalize val_main_v18 (F := Ideal) x0 x2 x3 x4 = y
  pointwise [val_main_cst, val_main_cst_3, val_main_cst_4, val_main_cst_5, val_main_cst_6, val_main_cst_7, val_main_cst_8, act]
  simp only [Nat.add_comm 1 (2 * f.val)]
  rfl

set_option maxHeartbeats 1000000 in
/-- The first layer's entry from the gathered weights and biases. -/
theorem first_apply (x0 : Vec Ideal S296 .i32) (x2 : Vec Ideal S75776x1024 .f32) (x3 : Vec Ideal S32x1024x2048 .f32) (x4 : Vec Ideal S32x2048 .f32)
    (t : Fin 296) (r : Fin 256) (f : Fin 2048) (R : Fin 75776) (hR : R.val = 256 * t.val + r.val) :
    val_main_v18 (F := Ideal) x0 x2 x3 x4 (ix3 t r f)
      = (∑ k : Fin 1024, x2 (ix2 R k) * val_main_v7 (F := Ideal) x0 x3 (ix3 t k f)) + val_main_v15 (F := Ideal) x0 x4 (ix2 t f) := by
  unfold val_main_v18 val_main_v17 val_main_v16 val_main_v8 val_main_v0
  generalize val_main_v7 (F := Ideal) x0 x3 = w
  generalize val_main_v15 (F := Ideal) x0 x4 = b
  have hb : 256 * t.val + r.val < 75776 := by omega
  obtain rfl : R = ⟨256 * t.val + r.val, hb⟩ := Fin.ext hR
  pointwise
  simp only [Nat.mul_comm t.val 256]

set_option maxHeartbeats 1000000 in
/-- The second layer's entry from the activation and the gathered weights and biases, where the row tile is live; zero where it is not. -/
theorem second_apply (x0 : Vec Ideal S296 .i32) (x1 : Vec Ideal S1 .i32) (x2 : Vec Ideal S75776x1024 .f32) (x3 : Vec Ideal S32x1024x2048 .f32)
    (x4 : Vec Ideal S32x2048 .f32) (x5 : Vec Ideal S32x1024x1024 .f32) (x6 : Vec Ideal S32x1024 .f32)
    (t : Fin 296) (r : Fin 256) (C : Fin 1024) (R : Fin 75776) (hR : R.val = 256 * t.val + r.val) :
    val_main_v60 (F := Ideal) x0 x1 x2 x3 x4 x5 x6 (ix2 R C)
      = if IntOp.cmpi .slt (BitVec.ofNat 32 t.val) (x1 (ix1 0)) = 1#1 then
          (∑ k : Fin 1024, val_main_v35 (F := Ideal) x0 x2 x3 x4 (ix3 t r k) * val_main_v42 (F := Ideal) x0 x5 (ix3 t k C))
            + val_main_v50 (F := Ideal) x0 x6 (ix2 t C)
        else 0 := by
  unfold val_main_v60 val_main_v59 val_main_call1_v1 val_main_call1_v2 val_main_call1_v0 val_main_v58 val_main_v57 val_main_v56
    val_main_v55 val_main_v54 val_main_v53 val_main_v52 val_main_v51 val_main_v43
  generalize val_main_v35 (F := Ideal) x0 x2 x3 x4 = h
  generalize val_main_v42 (F := Ideal) x0 x5 = w
  generalize val_main_v50 (F := Ideal) x0 x6 = b
  have hb : 256 * t.val + r.val < 75776 := by omega
  obtain rfl : R = ⟨256 * t.val + r.val, hb⟩ := Fin.ext hR
  pointwise [val_main_cst_13]
  rw [← Ideal.ofBits_zero_f32]
  rfl

end Cert.ExpertRefIdeal.Pv

end
-- ==== Proof.ExpertHost.lean ====
/-
  The experts' weights as the kernel reads them: the first layer's columns with the even ones before the odd ones.
-/
module

public import proofs.«01_k».proof.Proof.ExpertBlock
public import proofs.«01_k».proof.Proof.ExpertRef
public import Idealize.ShloMosaic.Lib.Pointwise

@[expose] public section

set_option maxRecDepth 16384

noncomputable section

namespace Cert.ExpertIdeal.Pv

open Cert.ExpertIdeal Cert.ExpertIdeal.Gen Idealize.ShloMosaic Idealize.ShloMosaic.TcCoe Idealize.SL.Sem
open Cert.Proof.Expert

variable (m : (ℓ : Loc nD τ sig) → Buf (Elt Ideal) ℓ)

/-- The first layer's weights with the even columns before the odd ones, -/
def halves (w : Vec Ideal S32x1024x2048 .f32) : Vec Ideal S32x1024x2048 .bf16 :=
  truncf (F := Ideal) .bf16 (concatenate S32x1024x2048 2 [
      ⟨S32x1024x1024, (Host.slice S32x1024x1024 ![0, 0, 0] ![1, 1, 2] w slicesBy_S32x1024x2048_S32x1024x1024_0s1_0s1_0s2 : Vec Ideal S32x1024x1024 .f32)⟩,
      ⟨S32x1024x1024, (Host.slice S32x1024x1024 ![0, 0, 1] ![1, 1, 2] w slicesBy_S32x1024x2048_S32x1024x1024_0s1_0s1_1s2 : Vec Ideal S32x1024x1024 .f32)⟩]
    concatenates_S32x1024x1024_S32x1024x1024_S32x1024x2048_d2) bitsLt_bf16_f32

/-- and its bias likewise. -/
def halvesB (b : Vec Ideal S32x2048 .f32) : Vec Ideal S32x1x2048 .f32 :=
  shapeCast S32x1x2048 (concatenate S32x2048 1 [
      ⟨S32x1024, (Host.slice S32x1024 ![0, 0] ![1, 2] b slicesBy_S32x2048_S32x1024_0s1_0s2 : Vec Ideal S32x1024 .f32)⟩,
      ⟨S32x1024, (Host.slice S32x1024 ![0, 1] ![1, 2] b slicesBy_S32x2048_S32x1024_0s1_1s2 : Vec Ideal S32x1024 .f32)⟩]
    concatenates_S32x1024_S32x1024_S32x2048_d1 : Vec Ideal S32x2048 .f32) shapeCasts_S32x2048_S32x1x2048

/-- The region reads these, -/
theorem wu_eq (c : Dev nD) : (V m c main_v3 : Vec Ideal S32x1024x2048 .bf16) = halves (m ((c : Thread nD τ).loc main_arg3)) := by
  unfold V
  after_results <;> first | rfl | (unfold halves; rfl)

theorem bu_eq (c : Dev nD) : (V m c main_v7 : Vec Ideal S32x1x2048 .f32) = halvesB (m ((c : Thread nD τ).loc main_arg4)) := by
  unfold V
  after_results <;> first | rfl | (unfold halvesB; rfl)

/-- and the second layer's weights and bias as they are. -/
theorem wd_eq (c : Dev nD) (E : Fin 32) (k f : Fin 1024) : (V m c main_v8 : Vec Ideal S32x1024x1024 .bf16) (ix3 E k f)
    = (m ((c : Thread nD τ).loc main_arg5) : Vec Ideal S32x1024x1024 .f32) (ix3 E k f) := by
  have e : (V m c main_v8 : Vec Ideal S32x1024x1024 .bf16)
      = truncf (F := Ideal) .bf16 (m ((c : Thread nD τ).loc main_arg5) : Vec Ideal S32x1024x1024 .f32) bitsLt_bf16_f32 := by
    unfold V
    after_results <;> rfl
  rw [e]
  pointwise

theorem bd_eq (c : Dev nD) (E : Fin 32) (f : Fin 1024) : (V m c main_v9 : Vec Ideal S32x1x1024 .f32) (ix3 E 0 f)
    = (m ((c : Thread nD τ).loc main_arg6) : Vec Ideal S32x1024 .f32) (ix2 E f) := by
  have e : (V m c main_v9 : Vec Ideal S32x1x1024 .f32)
      = shapeCast S32x1x1024 (m ((c : Thread nD τ).loc main_arg6) : Vec Ideal S32x1024 .f32) shapeCasts_S32x1024_S32x1x1024 := by
    unfold V
    after_results <;> rfl
  rw [e]
  pointwise

set_option maxHeartbeats 1000000 in
/-- The reordered weights at an index: the first half's column `f` is the even column `2 f`, -/
theorem halves_even (w : Vec Ideal S32x1024x2048 .f32) (E : Fin 32) (k f : Fin 1024) :
    halves w (ix3 E k ⟨f.val, by omega⟩) = w (ix3 E k ⟨2 * f.val, by omega⟩) := by
  pointwise [halves]

set_option maxHeartbeats 1000000 in
/-- and the second half's the odd column `2 f + 1`; -/
theorem halves_odd (w : Vec Ideal S32x1024x2048 .f32) (E : Fin 32) (k f : Fin 1024) :
    halves w (ix3 E k ⟨1024 + f.val, by omega⟩) = w (ix3 E k ⟨2 * f.val + 1, by omega⟩) := by
  pointwise [halves]
  simp only [Nat.add_comm 1 (2 * f.val)]

set_option maxHeartbeats 1000000 in
/-- the biases likewise. -/
theorem halvesB_even (b : Vec Ideal S32x2048 .f32) (E : Fin 32) (f : Fin 1024) :
    halvesB b (ix3 E 0 ⟨f.val, by omega⟩) = b (ix2 E ⟨2 * f.val, by omega⟩) := by
  pointwise [halvesB]

set_option maxHeartbeats 1000000 in
theorem halvesB_odd (b : Vec Ideal S32x2048 .f32) (E : Fin 32) (f : Fin 1024) :
    halvesB b (ix3 E 0 ⟨1024 + f.val, by omega⟩) = b (ix2 E ⟨2 * f.val + 1, by omega⟩) := by
  pointwise [halvesB]
  simp only [Nat.add_comm 1 (2 * f.val)]

set_option maxHeartbeats 1000000 in
/-- One element of a live block: the activation of the first layer's two halves against the second layer's weights. -/
theorem pay_apply (x : Vec Ideal S256x1024 .f32) (wu : Vec Ideal S1x1024x2048 .bf16) (bu : Vec Ideal S1x1x2048 .f32)
    (wd : Vec Ideal S1x1024x1024 .bf16) (bd : Vec Ideal S1x1x1024 .f32) (r : Fin 256) (C : Fin 1024) :
    k0_pay2 (k0_pay3 x wu bu wd) (k0_pay4 bd) (ix2 r C)
      = (∑ f : Fin 1024, act
            ((∑ k : Fin 1024, x (ix2 r k) * wu (ix3 0 k ⟨f.val, by omega⟩)) + bu (ix3 0 0 ⟨f.val, by omega⟩))
            ((∑ k : Fin 1024, x (ix2 r k) * wu (ix3 0 k ⟨1024 + f.val, by omega⟩)) + bu (ix3 0 0 ⟨1024 + f.val, by omega⟩))
          * wd (ix3 0 f C)) + bd (ix3 0 0 C) := by
  pointwise [k0_pay2, k0_pay3, k0_pay4, act]
  simp only [zero_sub]

end Cert.ExpertIdeal.Pv

end
-- ==== Proof.ExpertTables.lean ====
/-
  What the tables' precondition says of the words: every expert is one of the 32, and the count of live row tiles is
  between one and the number of row tiles.
-/
module

public import proofs.«01_k».proof.Pre_tables_ok
public import Idealize.ShloMosaic.Lib.ReduceAll
public import Idealize.ShloMosaic.Lib.ValueIdx

@[expose] public section

noncomputable section

namespace Cert.Proof.Expert

open Idealize.ShloMosaic Cert.Pre_tables_ok Cert.Pre_tables_ok.Facts
open Idealize.ShloMosaic.ValueIdx (ix0 ix1)

/-- The shape relations the precondition's operations take. -/
instance preFacts : Cert.Pre_tables_ok.Facts where
  bcast_S_S296 := by decide
  reducesTo_S296_S_d0 := by decide
  h_S_ := by decide
  bcast_S_S1 := by decide
  reducesTo_S1_S_d0 := by decide

/-- A conjunction of two bits is set only when both are. -/
theorem and_bits : ∀ x y : BitVec 1, IntOp.andi x y = 1#1 → x = 1#1 ∧ y = 1#1 := by decide

/-- A bit made of a truth value is set only when it is true. -/
theorem bit_true : ∀ b : Bool, BitVec.ofBool b = 1#1 → b = true := by decide

/-- A word at least zero and below 32, both read signed, is below 32 as a natural. -/
theorem word_below (x : BitVec 32) (h0 : IntOp.cmpi .sge x 0#32 = 1#1) (h1 : IntOp.cmpi .slt x 32#32 = 1#1) : x.toNat < 32 := by
  have e0 : (0#32).toInt ≤ x.toInt := of_decide_eq_true (bit_true _ h0)
  have e1 : x.toInt < (32#32).toInt := of_decide_eq_true (bit_true _ h1)
  have z0 : (0#32).toInt = 0 := by decide
  have z1 : (32#32).toInt = 32 := by decide
  rw [z0] at e0
  rw [z1] at e1
  have e := BitVec.toInt_eq_toNat_cond x
  have hx := x.isLt
  split at e <;> omega

/-- A word between 1 and 296, read signed, is so as a natural. -/
theorem word_between (x : BitVec 32) (h0 : IntOp.cmpi .sge x 1#32 = 1#1) (h1 : IntOp.cmpi .sle x 296#32 = 1#1) :
    1 ≤ x.toNat ∧ x.toNat ≤ 296 := by
  have e0 : (1#32).toInt ≤ x.toInt := of_decide_eq_true (bit_true _ h0)
  have e1 : x.toInt ≤ (296#32).toInt := of_decide_eq_true (bit_true _ h1)
  have z0 : (1#32).toInt = 1 := by decide
  have z1 : (296#32).toInt = 296 := by decide
  rw [z0] at e0
  rw [z1] at e1
  have e := BitVec.toInt_eq_toNat_cond x
  have hx := x.isLt
  split at e <;> omega

instance : Subsingleton S_.Idx := ⟨fun i j => funext fun a => a.elim0⟩

/-- The precondition, read: what it says of the two tables. -/
theorem tables {F : FTy → Type} [FloatOps F] [Cert.Pre_tables_ok.Facts] (b : IVec S296 32) (n : IVec S1 32) (x2 : FVec F S75776x1024 .f32)
    (x3 : FVec F S32x1024x2048 .f32) (x4 : FVec F S32x2048 .f32) (x5 : FVec F S32x1024x1024 .f32) (x6 : FVec F S32x1024 .f32)
    (h : Cert.Pre_tables_ok.fn (F := F) b n x2 x3 x4 x5 x6 = fun _ => 1#1) :
    (∀ t : Fin 296, (b (ix1 t)).toNat < 32) ∧ 1 ≤ (n (ix1 0)).toNat ∧ (n (ix1 0)).toNat ≤ 296 := by
  have h0 := congrFun h ix0
  unfold Cert.Pre_tables_ok.fn at h0
  obtain ⟨h1, e3⟩ := and_bits _ _ h0
  obtain ⟨h2, e2⟩ := and_bits _ _ h1
  obtain ⟨e0, e1⟩ := and_bits _ _ h2
  refine ⟨fun t => word_below _ ?_ ?_, word_between _ ?_ ?_⟩
  · exact Host.reduce_andi_all _ _ _ _ ix0 e0 (ix1 t)
  · exact Host.reduce_andi_all _ _ _ _ ix0 e1 (ix1 t)
  · exact Host.reduce_andi_all _ _ _ _ ix0 e2 (ix1 0)
  · exact Host.reduce_andi_all _ _ _ _ ix0 e3 (ix1 0)

end Cert.Proof.Expert

end
-- ==== Proof.ExpertEq.lean ====
/-
  The experts: the kernel's grouped two-layer products over the row tiles are the reference's, tile by tile.
-/
module

public import proofs.«01_k».proof.Proof.ExpertHost
public import proofs.«01_k».proof.Proof.ExpertRef
public import proofs.«01_k».proof.Proof.ExpertTables
public import proofs.«01_k».proof.Defs
public import Idealize.ShloMosaic.Lib.Quiescent

@[expose] public section

set_option maxRecDepth 16384

noncomputable section

namespace Cert.ExpertRefIdeal.Pv

open Cert.ExpertRefIdeal Cert.ExpertRefIdeal.Gen Cert.ExpertRefIdeal.Read Idealize.ShloMosaic Idealize.ShloMosaic.TcCoe Idealize.SL.Sem
open Cert.Proof.Expert

/-- A word below 32 is not negative. -/
theorem not_negative (x : BitVec 32) (h : x.toNat < 32) : IntOp.cmpi .slt x 0#32 = 0#1 := by
  have e := BitVec.toInt_eq_toNat_cond x
  have z : (0#32).toInt = 0 := by decide
  have h' : ¬ x.toInt < (0#32).toInt := by rw [z]; split at e <;> omega
  show BitVec.ofBool (decide (x.toInt < (0#32).toInt)) = 0#1
  rw [decide_eq_false h']; rfl

/-- and reads the same signed as unsigned. -/
theorem signed_small (x : BitVec 32) (h : x.toNat < 1000) : x.toInt = (x.toNat : Int) := by
  rw [BitVec.toInt_eq_toNat_cond]; split <;> omega

/-- The words the four gathers start at are the experts of the row tiles. -/
theorem starts (x0 : Vec Ideal S296 .i32) (t : Fin 296) (h : ((x0 (ix1 t) : BitVec 32)).toNat < 32) :
    val_main_v6 (F := Ideal) x0 (ix2 t 0) = x0 (ix1 t) ∧ val_main_v14 (F := Ideal) x0 (ix2 t 0) = x0 (ix1 t)
    ∧ val_main_v41 (F := Ideal) x0 (ix2 t 0) = x0 (ix1 t) ∧ val_main_v49 (F := Ideal) x0 (ix2 t 0) = x0 (ix1 t) := by
  have e := not_negative _ h
  refine ⟨?_, ?_, ?_, ?_⟩
  · pointwise [val_main_v6, val_main_v5, val_main_v4, val_main_v3, val_main_v2, val_main_v1, val_main_c, val_main_c_0]
    rw [e]; rfl
  · pointwise [val_main_v14, val_main_v13, val_main_v12, val_main_v11, val_main_v10, val_main_v9, val_main_c_1, val_main_c_2]
    rw [e]; rfl
  · pointwise [val_main_v41, val_main_v40, val_main_v39, val_main_v38, val_main_v37, val_main_v36, val_main_c_9, val_main_c_10]
    rw [e]; rfl
  · pointwise [val_main_v49, val_main_v48, val_main_v47, val_main_v46, val_main_v45, val_main_v44, val_main_c_11, val_main_c_12]
    rw [e]; rfl

section Gathered

variable (x0 : Vec Ideal S296 .i32) (x3 : Vec Ideal S32x1024x2048 .f32) (x4 : Vec Ideal S32x2048 .f32) (x5 : Vec Ideal S32x1024x1024 .f32)
    (x6 : Vec Ideal S32x1024 .f32) (t : Fin 296) (E : Fin 32) (hE : ((x0 (ix1 t) : BitVec 32)).toNat = E.val)

include hE

/-- A start word read signed is the expert's number. -/
theorem start_val (w : BitVec 32) (h : w = x0 (ix1 t)) : w.toInt.toNat = E.val := by
  have := E.isLt
  rw [h, signed_small _ (by omega), Int.toNat_natCast, hE]

/-- The gathered first layer's weights and bias, -/
theorem gather_wu (k : Fin 1024) (f : Fin 2048) : val_main_v7 (F := Ideal) x0 x3 (ix3 t k f) = x3 (ix3 E k f) :=
  slab_apply gather_S32x1024x2048_S296x1_S296x1024x2048_12_0_n_n_0_1_110242048_wf x3 _ t k f E
    (start_val x0 t E hE _ (starts x0 t (by have := E.isLt; omega)).1)

theorem gather_bu (f : Fin 2048) : val_main_v15 (F := Ideal) x0 x4 (ix2 t f) = x4 (ix2 E f) :=
  row_apply gather_S32x2048_S296x1_S296x2048_1_0_n_n_0_1_12048_wf x4 _ t f E
    (start_val x0 t E hE _ (starts x0 t (by have := E.isLt; omega)).2.1)

/-- and the second layer's. -/
theorem gather_wd (k f : Fin 1024) : val_main_v42 (F := Ideal) x0 x5 (ix3 t k f) = x5 (ix3 E k f) :=
  slab_apply gather_S32x1024x1024_S296x1_S296x1024x1024_12_0_n_n_0_1_110241024_wf x5 _ t k f E
    (start_val x0 t E hE _ (starts x0 t (by have := E.isLt; omega)).2.2.1)

theorem gather_bd (f : Fin 1024) : val_main_v50 (F := Ideal) x0 x6 (ix2 t f) = x6 (ix2 E f) :=
  row_apply gather_S32x1024_S296x1_S296x1024_1_0_n_n_0_1_11024_wf x6 _ t f E
    (start_val x0 t E hE _ (starts x0 t (by have := E.isLt; omega)).2.2.2)

end Gathered

/-- The mask's word: a row tile is live exactly below the count. -/
theorem live_word (n : BitVec 32) (hn : n.toNat ≤ 296) (t : Nat) (ht : t < 296) :
    IntOp.cmpi .slt (BitVec.ofNat 32 t) n = 1#1 ↔ t < n.toNat := by
  have e1 : (BitVec.ofNat 32 t).toNat = t := by rw [BitVec.toNat_ofNat]; omega
  have k1 := signed_small (BitVec.ofNat 32 t) (by omega)
  have k2 := signed_small n (by omega)
  show BitVec.ofBool (decide ((BitVec.ofNat 32 t).toInt < n.toInt)) = 1#1 ↔ _
  rw [k1, k2, e1]
  by_cases h : t < n.toNat
  · rw [decide_eq_true (by omega)]; exact ⟨fun _ => h, fun _ => rfl⟩
  · rw [decide_eq_false (by omega)]; exact ⟨fun h' => absurd h' (by decide), fun h' => absurd h' h⟩

end Cert.ExpertRefIdeal.Pv

namespace Cert.Proof.Expert

open Cert.ExpertIdeal Cert.ExpertIdeal.Gen Cert.ExpertIdeal.Pv Idealize.ShloMosaic Idealize.ShloMosaic.TcCoe Idealize.SL.Sem

variable (m : (ℓ : Loc nD τ sig) → Buf (Elt Ideal) ℓ)

/-- The kernel's result array is the reference's, entry by entry. -/
theorem result_eq (hO : Ok m) (hG : Good m) (c : Dev nD) :
    ((dats m hO 0 c).arrAt 5 (cfgM m hO).N : Vec Ideal S75776x1024 .f32) = Cert.ExpertRefIdeal.Read.val_main_v60 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  obtain rfl : c = 0 := Subsingleton.elim _ _
  refine funext fun (i : S75776x1024.Idx) => ?_
  obtain ⟨R, C, rfl⟩ : ∃ (R : Fin 75776) (C : Fin 1024), i = ix2 R C := ⟨i 0, i 1, eq_ix2 i⟩
  have hRl := R.isLt
  have ht : R.val / 256 < 296 := by omega
  have hr : R.val % 256 < 256 := by omega
  have hR : R.val = 256 * (R.val / 256) + R.val % 256 := by omega
  have hb : (be m ⟨R.val / 256, ht⟩).toNat < 32 := hG.1 ⟨R.val / 256, ht⟩
  have hn := hG.2.2
  have hNt : R.val / 256 < grid0.N := lt_of_lt_of_eq ht N_0.symm
  rw [result_at m hO 0 ⟨R.val / 256, hNt⟩ ⟨R.val % 256, hr⟩ C R hR,
    Cert.ExpertRefIdeal.Pv.second_apply _ _ _ _ _ _ _ ⟨R.val / 256, ht⟩ ⟨R.val % 256, hr⟩ C R hR]
  have hw := Cert.ExpertRefIdeal.Pv.live_word (nv m) hn (R.val / 256) ht
  by_cases hl : R.val / 256 < (nv m).toNat
  · refine Eq.trans ?_ (if_pos (hw.mpr hl)).symm
    rw [outAt_live m hO hG 0 ⟨R.val / 256, hNt⟩ hl, pay_apply]
    have hE : (be m (tile ⟨R.val / 256, hNt⟩)).toNat = (⟨(be m ⟨R.val / 256, ht⟩).toNat, hb⟩ : Fin 32).val := rfl
    generalize (⟨(be m ⟨R.val / 256, ht⟩).toNat, hb⟩ : Fin 32) = E at hE
    have ex : ∀ k : Fin 1024, (bx m hO 0 ⟨R.val / 256, hNt⟩) (ix2 ⟨R.val % 256, hr⟩ k)
        = (m (((0 : Dev nD) : Thread nD τ).loc main_arg2) : Vec Ideal S75776x1024 .f32) (ix2 R k) := fun k => by
      rw [blk_x m hO hG 0 ⟨R.val / 256, hNt⟩ hl ⟨R.val % 256, hr⟩ k R hR, (V_args m 0).2.2.1]
    have e1 : ∀ k f : Fin 1024, (bwu m hO 0 ⟨R.val / 256, hNt⟩) (ix3 0 k ⟨f.val, by omega⟩)
        = (m (((0 : Dev nD) : Thread nD τ).loc main_arg3) : Vec Ideal S32x1024x2048 .f32) (ix3 E k ⟨2 * f.val, by omega⟩) := fun k f => by
      rw [blk_wu m hO 0 _ E hE, wu_eq, halves_even]
    have e2 : ∀ k f : Fin 1024, (bwu m hO 0 ⟨R.val / 256, hNt⟩) (ix3 0 k ⟨1024 + f.val, by omega⟩)
        = (m (((0 : Dev nD) : Thread nD τ).loc main_arg3) : Vec Ideal S32x1024x2048 .f32) (ix3 E k ⟨2 * f.val + 1, by omega⟩) := fun k f => by
      rw [blk_wu m hO 0 _ E hE, wu_eq, halves_odd]
    have e3 : ∀ f : Fin 1024, (bbu m hO 0 ⟨R.val / 256, hNt⟩) (ix3 0 0 ⟨f.val, by omega⟩)
        = (m (((0 : Dev nD) : Thread nD τ).loc main_arg4) : Vec Ideal S32x2048 .f32) (ix2 E ⟨2 * f.val, by omega⟩) := fun f => by
      rw [blk_bu m hO 0 _ E hE, bu_eq, halvesB_even]
    have e4 : ∀ f : Fin 1024, (bbu m hO 0 ⟨R.val / 256, hNt⟩) (ix3 0 0 ⟨1024 + f.val, by omega⟩)
        = (m (((0 : Dev nD) : Thread nD τ).loc main_arg4) : Vec Ideal S32x2048 .f32) (ix2 E ⟨2 * f.val + 1, by omega⟩) := fun f => by
      rw [blk_bu m hO 0 _ E hE, bu_eq, halvesB_odd]
    have e5 : ∀ k f : Fin 1024, (bwd m hO 0 ⟨R.val / 256, hNt⟩) (ix3 0 k f)
        = (m (((0 : Dev nD) : Thread nD τ).loc main_arg5) : Vec Ideal S32x1024x1024 .f32) (ix3 E k f) := fun k f => by
      rw [blk_wd m hO 0 _ E hE, wd_eq]
    have e6 : ∀ f : Fin 1024, (bbd m hO 0 ⟨R.val / 256, hNt⟩) (ix3 0 0 f)
        = (m (((0 : Dev nD) : Thread nD τ).loc main_arg6) : Vec Ideal S32x1024 .f32) (ix2 E f) := fun f => by
      rw [blk_bd m hO 0 _ E hE, bd_eq]
    simp only [ex, e1, e2, e3, e4, e5, e6]
    simp only [Cert.ExpertRefIdeal.Pv.act_apply, Cert.ExpertRefIdeal.Pv.first_apply _ _ _ _ ⟨R.val / 256, ht⟩ ⟨R.val % 256, hr⟩ _ R hR,
      Cert.ExpertRefIdeal.Pv.gather_wu _ _ _ E hE, Cert.ExpertRefIdeal.Pv.gather_bu _ _ _ E hE,
      Cert.ExpertRefIdeal.Pv.gather_wd _ _ _ E hE, Cert.ExpertRefIdeal.Pv.gather_bd _ _ _ E hE]
    rfl
  · refine Eq.trans ?_ (if_neg (fun h => hl (hw.mp h))).symm
    rw [outAt_dead m hO hG 0 ⟨R.val / 256, hNt⟩ hl, ← Ideal.ofBits_zero_f32]
    rfl

/-- The precondition of the experts' program, read. -/
theorem good (h : Cert.Pre_ExpertIdeal m) : Good m := tables _ _ _ _ _ _ _ (h 0)

/-- The experts' kernel and its reference leave the same result. -/
theorem algebraic : Cert.algebraic_ExpertIdeal_ExpertRefIdeal := by
  intro m ρ m' ρ' hpre hagree
  have hG := good m hpre
  have hO := ok_of_good m hG
  refine ⟨fun c => (dats m hO 0 c).arrAt 5 (cfgM m hO).N, ?_, ?_⟩
  · exact (θ_run defs _ _).mono (fun _ h c => ends m hO c h.1) (run_quiet m ρ hO)
  · refine (θ_run Cert.ExpertRefIdeal.defs _ _).mono (fun _ h c => ⟨((h c).1.trans ?_), (h c).2⟩)
      (Cert.ExpertRefIdeal.Value.run (F := Ideal) m' ρ')
    obtain ⟨a0, a1, a2, a3, a4, a5, a6⟩ := hagree c
    rw [Cert.ExpertRefIdeal.Read.val_main_v60_eq, a0, a1, a2, a3, a4, a5, a6]
    exact (result_eq m hO hG c).symm

end Cert.Proof.Expert

end
-- ==== Proof.AttnHead.lean ====
/-
  The prompt attention: what one grid point leaves in its output block, as sixteen heads of one form.
-/
module

public import proofs.«01_k».proof.Proof.Gen.AttnIdeal.Value
public import Idealize.ShloMosaic.Lib.Pointwise
public import Idealize.ShloMosaic.Lib.Tactic

@[expose] public section

set_option maxRecDepth 16384

noncomputable section

namespace Cert.AttnIdeal.Pv

open Cert.AttnIdeal Cert.AttnIdeal.Gen Idealize.ShloMosaic Idealize.ShloMosaic.TcCoe Idealize.SL.Sem

variable {F : FTy → Type} [FloatOps F]

/-- Masked scores of a head against one block of keys. -/
def scores (mask : IVec S128x128 1) (q k : FVec F S128x64 .bf16) : FVec F S128x128 .f32 :=
  select mask (matmul dot_S128x64_S128x64_S128x128_1_1_0_0_n_n none q k (constant S128x128 .f32 0x00000000#32))
    (broadcast S128x128 (Scalar.ofBits .f32 0xFF800000#32))

/-- The largest of a row's two blocks of scores and of the sink. -/
def top (sp sc : FVec F S128x128 .f32) (s : Elt F .f32) : FVec F S128x1 .f32 :=
  maximumf (maximumf
      (shapeCast S128x1 (multiReduction .maximumf [1] S128 sp 0xFF800000#32 reduces_S128x128_S128 (.inl rfl) rfl) shapeCasts_S128_S128x1)
      (shapeCast S128x1 (multiReduction .maximumf [1] S128 sc 0xFF800000#32 reduces_S128x128_S128 (.inl rfl) rfl) shapeCasts_S128_S128x1))
    (broadcast S128x1 s)

/-- The exponentials of a block of scores below the row's largest. -/
def expo (sc : FVec F S128x128 .f32) (t : FVec F S128x1 .f32) : FVec F S128x128 .f32 :=
  exp (subf sc (broadcastTo S128x128 t broadcasts_S128x1_S128x128))

/-- The reciprocal of a row's sum of exponentials, the sink's among them. -/
def recip (pp pc : FVec F S128x128 .f32) (t : FVec F S128x1 .f32) (s : Elt F .f32) : FVec F S128x1 .f32 :=
  divf (broadcast S128x1 (Scalar.ofBits .f32 0x3F800000#32)) (addf (addf
      (shapeCast S128x1 (multiReduction .add [1] S128 pp 0x00000000#32 reduces_S128x128_S128 (.inl rfl) rfl) shapeCasts_S128_S128x1)
      (shapeCast S128x1 (multiReduction .add [1] S128 pc 0x00000000#32 reduces_S128x128_S128 (.inl rfl) rfl) shapeCasts_S128_S128x1))
    (exp (subf (broadcast S128x1 s) t)))

/-- A block of weights against the block's values. -/
def weigh (p : FVec F S128x128 .f32) (i : FVec F S128x1 .f32) (v : FVec F S128x64 .bf16) : FVec F S128x64 .f32 :=
  matmul dot_S128x128_S128x64_S128x64_1_0_0_1_n_n none (truncf .bf16 (mulf p (broadcastTo S128x128 i broadcasts_S128x1_S128x128)) bitsLt_bf16_f32) v
    (constant S128x64 .f32 0x00000000#32)

/-- One head over two blocks of scores: the softmax with the sink, against the two blocks of values. -/
def mix (sp sc : FVec F S128x128 .f32) (vp vc : FVec F S128x64 .bf16) (s : Elt F .f32) : FVec F S128x64 .f32 :=
  addf (weigh (expo sp (top sp sc s)) (recip (expo sp (top sp sc s)) (expo sc (top sp sc s)) (top sp sc s) s) vp)
    (weigh (expo sc (top sp sc s)) (recip (expo sp (top sp sc s)) (expo sc (top sp sc s)) (top sp sc s) s) vc)

theorem slQ : ∀ h : Fin 16, S128x1024.Slices ![0, 64 * h.val] S128x64 := by decide
theorem slK : ∀ h : Fin 16, S128x256.Slices ![0, 64 * (h.val / 4)] S128x64 := by decide
theorem inP : ∀ h : Fin 16, ∀ a, (![h.val / 4, 0, 0] : Fin 3 → Nat) a + S1x128x64.size a ≤ S4x128x64.size a := by decide
theorem inS : ∀ h : Fin 16, ∀ a, (![h.val] : Fin 1 → Nat) a + S1.size a ≤ S16.size a := by decide
theorem h1 : 0 < S1.numel := by decide

/-- Head `h` of a block: its columns of the queries, of the block's own keys and values and of the blocks before, and its sink. -/
def tile (mp mc : IVec S128x128 1) (Q : FVec F S128x1024 .bf16) (K W : FVec F S128x256 .bf16) (kp vp : Vec F S4x128x64 .bf16) (s : Vec F S16 .f32)
    (h : Fin 16) : FVec F S128x64 .f32 :=
  mix (scores mp (extractStridedSlice S128x64 ![0, 64 * h.val] Q (slQ h))
      (shapeCast S128x64 (View.ld kp (Rect.unit ![h.val / 4, 0, 0] S1x128x64.size (inP h)) : Vec F S1x128x64 .bf16) shapeCasts_S1x128x64_S128x64))
    (scores mc (extractStridedSlice S128x64 ![0, 64 * h.val] Q (slQ h)) (extractStridedSlice S128x64 ![0, 64 * (h.val / 4)] K (slK h)))
    (shapeCast S128x64 (View.ld vp (Rect.unit ![h.val / 4, 0, 0] S1x128x64.size (inP h)) : Vec F S1x128x64 .bf16) shapeCasts_S1x128x64_S128x64)
    (extractStridedSlice S128x64 ![0, 64 * (h.val / 4)] W (slK h))
    (View.ld s (Rect.unit ![h.val] S1.size (inS h)) (Shape.Idx.first h1))

/-- The block of all the heads, side by side. -/
def heads (mp mc : IVec S128x128 1) (Q : FVec F S128x1024 .bf16) (K W : FVec F S128x256 .bf16) (kp vp : Vec F S4x128x64 .bf16) (s : Vec F S16 .f32) :
    Vec F S128x1024 .f32 := fun y =>
  have hy : (y 1).val < 1024 := (y 1).isLt
  tile mp mc Q K W kp vp s ⟨(y 1).val / 64, by omega⟩ (ix2 (y 0) ⟨(y 1).val % 64, by omega⟩)

/-- A store of head `h`'s tile at its columns stores the block's values there. -/
theorem at_piece (mp mc : IVec S128x128 1) (Q : FVec F S128x1024 .bf16) (K W : FVec F S128x256 .bf16) (kp vp : Vec F S4x128x64 .bf16) (s : Vec F S16 .f32)
    (h : Fin 16) (o : ℕ) (ho : o = 64 * h.val) (inb : ∀ a, (![0, o] : Fin 2 → Nat) a + S128x64.size a ≤ S128x1024.size a)
    (w : Vec F S128x64 .f32) (hw : w = tile mp mc Q K W kp vp s h) :
    ∀ x : S128x64.Idx, w x = heads mp mc Q K W kp vp s ((Rect.unit (s := S128x1024) ![0, o] S128x64.size inb).emb x) := by
  intro x
  subst hw
  obtain ⟨r, d, rfl⟩ : ∃ (r : Fin 128) (d : Fin 64), x = ix2 r d := ⟨x 0, x 1, eq_ix2 x⟩
  have e : (Rect.unit (s := S128x1024) ![0, o] S128x64.size inb).emb (ix2 r d) = ix2 r ⟨64 * h.val + d.val, by omega⟩ := by
    funext a
    apply Fin.ext
    match a with
    | ⟨0, _⟩ => show 0 + 1 * r.val = r.val; omega
    | ⟨1, _⟩ => show o + 1 * d.val = 64 * h.val + d.val; omega
  rw [e]
  have e1 : (⟨(64 * h.val + d.val) / 64, by omega⟩ : Fin 16) = h := Fin.ext (by dsimp only; omega)
  have e2 : (⟨(64 * h.val + d.val) % 64, by omega⟩ : Fin 64) = d := Fin.ext (by dsimp only; omega)
  show tile mp mc Q K W kp vp s h (ix2 r d) = tile mp mc Q K W kp vp s ⟨(64 * h.val + d.val) / 64, by omega⟩ (ix2 r ⟨(64 * h.val + d.val) % 64, by omega⟩)
  rw [e1, e2]

/-- The rotated and scaled queries of a point's tile. -/
abbrev qs (x1 : Vec F S128x1024 .f32) (x4 x5 x6 : Vec F S128x128 .f32) : FVec F S128x1024 .bf16 :=
  k0_pay14 (k0_pay4 x4) (k0_pay5 x5) (k0_pay6 x6) x1 (k0_pay7 x4 x5 x6 x1) (k0_pay8 x4 x5 x6 x1) (k0_pay9 x4 x5 x6 x1) (k0_pay11 x1) (k0_pay12 x4 x1)
    (k0_pay13 x5 x1)

/-- The rotated keys of a point's tile. -/
abbrev ks (x2 : Vec F S128x256 .f32) (x4 x5 x6 : Vec F S128x128 .f32) : FVec F S128x256 .bf16 :=
  k0_pay21 (k0_pay4 x4) (k0_pay5 x5) (k0_pay6 x6) x2 (k0_pay16 (k0_pay4 x4) (k0_pay5 x5) x2) (k0_pay17 (k0_pay6 x6) x2)

/-- The zero offsets of the whole-block accesses. -/
theorem off2 : (![0, 0] : Fin 2 → Nat) = fun _ => 0 := funext fun a => by fin_cases a <;> rfl
theorem off3 : (![0, 0, 0] : Fin 3 → Nat) = fun _ => 0 := funext fun a => by fin_cases a <;> rfl

/-- The four heads' columns of a block, as the slabs the scratch keeps. -/
def slabs (K : FVec F S128x256 .bf16) : Vec F S4x128x64 .bf16 := fun y =>
  have h0 : (y 0).val < 4 := (y 0).isLt
  have h2 : (y 2).val < 64 := (y 2).isLt
  K (ix2 (y 1) ⟨64 * (y 0).val + (y 2).val, by omega⟩)

/-- A store of slab `j` stores the slabs' values there. -/
theorem at_slab (K : FVec F S128x256 .bf16) (j : Fin 4) (o : ℕ) (ho : o = 64 * j.val) (hs : S128x256.Slices ![0, o] S128x64)
    (inb : ∀ a, (![j.val, 0, 0] : Fin 3 → Nat) a + S1x128x64.size a ≤ S4x128x64.size a) (w : Vec F S1x128x64 .bf16)
    (hw : w = shapeCast S1x128x64 (extractStridedSlice S128x64 ![0, o] K hs) shapeCasts_S128x64_S1x128x64) :
    ∀ x : S1x128x64.Idx, w x = slabs K ((Rect.unit (s := S4x128x64) ![j.val, 0, 0] S1x128x64.size inb).emb x) := by
  intro x
  subst hw ho
  obtain ⟨z, r, d, rfl⟩ : ∃ (z : Fin 1) (r : Fin 128) (d : Fin 64), x = ix3 z r d := ⟨x 0, x 1, x 2, eq_ix3 x⟩
  obtain rfl : z = 0 := Subsingleton.elim _ _
  have e : (Rect.unit (s := S4x128x64) ![j.val, 0, 0] S1x128x64.size inb).emb (ix3 0 r d) = ix3 j r d := by
    funext a
    apply Fin.ext
    match a with
    | ⟨0, _⟩ => show j.val + 1 * 0 = j.val; omega
    | ⟨1, _⟩ => show 0 + 1 * r.val = r.val; omega
    | ⟨2, _⟩ => show 0 + 1 * d.val = d.val; omega
  rw [e]
  show _ = K (ix2 r ⟨64 * j.val + d.val, by omega⟩)
  pointwise

/-- Every index of the scratch lies in one of the four slabs. -/
theorem slab_of (y : S4x128x64.Idx) (j : Fin 4) (hj : (y 0).val = j.val) (inb : ∀ a, (![j.val, 0, 0] : Fin 3 → Nat) a + S1x128x64.size a ≤ S4x128x64.size a) :
    y ∈ (Rect.unit (s := S4x128x64) ![j.val, 0, 0] S1x128x64.size inb).set := by
  refine Rect.mem_set_unit.2 fun a => ?_
  match a with
  | ⟨0, _⟩ => exact ⟨hj.symm.le, by show (y 0).val < j.val + 1; omega⟩
  | ⟨1, _⟩ => exact ⟨Nat.zero_le _, by show (y 1).val < 0 + 128; have := (y 1).isLt; exact lt_of_lt_of_eq this rfl⟩
  | ⟨2, _⟩ => exact ⟨Nat.zero_le _, by show (y 2).val < 0 + 64; have := (y 2).isLt; exact lt_of_lt_of_eq this rfl⟩

/-- Pieces that agree with one function and cover an index decide it, whatever was stored before them. -/
theorem canon_prefix {S : Shape} {e : EltTy} (G : S.Idx → Elt F e) (L' : List (View.Piece (Elt F) S e)) (y : S.Idx) :
    ∀ L : List (View.Piece (Elt F) S e), (∀ p ∈ L, ∀ x : p.1.shape.Idx, p.2 x = G (p.1.emb x)) → (∃ p ∈ L, y ∈ p.1.set) →
      View.canon (L ++ L') y = G y
  | [], _, ⟨p, hp, _⟩ => absurd hp List.not_mem_nil
  | p :: L, hL, ⟨q, hq, hy⟩ => by
    rw [List.cons_append]
    by_cases hm : y ∈ p.1.set
    · obtain ⟨x, rfl⟩ := p.1.exists_idx_of_mem hm
      rw [show p.1.idx x = p.1.emb x from rfl]
      exact (View.canon_cons_emb p.1 p.2 _ x).trans (hL p List.mem_cons_self x)
    · rw [View.canon_cons_of_not_mem _ _ hm]
      refine canon_prefix G L' y L (fun r hr => hL r (List.mem_cons_of_mem _ hr)) ⟨q, ?_, hy⟩
      rcases List.mem_cons.mp hq with rfl | h
      · exact absurd hy hm
      · exact h

/-- Four slab stores, whatever the scratch held before, leave the slabs. -/
theorem canon_slabs (K : FVec F S128x256 .bf16) (w3 w2 w1 w0 : Vec F S1x128x64 .bf16) (L' : List (View.Piece (Elt F) S4x128x64 .bf16))
    (e3 : w3 = shapeCast S1x128x64 (extractStridedSlice S128x64 ![0, 192] K slices_S128x256_o0_192_S128x64) shapeCasts_S128x64_S1x128x64)
    (e2 : w2 = shapeCast S1x128x64 (extractStridedSlice S128x64 ![0, 128] K slices_S128x256_o0_128_S128x64) shapeCasts_S128x64_S1x128x64)
    (e1 : w1 = shapeCast S1x128x64 (extractStridedSlice S128x64 ![0, 64] K slices_S128x256_o0_64_S128x64) shapeCasts_S128x64_S1x128x64)
    (e0 : w0 = shapeCast S1x128x64 (extractStridedSlice S128x64 ![0, 0] K slices_S128x256_o0_0_S128x64) shapeCasts_S128x64_S1x128x64) :
    View.canon ((⟨Rect.unit (s := S4x128x64) ![3, 0, 0] S1x128x64.size inb_S4x128x64_S1x128x64_3_0_0, w3⟩ : View.Piece (Elt F) S4x128x64 .bf16)
      :: ⟨Rect.unit (s := S4x128x64) ![2, 0, 0] S1x128x64.size inb_S4x128x64_S1x128x64_2_0_0, w2⟩
      :: ⟨Rect.unit (s := S4x128x64) ![1, 0, 0] S1x128x64.size inb_S4x128x64_S1x128x64_1_0_0, w1⟩
      :: ⟨Rect.unit (s := S4x128x64) ![0, 0, 0] S1x128x64.size inb_S4x128x64_S1x128x64_0_0_0, w0⟩ :: L') = slabs K := by
  funext y
  refine canon_prefix (slabs K) L' y [_, _, _, _] ?_ ?_
  · refine List.forall_mem_cons.2 ⟨at_slab K 3 192 rfl _ inb_S4x128x64_S1x128x64_3_0_0 _ e3, ?_⟩
    refine List.forall_mem_cons.2 ⟨at_slab K 2 128 rfl _ inb_S4x128x64_S1x128x64_2_0_0 _ e2, ?_⟩
    refine List.forall_mem_cons.2 ⟨at_slab K 1 64 rfl _ inb_S4x128x64_S1x128x64_1_0_0 _ e1, ?_⟩
    refine List.forall_mem_cons.2 ⟨at_slab K 0 0 rfl _ inb_S4x128x64_S1x128x64_0_0_0 _ e0, ?_⟩
    exact fun p hp => absurd hp List.not_mem_nil
  · have h : (y 0).val < 4 := (y 0).isLt
    have h' : (y 0).val = 3 ∨ (y 0).val = 2 ∨ (y 0).val = 1 ∨ (y 0).val = 0 := by omega
    rcases h' with h | h | h | h
    · exact ⟨_, List.mem_cons_self, slab_of y 3 h inb_S4x128x64_S1x128x64_3_0_0⟩
    · exact ⟨_, List.mem_cons_of_mem _ List.mem_cons_self, slab_of y 2 h inb_S4x128x64_S1x128x64_2_0_0⟩
    · exact ⟨_, List.mem_cons_of_mem _ (List.mem_cons_of_mem _ List.mem_cons_self), slab_of y 1 h inb_S4x128x64_S1x128x64_1_0_0⟩
    · exact ⟨_, List.mem_cons_of_mem _ (List.mem_cons_of_mem _ (List.mem_cons_of_mem _ List.mem_cons_self)), slab_of y 0 h inb_S4x128x64_S1x128x64_0_0_0⟩

/-- A read of the scratch after one store of the whole of it reads what was stored. -/
theorem read_back (v : View sig .tc .vmem S4x128x64 .bf16) (w : Vec F S4x128x64 .bf16) (inb : ∀ a, (![0, 0, 0] : Fin 3 → Nat) a + (![4, 128, 64] : Fin 3 → Nat) a ≤ S4x128x64.size a)
    (r : Rect S4x128x64) : v.readCov [(⟨Rect.unit (s := S4x128x64) ![0, 0, 0] ![4, 128, 64] inb, w⟩ : View.Piece (Elt F) S4x128x64 .bf16)] r.toLoadRect = View.ld w r := by
  rw [View.readCov_eq_canon']
  exact congrArg (fun u => View.ld u r) (View.canon_unit_zero (S := S4x128x64) off3 inb w)

section
variable (c : Dev nD) (i : grid0.Coords) (a2 : Memref sig .tc .smem S16 .f32) (h2 : a2.IsWhole)
  (a3 : Memref sig .tc .vmem S128x1024 .f32) (h3 : a3.IsWhole) (a4 : Memref sig .tc .vmem S128x256 .f32) (h4 : a4.IsWhole)
  (a5 : Memref sig .tc .vmem S128x256 .f32) (h5 : a5.IsWhole) (a6 : Memref sig .tc .vmem S128x128 .f32) (h6 : a6.IsWhole)
  (a7 : Memref sig .tc .vmem S128x128 .f32) (h7 : a7.IsWhole) (a8 : Memref sig .tc .vmem S128x128 .f32) (h8 : a8.IsWhole)
  (a9 : Memref sig .tc .vmem S128x1024 .f32) (h9 : a9.IsWhole) (a10 : Memref sig .tc .vmem S1x128x256 .f32) (h10 : a10.IsWhole)
  (a11 : Memref sig .tc .vmem S1x128x256 .f32) (h11 : a11.IsWhole) (a12 : Memref sig .tc .vmem S4x128x64 .bf16) (h12 : a12.IsWhole)
  (a13 : Memref sig .tc .vmem S4x128x64 .bf16) (h13 : a13.IsWhole)
  (x0 : Vec F S16 .f32) (x1 : Vec F S128x1024 .f32) (x2 x3 : Vec F S128x256 .f32) (x4 x5 x6 : Vec F S128x128 .f32)
  (xs0 xs1 : Vec F S4x128x64 .bf16)

set_option maxHeartbeats 400000 in
/-- A point that carries on leaves the heads over the carried keys and values and its own. -/
theorem out_B (hc : ¬cond0_0 i) :
    out0_B_7 c i a2 h2 a3 h3 a4 h4 a5 h5 a6 h6 a7 h7 a8 h8 a9 h9 a10 h10 a11 h11 a12 h12 a13 h13 hc x0 x1 x2 x3 x4 x5 x6 xs0 xs1
      = heads (k0_pay23 (BitVec.ofNat 32 (i 1).val)) k0_pay24 (qs x1 x4 x5 x6) (ks x2 x4 x5 x6) (k0_pay22 x3) xs0 xs1 x0 := by
  have hcov := cover0_B_7 c i a2 h2 a3 h3 a4 h4 a5 h5 a6 h6 a7 h7 a8 h8 a9 h9 a10 h10 a11 h11 a12 h12 a13 h13 hc x0 x1 x2 x3 x4 x5 x6 xs0 xs1
  unfold out0_B_7
  rw [View.read_writes_eq_canon _ _ _ hcov]
  funext y
  refine View.canon_apply_of_pieces _ _ ?_ y (hcov y)
  clear hcov
  unfold kernelRun0_B
  dsimp only
  sl_unfold_words
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]
  refine List.forall_mem_cons.2 ⟨at_piece _ _ _ _ _ _ _ _ ⟨15, by omega⟩ 960 rfl inb_S128x1024_S128x64_0_960 _ ?_, ?_⟩
  rotate_left
  refine List.forall_mem_cons.2 ⟨at_piece _ _ _ _ _ _ _ _ ⟨14, by omega⟩ 896 rfl inb_S128x1024_S128x64_0_896 _ ?_, ?_⟩
  rotate_left
  refine List.forall_mem_cons.2 ⟨at_piece _ _ _ _ _ _ _ _ ⟨13, by omega⟩ 832 rfl inb_S128x1024_S128x64_0_832 _ ?_, ?_⟩
  rotate_left
  refine List.forall_mem_cons.2 ⟨at_piece _ _ _ _ _ _ _ _ ⟨12, by omega⟩ 768 rfl inb_S128x1024_S128x64_0_768 _ ?_, ?_⟩
  rotate_left
  refine List.forall_mem_cons.2 ⟨at_piece _ _ _ _ _ _ _ _ ⟨11, by omega⟩ 704 rfl inb_S128x1024_S128x64_0_704 _ ?_, ?_⟩
  rotate_left
  refine List.forall_mem_cons.2 ⟨at_piece _ _ _ _ _ _ _ _ ⟨10, by omega⟩ 640 rfl inb_S128x1024_S128x64_0_640 _ ?_, ?_⟩
  rotate_left
  refine List.forall_mem_cons.2 ⟨at_piece _ _ _ _ _ _ _ _ ⟨9, by omega⟩ 576 rfl inb_S128x1024_S128x64_0_576 _ ?_, ?_⟩
  rotate_left
  refine List.forall_mem_cons.2 ⟨at_piece _ _ _ _ _ _ _ _ ⟨8, by omega⟩ 512 rfl inb_S128x1024_S128x64_0_512 _ ?_, ?_⟩
  rotate_left
  refine List.forall_mem_cons.2 ⟨at_piece _ _ _ _ _ _ _ _ ⟨7, by omega⟩ 448 rfl inb_S128x1024_S128x64_0_448 _ ?_, ?_⟩
  rotate_left
  refine List.forall_mem_cons.2 ⟨at_piece _ _ _ _ _ _ _ _ ⟨6, by omega⟩ 384 rfl inb_S128x1024_S128x64_0_384 _ ?_, ?_⟩
  rotate_left
  refine List.forall_mem_cons.2 ⟨at_piece _ _ _ _ _ _ _ _ ⟨5, by omega⟩ 320 rfl inb_S128x1024_S128x64_0_320 _ ?_, ?_⟩
  rotate_left
  refine List.forall_mem_cons.2 ⟨at_piece _ _ _ _ _ _ _ _ ⟨4, by omega⟩ 256 rfl inb_S128x1024_S128x64_0_256 _ ?_, ?_⟩
  rotate_left
  refine List.forall_mem_cons.2 ⟨at_piece _ _ _ _ _ _ _ _ ⟨3, by omega⟩ 192 rfl inb_S128x1024_S128x64_0_192 _ ?_, ?_⟩
  rotate_left
  refine List.forall_mem_cons.2 ⟨at_piece _ _ _ _ _ _ _ _ ⟨2, by omega⟩ 128 rfl inb_S128x1024_S128x64_0_128 _ ?_, ?_⟩
  rotate_left
  refine List.forall_mem_cons.2 ⟨at_piece _ _ _ _ _ _ _ _ ⟨1, by omega⟩ 64 rfl inb_S128x1024_S128x64_0_64 _ ?_, ?_⟩
  rotate_left
  refine List.forall_mem_cons.2 ⟨at_piece _ _ _ _ _ _ _ _ ⟨0, by omega⟩ 0 rfl inb_S128x1024_S128x64_0_0 _ ?_, ?_⟩
  rotate_left
  all_goals first
    | exact fun p hp => absurd hp List.not_mem_nil
    | (simp only [tile, mix, weigh, recip, expo, top, scores, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87, k0_pay88, k0_pay89,
      k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114,
      k0_pay115, k0_pay116, k0_pay117, k0_pay118, k0_pay119, k0_pay120, k0_pay121, k0_pay122, k0_pay123, k0_pay124]
       <;> with_reducible rfl)

set_option maxHeartbeats 400000 in
/-- A point that starts a sequence leaves the heads over zeros and its own keys and values. -/
theorem out_A (hc : cond0_0 i) :
    out0_A_7 c i a2 h2 a3 h3 a4 h4 a5 h5 a6 h6 a7 h7 a8 h8 a9 h9 a10 h10 a11 h11 a12 h12 a13 h13 hc x0 x1 x2 x3 x4 x5 x6
      = heads (k0_pay23 (BitVec.ofNat 32 (i 1).val)) k0_pay24 (qs x1 x4 x5 x6) (ks x2 x4 x5 x6) (k0_pay22 x3) k0_pay2 k0_pay3 x0 := by
  have hcov := cover0_A_7 c i a2 h2 a3 h3 a4 h4 a5 h5 a6 h6 a7 h7 a8 h8 a9 h9 a10 h10 a11 h11 a12 h12 a13 h13 hc x0 x1 x2 x3 x4 x5 x6
  unfold out0_A_7
  rw [View.read_writes_eq_canon _ _ _ hcov]
  funext y
  refine View.canon_apply_of_pieces _ _ ?_ y (hcov y)
  clear hcov
  unfold kernelRun0_A
  dsimp only
  sl_unfold_words
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2, read_back]
  refine List.forall_mem_cons.2 ⟨at_piece _ _ _ _ _ _ _ _ ⟨15, by omega⟩ 960 rfl inb_S128x1024_S128x64_0_960 _ ?_, ?_⟩
  rotate_left
  refine List.forall_mem_cons.2 ⟨at_piece _ _ _ _ _ _ _ _ ⟨14, by omega⟩ 896 rfl inb_S128x1024_S128x64_0_896 _ ?_, ?_⟩
  rotate_left
  refine List.forall_mem_cons.2 ⟨at_piece _ _ _ _ _ _ _ _ ⟨13, by omega⟩ 832 rfl inb_S128x1024_S128x64_0_832 _ ?_, ?_⟩
  rotate_left
  refine List.forall_mem_cons.2 ⟨at_piece _ _ _ _ _ _ _ _ ⟨12, by omega⟩ 768 rfl inb_S128x1024_S128x64_0_768 _ ?_, ?_⟩
  rotate_left
  refine List.forall_mem_cons.2 ⟨at_piece _ _ _ _ _ _ _ _ ⟨11, by omega⟩ 704 rfl inb_S128x1024_S128x64_0_704 _ ?_, ?_⟩
  rotate_left
  refine List.forall_mem_cons.2 ⟨at_piece _ _ _ _ _ _ _ _ ⟨10, by omega⟩ 640 rfl inb_S128x1024_S128x64_0_640 _ ?_, ?_⟩
  rotate_left
  refine List.forall_mem_cons.2 ⟨at_piece _ _ _ _ _ _ _ _ ⟨9, by omega⟩ 576 rfl inb_S128x1024_S128x64_0_576 _ ?_, ?_⟩
  rotate_left
  refine List.forall_mem_cons.2 ⟨at_piece _ _ _ _ _ _ _ _ ⟨8, by omega⟩ 512 rfl inb_S128x1024_S128x64_0_512 _ ?_, ?_⟩
  rotate_left
  refine List.forall_mem_cons.2 ⟨at_piece _ _ _ _ _ _ _ _ ⟨7, by omega⟩ 448 rfl inb_S128x1024_S128x64_0_448 _ ?_, ?_⟩
  rotate_left
  refine List.forall_mem_cons.2 ⟨at_piece _ _ _ _ _ _ _ _ ⟨6, by omega⟩ 384 rfl inb_S128x1024_S128x64_0_384 _ ?_, ?_⟩
  rotate_left
  refine List.forall_mem_cons.2 ⟨at_piece _ _ _ _ _ _ _ _ ⟨5, by omega⟩ 320 rfl inb_S128x1024_S128x64_0_320 _ ?_, ?_⟩
  rotate_left
  refine List.forall_mem_cons.2 ⟨at_piece _ _ _ _ _ _ _ _ ⟨4, by omega⟩ 256 rfl inb_S128x1024_S128x64_0_256 _ ?_, ?_⟩
  rotate_left
  refine List.forall_mem_cons.2 ⟨at_piece _ _ _ _ _ _ _ _ ⟨3, by omega⟩ 192 rfl inb_S128x1024_S128x64_0_192 _ ?_, ?_⟩
  rotate_left
  refine List.forall_mem_cons.2 ⟨at_piece _ _ _ _ _ _ _ _ ⟨2, by omega⟩ 128 rfl inb_S128x1024_S128x64_0_128 _ ?_, ?_⟩
  rotate_left
  refine List.forall_mem_cons.2 ⟨at_piece _ _ _ _ _ _ _ _ ⟨1, by omega⟩ 64 rfl inb_S128x1024_S128x64_0_64 _ ?_, ?_⟩
  rotate_left
  refine List.forall_mem_cons.2 ⟨at_piece _ _ _ _ _ _ _ _ ⟨0, by omega⟩ 0 rfl inb_S128x1024_S128x64_0_0 _ ?_, ?_⟩
  rotate_left
  all_goals first
    | exact fun p hp => absurd hp List.not_mem_nil
    | (simp only [tile, mix, weigh, recip, expo, top, scores, k0_pay25, k0_pay26, k0_pay27, k0_pay28, k0_pay29, k0_pay30, k0_pay31, k0_pay32, k0_pay33,
      k0_pay34, k0_pay35, k0_pay36, k0_pay37, k0_pay38, k0_pay39, k0_pay40, k0_pay41, k0_pay42, k0_pay43, k0_pay44, k0_pay45, k0_pay46, k0_pay47,
      k0_pay48, k0_pay49, k0_pay50, k0_pay51, k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71, k0_pay72, k0_pay73, k0_pay74, k0_pay75,
      k0_pay76, k0_pay77, k0_pay78, k0_pay79, k0_pay80, k0_pay81, k0_pay82, k0_pay83, k0_pay84, k0_pay85, k0_pay86, k0_pay87, k0_pay88, k0_pay89,
      k0_pay90, k0_pay91, k0_pay92, k0_pay93, k0_pay94, k0_pay95, k0_pay96, k0_pay97, k0_pay98, k0_pay99, k0_pay100, k0_pay101, k0_pay102,
      k0_pay103, k0_pay104, k0_pay105, k0_pay106, k0_pay107, k0_pay108, k0_pay109, k0_pay110, k0_pay111, k0_pay112, k0_pay113, k0_pay114,
      k0_pay115, k0_pay116, k0_pay117, k0_pay118, k0_pay119, k0_pay120, k0_pay121, k0_pay122, k0_pay123, k0_pay124]
       <;> with_reducible rfl)

/-- A starting point's block of keys. -/
theorem kn_A (hc : cond0_0 i) :
    out0_A_8 c i a2 h2 a3 h3 a4 h4 a5 h5 a6 h6 a7 h7 a8 h8 a9 h9 a10 h10 a11 h11 a12 h12 a13 h13 hc x0 x1 x2 x3 x4 x5 x6
      = k0_pay19 (k0_pay4 x4) (k0_pay5 x5) (k0_pay6 x6) x2 (k0_pay16 (k0_pay4 x4) (k0_pay5 x5) x2) (k0_pay17 (k0_pay6 x6) x2) := by
  unfold out0_A_8
  rw [View.read_writes_eq_canon _ _ _ (cover0_A_8 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero off3]
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]

/-- A starting point's block of values. -/
theorem vn_A (hc : cond0_0 i) :
    out0_A_9 c i a2 h2 a3 h3 a4 h4 a5 h5 a6 h6 a7 h7 a8 h8 a9 h9 a10 h10 a11 h11 a12 h12 a13 h13 hc x0 x1 x2 x3 x4 x5 x6
      = k0_pay20 x3 := by
  unfold out0_A_9
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero off3]
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]

/-- The keys that a starting point leaves in the scratch. -/
theorem scr0_A (hc : cond0_0 i) :
    sout0_A_0 c i a2 h2 a3 h3 a4 h4 a5 h5 a6 h6 a7 h7 a8 h8 a9 h9 a10 h10 a11 h11 a12 h12 a13 h13 hc x0 x1 x2 x3 x4 x5 x6 = slabs (ks x2 x4 x5 x6) := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]
  exact canon_slabs _ _ _ _ _ _ rfl rfl rfl rfl

/-- The values that a starting point leaves in the scratch. -/
theorem scr1_A (hc : cond0_0 i) :
    sout0_A_1 c i a2 h2 a3 h3 a4 h4 a5 h5 a6 h6 a7 h7 a8 h8 a9 h9 a10 h10 a11 h11 a12 h12 a13 h13 hc x0 x1 x2 x3 x4 x5 x6 = slabs (k0_pay22 x3) := by
  unfold sout0_A_1
  rw [View.read_writes_eq_canon _ _ _ (scover0_A_1 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]
  exact canon_slabs _ _ _ _ _ _ rfl rfl rfl rfl

/-- A continuing point's block of keys. -/
theorem kn_B (hc : ¬cond0_0 i) :
    out0_B_8 c i a2 h2 a3 h3 a4 h4 a5 h5 a6 h6 a7 h7 a8 h8 a9 h9 a10 h10 a11 h11 a12 h12 a13 h13 hc x0 x1 x2 x3 x4 x5 x6 xs0 xs1
      = k0_pay19 (k0_pay4 x4) (k0_pay5 x5) (k0_pay6 x6) x2 (k0_pay16 (k0_pay4 x4) (k0_pay5 x5) x2) (k0_pay17 (k0_pay6 x6) x2) := by
  unfold out0_B_8
  rw [View.read_writes_eq_canon _ _ _ (cover0_B_8 c i a2 h2 a3 h3 a4 h4 a5 h5 a6 h6 a7 h7 a8 h8 a9 h9 a10 h10 a11 h11 a12 h12 a13 h13 hc x0 x1 x2 x3 x4 x5 x6 xs0 xs1)]
  unfold kernelRun0_B
  dsimp only
  sl_unfold_words
  rw [View.canon_unit_zero off3]
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]

/-- A continuing point's block of values. -/
theorem vn_B (hc : ¬cond0_0 i) :
    out0_B_9 c i a2 h2 a3 h3 a4 h4 a5 h5 a6 h6 a7 h7 a8 h8 a9 h9 a10 h10 a11 h11 a12 h12 a13 h13 hc x0 x1 x2 x3 x4 x5 x6 xs0 xs1
      = k0_pay20 x3 := by
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 xs0 xs1)]
  unfold kernelRun0_B
  dsimp only
  sl_unfold_words
  rw [View.canon_unit_zero off3]
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]

/-- The keys that a continuing point leaves in the scratch. -/
theorem scr0_B (hc : ¬cond0_0 i) :
    sout0_B_0 c i a2 h2 a3 h3 a4 h4 a5 h5 a6 h6 a7 h7 a8 h8 a9 h9 a10 h10 a11 h11 a12 h12 a13 h13 hc x0 x1 x2 x3 x4 x5 x6 xs0 xs1 = slabs (ks x2 x4 x5 x6) := by
  unfold sout0_B_0
  rw [View.read_writes_eq_canon _ _ _ (scover0_B_0 c i a2 h2 a3 h3 a4 h4 a5 h5 a6 h6 a7 h7 a8 h8 a9 h9 a10 h10 a11 h11 a12 h12 a13 h13 hc x0 x1 x2 x3 x4 x5 x6 xs0 xs1)]
  unfold kernelRun0_B
  dsimp only
  sl_unfold_words
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]
  exact canon_slabs _ _ _ _ _ _ rfl rfl rfl rfl

/-- The values that a continuing point leaves in the scratch. -/
theorem scr1_B (hc : ¬cond0_0 i) :
    sout0_B_1 c i a2 h2 a3 h3 a4 h4 a5 h5 a6 h6 a7 h7 a8 h8 a9 h9 a10 h10 a11 h11 a12 h12 a13 h13 hc x0 x1 x2 x3 x4 x5 x6 xs0 xs1 = slabs (k0_pay22 x3) := by
  unfold sout0_B_1
  rw [View.read_writes_eq_canon _ _ _ (scover0_B_1 c i a2 h2 a3 h3 a4 h4 a5 h5 a6 h6 a7 h7 a8 h8 a9 h9 a10 h10 a11 h11 a12 h12 a13 h13 hc x0 x1 x2 x3 x4 x5 x6 xs0 xs1)]
  unfold kernelRun0_B
  dsimp only
  sl_unfold_words
  simp only [View.readAt_eq_ld, h2.read_unread, h3.read_unread, h4.read_unread, h5.read_unread, h6.read_unread, h7.read_unread,
    h8.read_unread, h12.read_unread, h13.read_unread, View.ld_unit_zero (S := S128x1024) off2, View.ld_unit_zero (S := S128x256) off2,
    View.ld_unit_zero (S := S128x128) off2]
  exact canon_slabs _ _ _ _ _ _ rfl rfl rfl rfl

end

end Cert.AttnIdeal.Pv

end
-- ==== Proof.AttnBlock.lean ====
/-
  The prompt attention: what each grid point leaves in its blocks, and where its blocks lie in the arrays.
-/
module

public import proofs.«01_k».proof.Proof.AttnHead

@[expose] public section

set_option maxRecDepth 16384

noncomputable section

namespace Cert.AttnIdeal.Pv

open Cert.AttnIdeal Cert.AttnIdeal.Gen Cert.AttnIdeal.Value Idealize.ShloMosaic Idealize.ShloMosaic.TcCoe Idealize.SL.Sem

variable {F : FTy → Type} [FloatOps F]
variable (m : (ℓ : Loc nD τ sig) → Buf (Elt F) ℓ) (c : Dev nD)

/-- The queries of point `t`, rotated and scaled. -/
def Qt (t : Fin cfg0.N) : FVec F S128x1024 .bf16 := qs (X0_1 m c t) (iblk m c 4 t) (iblk m c 5 t) (iblk m c 6 t)

/-- The keys of point `t`, rotated. -/
def Kt (t : Fin cfg0.N) : FVec F S128x256 .bf16 := ks (iblk m c 2 t) (iblk m c 4 t) (iblk m c 5 t) (iblk m c 6 t)

/-- The values of point `t`. -/
def Wt (t : Fin cfg0.N) : FVec F S128x256 .bf16 := k0_pay22 (iblk m c 3 t)

/-- The keys of the block before point `t`'s, zeros where there is none. -/
def kprev (t : Fin cfg0.N) : Vec F S4x128x64 .bf16 :=
  if t.val % 64 = 0 then k0_pay2 else slabs (Kt m c ⟨t.val - 1, Nat.lt_of_le_of_lt (Nat.sub_le _ _) t.isLt⟩)

/-- The values of the block before point `t`'s, zeros where there is none. -/
def vprev (t : Fin cfg0.N) : Vec F S4x128x64 .bf16 :=
  if t.val % 64 = 0 then k0_pay3 else slabs (Wt m c ⟨t.val - 1, Nat.lt_of_le_of_lt (Nat.sub_le _ _) t.isLt⟩)

/-- Every point leaves its keys in the first scratch. -/
theorem left_keys (t : Fin cfg0.N) : (outsAt0 m c t.val t.isLt).2.2.2.1 = slabs (Kt m c t) := by
  by_cases h0 : t.val % 64 = 0
  · rw [outsAt0_A m c t h0]
    dsimp only
    exact scr0_A c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _
  · rw [outsAt0_B m c t h0]
    dsimp only
    exact scr0_B c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _ _ _

/-- Every point leaves its values in the second scratch. -/
theorem left_values (t : Fin cfg0.N) : (outsAt0 m c t.val t.isLt).2.2.2.2 = slabs (Wt m c t) := by
  by_cases h0 : t.val % 64 = 0
  · rw [outsAt0_A m c t h0]
    dsimp only
    exact scr1_A c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _
  · rw [outsAt0_B m c t h0]
    dsimp only
    exact scr1_B c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _ _ _

/-- The block of keys a point leaves in its second result. -/
theorem left_kn (t : Fin cfg0.N) : (outsAt0 m c t.val t.isLt).2.1
    = k0_pay19 (k0_pay4 (iblk m c 4 t)) (k0_pay5 (iblk m c 5 t)) (k0_pay6 (iblk m c 6 t)) (iblk m c 2 t)
        (k0_pay16 (k0_pay4 (iblk m c 4 t)) (k0_pay5 (iblk m c 5 t)) (iblk m c 2 t)) (k0_pay17 (k0_pay6 (iblk m c 6 t)) (iblk m c 2 t)) := by
  by_cases h0 : t.val % 64 = 0
  · rw [outsAt0_A m c t h0]
    dsimp only
    exact kn_A c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _
  · rw [outsAt0_B m c t h0]
    dsimp only
    exact kn_B c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _ _ _

/-- The block of values a point leaves in its third result. -/
theorem left_vn (t : Fin cfg0.N) : (outsAt0 m c t.val t.isLt).2.2.1 = k0_pay20 (iblk m c 3 t) := by
  by_cases h0 : t.val % 64 = 0
  · rw [outsAt0_A m c t h0]
    dsimp only
    exact vn_A c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _
  · rw [outsAt0_B m c t h0]
    dsimp only
    exact vn_B c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _ _ _

/-- The block of heads a point leaves in its first result. -/
theorem left_out (t : Fin cfg0.N) : (outsAt0 m c t.val t.isLt).1
    = heads (k0_pay23 (BitVec.ofNat 32 ((grid0.coords t) 1).val)) k0_pay24 (Qt m c t) (Kt m c t) (Wt m c t) (kprev m c t) (vprev m c t) (iblk m c 0 t) := by
  by_cases h0 : t.val % 64 = 0
  · unfold kprev vprev
    rw [if_pos h0, if_pos h0, outsAt0_A m c t h0]
    dsimp only
    exact out_A c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _
  · unfold kprev vprev
    rw [if_neg h0, if_neg h0, outsAt0_B m c t h0,
      ← left_keys m c ⟨t.val - 1, Nat.lt_of_le_of_lt (Nat.sub_le _ _) t.isLt⟩, ← left_values m c ⟨t.val - 1, Nat.lt_of_le_of_lt (Nat.sub_le _ _) t.isLt⟩]
    dsimp only
    exact out_B c _ _ (hs0_0 t) _ (hs0_1 t) _ (hs0_2 t) _ (hs0_3 t) _ (hs0_4 t) _ (hs0_5 t) _ (hs0_6 t) _ (hs0_7 t) _ (hs0_8 t) _ (hs0_9 t) _ _ _ _ _ _ _ _ _ _ _ _ _ _

/-- The second grid coordinate: the block's number within its sequence. -/
theorem coord1 : ∀ t : Fin cfg0.N, ((grid0.coords t) 1).val = t.val % 64 := (by decide +kernel : ∀ t : Fin grid0.N, _)

/-- The first result at an index. -/
theorem G7_apply (t : Fin cfg0.N) (r : Fin 128) (l : Fin 1024) (R : Fin 16384) (hR : R.val = 128 * t.val + r.val) :
    G7 m c (ix2 R l) = (outsAt0 m c t.val t.isLt).1 (ix2 r l) := by
  have e : pt7Of (ix2 R l) = t.val := by show 1 * (R.val / 128 - 0) + 1 * (l.val / 1024 - 0) = t.val; omega
  have e' : loc7Of (ix2 R l) = ix2 r l := by
    funext a
    apply Fin.ext
    match a with
    | ⟨0, _⟩ => show R.val % 128 = r.val; omega
    | ⟨1, _⟩ => show l.val % 1024 = l.val; omega
  unfold G7
  rw [dif_pos (lt_of_eq_of_lt e t.isLt), e', outsAt0_sweep]
  exact congrArg (fun u => u.1 (ix2 r l)) (fold0_congr m c _ _ _ _ e)

/-- The second result at an index: the last block of the sequence. -/
theorem G8_apply (t : Fin cfg0.N) (b : Fin 2) (hb : t.val = 64 * b.val + 63) (r : Fin 128) (l : Fin 256) :
    G8 m c (ix3 b r l) = (outsAt0 m c t.val t.isLt).2.1 (ix3 0 r l) := by
  have e : pt8Of (ix3 b r l) = t.val := by
    show 64 * (1 * (b.val / 1 - 0) + 1 * (r.val / 128 - 0) + 1 * (l.val / 256 - 0)) + 63 = t.val; omega
  have e' : loc8Of (ix3 b r l) = ix3 0 r l := by
    funext a
    apply Fin.ext
    match a with
    | ⟨0, _⟩ => show b.val % 1 = 0; omega
    | ⟨1, _⟩ => show r.val % 128 = r.val; omega
    | ⟨2, _⟩ => show l.val % 256 = l.val; omega
  unfold G8
  rw [dif_pos (lt_of_eq_of_lt e t.isLt), e', outsAt0_sweep]
  exact congrArg (fun u => u.2.1 (ix3 0 r l)) (fold0_congr m c _ _ _ _ e)

/-- The third result at an index: the last block of the sequence. -/
theorem G9_apply (t : Fin cfg0.N) (b : Fin 2) (hb : t.val = 64 * b.val + 63) (r : Fin 128) (l : Fin 256) :
    G9 m c (ix3 b r l) = (outsAt0 m c t.val t.isLt).2.2.1 (ix3 0 r l) := by
  have e : pt9Of (ix3 b r l) = t.val := by
    show 64 * (1 * (b.val / 1 - 0) + 1 * (r.val / 128 - 0) + 1 * (l.val / 256 - 0)) + 63 = t.val; omega
  have e' : loc9Of (ix3 b r l) = ix3 0 r l := by
    funext a
    apply Fin.ext
    match a with
    | ⟨0, _⟩ => show b.val % 1 = 0; omega
    | ⟨1, _⟩ => show r.val % 128 = r.val; omega
    | ⟨2, _⟩ => show l.val % 256 = l.val; omega
  unfold G9
  rw [dif_pos (lt_of_eq_of_lt e t.isLt), e', outsAt0_sweep]
  exact congrArg (fun u => u.2.2.1 (ix3 0 r l)) (fold0_congr m c _ _ _ _ e)

/-- The index maps at grid point `t`. -/
theorem maps : ∀ t : Fin cfg0.N,
    (win0_1.index t (0 : Fin 2) = t.val ∧ win0_1.index t (1 : Fin 2) = 0) ∧ (win0_2.index t (0 : Fin 2) = t.val ∧ win0_2.index t (1 : Fin 2) = 28)
    ∧ (win0_3.index t (0 : Fin 2) = t.val ∧ win0_3.index t (1 : Fin 2) = 29) ∧ (win0_4.index t (0 : Fin 2) = t.val % 64 ∧ win0_4.index t (1 : Fin 2) = 0)
    ∧ (win0_5.index t (0 : Fin 2) = t.val % 64 ∧ win0_5.index t (1 : Fin 2) = 0) ∧ (win0_6.index t (0 : Fin 2) = t.val % 64 ∧ win0_6.index t (1 : Fin 2) = 0)
    ∧ win0_0.index t (0 : Fin 1) = 0 :=
  (by decide +kernel : ∀ t : Fin grid0.N, _)

variable (t : Fin cfg0.N) (r : Fin 128)

/-- The queries' tile. -/
theorem blk_q (k : Fin 1024) (R : Fin 16896) (hR : R.val = 128 * t.val + r.val) :
    X0_1 m c t (ix2 r k) = (V m c main_arg0 : Vec F S16896x7680 .f32) (ix2 R ⟨k.val, by omega⟩) := by
  obtain ⟨⟨e0, e1⟩, -⟩ := maps t
  unfold X0_1 Pipeline.Window.fill
  rw [dif_pos (moved0_1 t (ix2 r k))]
  unfold iblk
  rw [View.read_apply]
  show V m c main_arg0 _ = V m c main_arg0 _
  refine congrArg (V m c main_arg0) ?_
  funext a
  apply Fin.ext
  match a with
  | ⟨0, _⟩ => show win0_1.index t 0 * 128 + 1 * r.val = R.val; rw [e0, hR]; omega
  | ⟨1, _⟩ => show win0_1.index t 1 * 1024 + 1 * k.val = k.val; rw [e1]; omega

/-- The keys' tile: columns 7168 on. -/
theorem blk_k (k : Fin 256) (R : Fin 16896) (hR : R.val = 128 * t.val + r.val) :
    (iblk m c 2 t : Vec F S128x256 .f32) (ix2 r k) = (V m c main_arg0 : Vec F S16896x7680 .f32) (ix2 R ⟨7168 + k.val, by omega⟩) := by
  obtain ⟨-, ⟨e0, e1⟩, -⟩ := maps t
  unfold iblk
  rw [View.read_apply]
  show V m c main_arg0 _ = V m c main_arg0 _
  refine congrArg (V m c main_arg0) ?_
  funext a
  apply Fin.ext
  match a with
  | ⟨0, _⟩ => show win0_2.index t 0 * 128 + 1 * r.val = R.val; rw [e0, hR]; omega
  | ⟨1, _⟩ => show win0_2.index t 1 * 256 + 1 * k.val = 7168 + k.val; rw [e1]; omega

/-- The values' tile: columns 7424 on. -/
theorem blk_v (k : Fin 256) (R : Fin 16896) (hR : R.val = 128 * t.val + r.val) :
    (iblk m c 3 t : Vec F S128x256 .f32) (ix2 r k) = (V m c main_arg0 : Vec F S16896x7680 .f32) (ix2 R ⟨7424 + k.val, by omega⟩) := by
  obtain ⟨-, -, ⟨e0, e1⟩, -⟩ := maps t
  unfold iblk
  rw [View.read_apply]
  show V m c main_arg0 _ = V m c main_arg0 _
  refine congrArg (V m c main_arg0) ?_
  funext a
  apply Fin.ext
  match a with
  | ⟨0, _⟩ => show win0_3.index t 0 * 128 + 1 * r.val = R.val; rw [e0, hR]; omega
  | ⟨1, _⟩ => show win0_3.index t 1 * 256 + 1 * k.val = 7424 + k.val; rw [e1]; omega

/-- The tile of the first rotation table. -/
theorem blk_c (k : Fin 128) (P : Fin 8192) (hP : P.val = 128 * (t.val % 64) + r.val) :
    (iblk m c 4 t : Vec F S128x128 .f32) (ix2 r k) = (V m c main_v26 : Vec F S8192x128 .f32) (ix2 P k) := by
  obtain ⟨-, -, -, ⟨e0, e1⟩, -⟩ := maps t
  unfold iblk
  rw [View.read_apply]
  show V m c main_v26 _ = V m c main_v26 _
  refine congrArg (V m c main_v26) ?_
  funext a
  apply Fin.ext
  match a with
  | ⟨0, _⟩ => show win0_4.index t 0 * 128 + 1 * r.val = P.val; rw [e0, hP]; omega
  | ⟨1, _⟩ => show win0_4.index t 1 * 128 + 1 * k.val = k.val; rw [e1]; omega

/-- The tile of the second rotation table. -/
theorem blk_a (k : Fin 128) (P : Fin 8192) (hP : P.val = 128 * (t.val % 64) + r.val) :
    (iblk m c 5 t : Vec F S128x128 .f32) (ix2 r k) = (V m c main_v29 : Vec F S8192x128 .f32) (ix2 P k) := by
  obtain ⟨-, -, -, -, ⟨e0, e1⟩, -⟩ := maps t
  unfold iblk
  rw [View.read_apply]
  show V m c main_v29 _ = V m c main_v29 _
  refine congrArg (V m c main_v29) ?_
  funext a
  apply Fin.ext
  match a with
  | ⟨0, _⟩ => show win0_5.index t 0 * 128 + 1 * r.val = P.val; rw [e0, hP]; omega
  | ⟨1, _⟩ => show win0_5.index t 1 * 128 + 1 * k.val = k.val; rw [e1]; omega

/-- The tile of the third rotation table. -/
theorem blk_b (k : Fin 128) (P : Fin 8192) (hP : P.val = 128 * (t.val % 64) + r.val) :
    (iblk m c 6 t : Vec F S128x128 .f32) (ix2 r k) = (V m c main_v32 : Vec F S8192x128 .f32) (ix2 P k) := by
  obtain ⟨-, -, -, -, -, ⟨e0, e1⟩, -⟩ := maps t
  unfold iblk
  rw [View.read_apply]
  show V m c main_v32 _ = V m c main_v32 _
  refine congrArg (V m c main_v32) ?_
  funext a
  apply Fin.ext
  match a with
  | ⟨0, _⟩ => show win0_6.index t 0 * 128 + 1 * r.val = P.val; rw [e0, hP]; omega
  | ⟨1, _⟩ => show win0_6.index t 1 * 128 + 1 * k.val = k.val; rw [e1]; omega

/-- The sinks' block is the whole of them. -/
theorem blk_s (h : Fin 16) : (iblk m c 0 t : Vec F S16 .f32) (ix1 h) = (V m c main_arg1 : Vec F S16 .f32) (ix1 h) := by
  obtain ⟨-, -, -, -, -, -, e0⟩ := maps t
  unfold iblk
  rw [View.read_apply]
  show V m c main_arg1 _ = V m c main_arg1 _
  refine congrArg (V m c main_arg1) ?_
  funext a
  apply Fin.ext
  match a with
  | ⟨0, _⟩ => show win0_0.index t 0 * 16 + 1 * h.val = h.val; rw [e0]; omega

end Cert.AttnIdeal.Pv
-- ==== Proof.AttnRef.lean ====
/-
  The prompt attention's mathematics in named stages, each over arrays, and the two long results in terms of them.
-/
module

public import proofs.«01_k».proof.Proof.Gen.AttnRefIdeal.Run
public import Idealize.ShloMosaic.Lib.Pipeline.Value

@[expose] public section

set_option maxRecDepth 16384

noncomputable section

namespace Cert.AttnRefIdeal.Pv

open Cert.AttnRefIdeal Cert.AttnRefIdeal.Gen Idealize.ShloMosaic Idealize.ShloMosaic.TcCoe Idealize.SL.Sem

variable {F : FTy → Type} [FloatOps F]

/-- The prompt's rows by sequence and position. -/
def tok (z : FVec F S16896x7680 .f32) : FVec F S2x8192x7680 .f32 :=
  shapeCast _ (extractStridedSlice S16384x7680 ![0, 0] z slices_S16896x7680_S16384x7680_0_0) shapeCasts_S16384x7680_S2x8192x7680

/-- The queries by head. -/
def qin (z : FVec F S16896x7680 .f32) : FVec F S2x8192x16x64 .f32 :=
  shapeCast _ (extractStridedSlice S2x8192x1024 ![0, 0, 0] (tok z) slices_S2x8192x7680_S2x8192x1024_0_0_0) shapeCasts_S2x8192x1024_S2x8192x16x64

/-- The keys by head. -/
def kin (z : FVec F S16896x7680 .f32) : FVec F S2x8192x4x64 .f32 :=
  shapeCast _ (extractStridedSlice S2x8192x256 ![0, 0, 7168] (tok z) slices_S2x8192x7680_S2x8192x256_0_0_7168) shapeCasts_S2x8192x256_S2x8192x4x64

/-- The values by head. -/
def vin (z : FVec F S16896x7680 .f32) : FVec F S2x8192x4x64 .f32 :=
  shapeCast _ (extractStridedSlice S2x8192x256 ![0, 0, 7424] (tok z) slices_S2x8192x7680_S2x8192x256_0_0_7424) shapeCasts_S2x8192x256_S2x8192x4x64

/-- The rotation's angle at a position, for each of its eight pairs. -/
def angle : FVec F S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1
      (Host.powf (broadcastInDim S8 ![] bcast_S_S8 (constant S_ .f32 0x48F42400#32))
        (Host.divf (mulf (broadcastInDim S8 ![] bcast_S_S8 (constant S_ .f32 0xC0000000#32)) (sitofp .f32 (iotaInDim S8 32 0)))
          (broadcastInDim S8 ![] bcast_S_S8 (constant S_ .f32 0x41800000#32))))))

/-- A table of eight entries a position, over every query head. -/
def over16 (t : FVec F S8192x8 .f32) : FVec F S2x8192x16x8 .f32 :=
  broadcastInDim S2x8192x16x8 ![0, 1, 2, 3] bcast_S1x8192x1x8_S2x8192x16x8_0_1_2_3
    (broadcastInDim S1x8192x1x8 ![1, 2, 3] bcast_S8192x1x8_S1x8192x1x8_1_2_3 (broadcastInDim S8192x1x8 ![0, 2] bcast_S8192x8_S8192x1x8_0_2 t))

/-- A table of eight entries a position, over every key head. -/
def over4 (t : FVec F S8192x8 .f32) : FVec F S2x8192x4x8 .f32 :=
  broadcastInDim S2x8192x4x8 ![0, 1, 2, 3] bcast_S1x8192x1x8_S2x8192x4x8_0_1_2_3
    (broadcastInDim S1x8192x1x8 ![1, 2, 3] bcast_S8192x1x8_S1x8192x1x8_1_2_3 (broadcastInDim S8192x1x8 ![0, 2] bcast_S8192x8_S8192x1x8_0_2 t))

/-- The first eight entries of each query head, and the next eight. -/
def lo16 (x : FVec F S2x8192x16x64 .f32) : FVec F S2x8192x16x8 .f32 :=
  extractStridedSlice S2x8192x16x8 ![0, 0, 0, 0] (extractStridedSlice S2x8192x16x16 ![0, 0, 0, 0] x slices_S2x8192x16x64_S2x8192x16x16_0_0_0_0) slices_S2x8192x16x16_S2x8192x16x8_0_0_0_0
@[inherit_doc lo16] def hi16 (x : FVec F S2x8192x16x64 .f32) : FVec F S2x8192x16x8 .f32 :=
  extractStridedSlice S2x8192x16x8 ![0, 0, 0, 8] (extractStridedSlice S2x8192x16x16 ![0, 0, 0, 0] x slices_S2x8192x16x64_S2x8192x16x16_0_0_0_0) slices_S2x8192x16x16_S2x8192x16x8_0_0_0_8

/-- The first eight entries of each key head, and the next eight. -/
def lo4 (x : FVec F S2x8192x4x64 .f32) : FVec F S2x8192x4x8 .f32 :=
  extractStridedSlice S2x8192x4x8 ![0, 0, 0, 0] (extractStridedSlice S2x8192x4x16 ![0, 0, 0, 0] x slices_S2x8192x4x64_S2x8192x4x16_0_0_0_0) slices_S2x8192x4x16_S2x8192x4x8_0_0_0_0
@[inherit_doc lo4] def hi4 (x : FVec F S2x8192x4x64 .f32) : FVec F S2x8192x4x8 .f32 :=
  extractStridedSlice S2x8192x4x8 ![0, 0, 0, 8] (extractStridedSlice S2x8192x4x16 ![0, 0, 0, 0] x slices_S2x8192x4x64_S2x8192x4x16_0_0_0_0) slices_S2x8192x4x16_S2x8192x4x8_0_0_0_8

/-- The queries rotated by the tables' cosines and sines. -/
def turn16 (x : FVec F S2x8192x16x64 .f32) (cs sn : FVec F S8192x8 .f32) : FVec F S2x8192x16x64 .f32 :=
  concatenate S2x8192x16x64 3
    [⟨S2x8192x16x16, concatenate S2x8192x16x16 3
      [⟨S2x8192x16x8, subf (mulf (lo16 x) (over16 cs)) (mulf (hi16 x) (over16 sn))⟩,
       ⟨S2x8192x16x8, addf (mulf (hi16 x) (over16 cs)) (mulf (lo16 x) (over16 sn))⟩] concatenates_S2x8192x16x8_S2x8192x16x8_S2x8192x16x16_d3⟩,
     ⟨S2x8192x16x48, extractStridedSlice S2x8192x16x48 ![0, 0, 0, 16] x slices_S2x8192x16x64_S2x8192x16x48_0_0_0_16⟩]
    concatenates_S2x8192x16x16_S2x8192x16x48_S2x8192x16x64_d3

/-- The keys rotated by the tables' cosines and sines. -/
def turn4 (x : FVec F S2x8192x4x64 .f32) (cs sn : FVec F S8192x8 .f32) : FVec F S2x8192x4x64 .f32 :=
  concatenate S2x8192x4x64 3
    [⟨S2x8192x4x16, concatenate S2x8192x4x16 3
      [⟨S2x8192x4x8, subf (mulf (lo4 x) (over4 cs)) (mulf (hi4 x) (over4 sn))⟩,
       ⟨S2x8192x4x8, addf (mulf (hi4 x) (over4 cs)) (mulf (lo4 x) (over4 sn))⟩] concatenates_S2x8192x4x8_S2x8192x4x8_S2x8192x4x16_d3⟩,
     ⟨S2x8192x4x48, extractStridedSlice S2x8192x4x48 ![0, 0, 0, 16] x slices_S2x8192x4x64_S2x8192x4x48_0_0_0_16⟩]
    concatenates_S2x8192x4x16_S2x8192x4x48_S2x8192x4x64_d3

/-- A window of zero rows before the first, in blocks of 128 rows. -/
def led (y : FVec F S2x8192x4x64 .f32) : FVec F S2x65x128x4x64 .f32 :=
  shapeCast _ (pad S2x8320x4x64 ![0, 128, 0, 0] ![0, 0, 0, 0] ![0, 0, 0, 0] y (sitofp .f32 (constantI S_ 32 0#32)) pads_S2x8192x4x64_S2x8320x4x64_000_12800_000_000 h_S_)
    shapeCasts_S2x8320x4x64_S2x65x128x4x64

/-- Each block of 128 rows after the block before it. -/
def band (y : FVec F S2x8192x4x64 .f32) : FVec F S2x64x256x4x64 .f32 :=
  concatenate S2x64x256x4x64 2
    [⟨S2x64x128x4x64, extractStridedSlice S2x64x128x4x64 ![0, 0, 0, 0, 0] (led y) slices_S2x65x128x4x64_S2x64x128x4x64_0_0_0_0_0⟩,
     ⟨S2x64x128x4x64, extractStridedSlice S2x64x128x4x64 ![0, 1, 0, 0, 0] (led y) slices_S2x65x128x4x64_S2x64x128x4x64_0_1_0_0_0⟩]
    concatenates_S2x64x128x4x64_S2x64x128x4x64_S2x64x256x4x64_d2

/-- The positions from 128 before the first, in blocks of 128. -/
def spots : IVec S65x128 32 :=
  shapeCast _ (addi (broadcastInDim S8320 ![] bcast_S_S8320 (constantI S_ 32 4294967168#32)) (iotaInDim S8320 32 0)) shapeCasts_S8320_S65x128

/-- The positions of a block's keys. -/
def kspot : IVec S64x1x256 32 :=
  broadcastInDim S64x1x256 ![0, 2] bcast_S64x256_S64x1x256_0_2 (concatenate S64x256 1
    [⟨S64x128, extractStridedSlice S64x128 ![0, 0] spots slices_S65x128_S64x128_0_0⟩,
     ⟨S64x128, extractStridedSlice S64x128 ![1, 0] spots slices_S65x128_S64x128_1_0⟩] concatenates_S64x128_S64x128_S64x256_d1)

/-- The positions of a block's queries. -/
def qspot : IVec S64x128x1 32 :=
  broadcastInDim S64x128x1 ![0, 1] bcast_S64x128_S64x128x1_0_1 (extractStridedSlice S64x128 ![1, 0] spots slices_S65x128_S64x128_1_0)

/-- Which keys a query may read: none after it, none more than a window before it, none before the sequence. -/
def seen : IVec S64x128x256 1 :=
  andi (andi
    (cmpi .sle (broadcastInDim S64x128x256 ![0, 1, 2] bcast_S64x1x256_S64x128x256_0_1_2 kspot)
      (broadcastInDim S64x128x256 ![0, 1, 2] bcast_S64x128x1_S64x128x256_0_1_2 qspot))
    (cmpi .sge (broadcastInDim S64x128x256 ![0, 1, 2] bcast_S64x1x256_S64x128x256_0_1_2 kspot)
      (broadcastInDim S64x128x256 ![0, 1, 2] bcast_S64x128x1_S64x128x256_0_1_2 (subi qspot (broadcastInDim S64x128x1 ![] bcast_S_S64x128x1 (constantI S_ 32 128#32))))))
    (broadcastInDim S64x128x256 ![0, 1, 2] bcast_S64x1x256_S64x128x256_0_1_2 (cmpi .sge kspot (broadcastInDim S64x1x256 ![] bcast_S_S64x1x256 (constantI S_ 32 0#32))))

/-- The scaled products of the queries with their block's keys. -/
def dots (k : FVec F S2x64x256x4x64 .f32) (q : FVec F S2x8192x16x64 .f32) : FVec F S2x64x4x4x128x256 .f32 :=
  mulf (transpose S2x64x4x4x128x256 [0, 1, 2, 5, 4, 3]
      (Host.dotGeneral dot_S2x64x256x4x64_S2x64x128x4x4x64_S2x64x4x256x128x4_4_5_2_24_013_013 none k (shapeCast _ q shapeCasts_S2x8192x16x64_S2x64x128x4x4x64))
      transposes_S2x64x4x256x128x4_S2x64x4x4x128x256_0_1_2_5_4_3)
    (broadcastInDim S2x64x4x4x128x256 ![] bcast_S_S2x64x4x4x128x256 (constant S_ .f32 0x3E000000#32))

/-- The products where a key may be read, the lowest value elsewhere. -/
def kept (ok : IVec S64x128x256 1) (s : FVec F S2x64x4x4x128x256 .f32) : FVec F S2x64x4x4x128x256 .f32 :=
  select (broadcastInDim S2x64x4x4x128x256 ![0, 1, 2, 3, 4, 5] bcast_S1x64x1x1x128x256_S2x64x4x4x128x256_0_1_2_3_4_5
      (broadcastInDim S1x64x1x1x128x256 ![1, 4, 5] bcast_S64x128x256_S1x64x1x1x128x256_1_4_5 ok)) s
    (broadcastInDim S2x64x4x4x128x256 ![] bcast_S_S2x64x4x4x128x256 (constant S_ .f32 0xFF800000#32))

/-- The scores with the head's sink as a last column. -/
def sunk (s : FVec F S2x64x4x4x128x256 .f32) (a : FVec F S16 .f32) : FVec F S2x64x4x4x128x257 .f32 :=
  concatenate S2x64x4x4x128x257 5
    [⟨S2x64x4x4x128x256, s⟩,
     ⟨S2x64x4x4x128x1, broadcastInDim S2x64x4x4x128x1 ![2, 3, 4, 5] bcast_S4x4x1x1_S2x64x4x4x128x1_2_3_4_5
        (broadcastInDim S4x4x1x1 ![0, 1] bcast_S4x4_S4x4x1x1_0_1 (shapeCast _ a shapeCasts_S16_S4x4))⟩]
    concatenates_S2x64x4x4x128x256_S2x64x4x4x128x1_S2x64x4x4x128x257_d5

/-- A row's value over its 257 columns. -/
def over257 (y : FVec F S2x64x4x4x128 .f32) : FVec F S2x64x4x4x128x257 .f32 :=
  broadcastInDim S2x64x4x4x128x257 ![0, 1, 2, 3, 4, 5] bcast_S2x64x4x4x128x1_S2x64x4x4x128x257_0_1_2_3_4_5
    (broadcastInDim S2x64x4x4x128x1 ![0, 1, 2, 3, 4] bcast_S2x64x4x4x128_S2x64x4x4x128x1_0_1_2_3_4 y)

/-- A row's largest. -/
def crest (x : FVec F S2x64x4x4x128x257 .f32) : FVec F S2x64x4x4x128 .f32 :=
  Host.reduce FloatOps.maximumf x (constant S_ .f32 0xFF800000#32) reducesTo_S2x64x4x4x128x257_S2x64x4x4x128_d5 h_S_

/-- The lowest value in every row. -/
def floor : FVec F S2x64x4x4x128 .f32 := broadcastInDim S2x64x4x4x128 ![] bcast_S_S2x64x4x4x128 (constant S_ .f32 0xFF800000#32)

/-- A row's sum. -/
def total (e : FVec F S2x64x4x4x128x257 .f32) : FVec F S2x64x4x4x128 .f32 :=
  Host.reduceAdd e (constant S_ .f32 0x00000000#32) reducesTo_S2x64x4x4x128x257_S2x64x4x4x128_d5 h_S_

/-- The exponentials below a row's largest. -/
def exps (x : FVec F S2x64x4x4x128x257 .f32) : FVec F S2x64x4x4x128x257 .f32 :=
  Host.exp (subf x (over257 (maximumf floor (crest x))))

/-- The exponentials over their row's sum. -/
def shares (e : FVec F S2x64x4x4x128x257 .f32) : FVec F S2x64x4x4x128x257 .f32 :=
  Host.divf e (over257 (total e))

/-- The values mixed by the shares. -/
def mixed (v : FVec F S2x64x256x4x64 .f32) (p : FVec F S2x64x4x4x128x257 .f32) : FVec F S2x64x4x64x4x128 .f32 :=
  Host.dotGeneral dot_S2x64x256x4x64_S2x64x4x4x128x256_S2x64x4x64x4x128_2_5_4_34_013_012 none v
    (extractStridedSlice S2x64x4x4x128x256 ![0, 0, 0, 0, 0, 0] p slices_S2x64x4x4x128x257_S2x64x4x4x128x256_0_0_0_0_0_0)

/-- The mixed values as rows. -/
def rows (y : FVec F S2x64x4x64x4x128 .f32) : FVec F S16384x1024 .f32 :=
  shapeCast _ (shapeCast _ (transpose S2x64x128x4x4x64 [0, 1, 5, 2, 4, 3] y transposes_S2x64x4x64x4x128_S2x64x128x4x4x64_0_1_5_2_4_3) shapeCasts_S2x64x128x4x4x64_S2x8192x1024)
    shapeCasts_S2x8192x1024_S16384x1024

/-- The last window's rows of an array. -/
def tail (y : FVec F S2x8192x4x64 .f32) : FVec F S2x128x256 .f32 :=
  shapeCast _ (extractStridedSlice S2x128x4x64 ![0, 8064, 0, 0] y slices_S2x8192x4x64_S2x128x4x64_0_8064_0_0) shapeCasts_S2x128x4x64_S2x128x256

/-- The attention's first result, from its arguments. -/
def attn (z : FVec F S16896x7680 .f32) (a : FVec F S16 .f32) : FVec F S16384x1024 .f32 :=
  rows (mixed (band (vin z)) (shares (exps (sunk (kept seen (dots (band (turn4 (kin z) (Host.cos angle) (Host.sin angle))) (turn16 (qin z) (Host.cos angle) (Host.sin angle)))) a))))

/-- The first result is the attention of the arguments. -/
theorem first (m : (ℓ : Loc nD τ sig) → Buf (Elt F) ℓ) (c : Dev nD) :
    Cert.AttnRefIdeal.Value.res_main_v144 m c = attn (m ((c.tc : Thread nD τ).loc main_arg0)) (m ((c.tc : Thread nD τ).loc main_arg1)) := by
  unfold Cert.AttnRefIdeal.Value.res_main_v144
  rfl

/-- The second result is the last window's rotated keys. -/
theorem second (m : (ℓ : Loc nD τ sig) → Buf (Elt F) ℓ) (c : Dev nD) :
    Cert.AttnRefIdeal.Value.res_main_v145 m c = tail (turn4 (kin (m ((c.tc : Thread nD τ).loc main_arg0))) (Host.cos angle) (Host.sin angle)) := by
  unfold Cert.AttnRefIdeal.Value.res_main_v145
  rfl

end Cert.AttnRefIdeal.Pv

end
-- ==== Proof.AttnRefTurn.lean ====
/-
  The prompt attention's mathematics: the rotated queries and keys entry by entry.
-/
module

public import proofs.«01_k».proof.Proof.AttnRef
public import Idealize.ShloMosaic.Lib.Pointwise

@[expose] public section

set_option maxRecDepth 16384
set_option maxHeartbeats 400000

noncomputable section

namespace Cert.Proof.Attn

/-- A head's entry rotated: the first eight entries and the next eight in pairs, the others as they are. -/
def rope (x : Fin 64 → EReal) (cs sn : Fin 8 → EReal) (d : Fin 64) : EReal :=
  if h : d.val < 8 then x d * cs ⟨d.val, h⟩ - x ⟨d.val + 8, by omega⟩ * sn ⟨d.val, h⟩
  else if h' : d.val < 16 then x d * cs ⟨d.val - 8, by omega⟩ + x ⟨d.val - 8, by omega⟩ * sn ⟨d.val - 8, by omega⟩
  else x d

end Cert.Proof.Attn

namespace Cert.AttnRefIdeal.Pv

open Cert.AttnRefIdeal Cert.AttnRefIdeal.Gen Idealize.ShloMosaic Idealize.ShloMosaic.TcCoe Idealize.SL.Sem
open Cert.Proof.Attn

/-- A query's entry. -/
theorem qin_apply (z : FVec Ideal S16896x7680 .f32) (b : Fin 2) (p : Fin 8192) (h : Fin 16) (d : Fin 64) :
    qin z (ix4 b p h d) = z (ix2 ⟨8192 * b.val + p.val, by omega⟩ ⟨64 * h.val + d.val, by omega⟩) := by
  pointwise [qin, tok]
  exact congrArg₂ (fun u v => z (ix2 u v)) (Fin.ext (by dsimp only; omega)) (Fin.ext (by dsimp only; omega))

/-- A key's entry. -/
theorem kin_apply (z : FVec Ideal S16896x7680 .f32) (b : Fin 2) (p : Fin 8192) (h : Fin 4) (d : Fin 64) :
    kin z (ix4 b p h d) = z (ix2 ⟨8192 * b.val + p.val, by omega⟩ ⟨7168 + (64 * h.val + d.val), by omega⟩) := by
  pointwise [kin, tok]
  exact congrArg₂ (fun u v => z (ix2 u v)) (Fin.ext (by dsimp only; omega)) (Fin.ext (by dsimp only; omega))

/-- A value's entry. -/
theorem vin_apply (z : FVec Ideal S16896x7680 .f32) (b : Fin 2) (p : Fin 8192) (h : Fin 4) (d : Fin 64) :
    vin z (ix4 b p h d) = z (ix2 ⟨8192 * b.val + p.val, by omega⟩ ⟨7424 + (64 * h.val + d.val), by omega⟩) := by
  pointwise [vin, tok]
  exact congrArg₂ (fun u v => z (ix2 u v)) (Fin.ext (by dsimp only; omega)) (Fin.ext (by dsimp only; omega))

/-- The three ranges of a rotated head, read as one rule. -/
theorem rope_of (x : Fin 64 → EReal) (cs sn : Fin 8 → EReal) (d : Fin 64)
    (y : EReal)
    (h1 : ∀ h : d.val < 8, y = x d * cs ⟨d.val, h⟩ - x ⟨8 + d.val, by omega⟩ * sn ⟨d.val, h⟩)
    (h2 : ∀ (h : ¬ d.val < 8) (h' : d.val < 16), y = x ⟨8 + (d.val - 8), by omega⟩ * cs ⟨d.val - 8, by omega⟩ + x ⟨d.val - 8, by omega⟩ * sn ⟨d.val - 8, by omega⟩)
    (h3 : ∀ (h : ¬ d.val < 16), y = x ⟨16 + (d.val - 16), by omega⟩) : y = rope x cs sn d := by
  unfold rope
  split
  · rename_i h
    rw [h1 h]
    exact congrArg (fun u => x d * cs ⟨d.val, h⟩ - x u * sn ⟨d.val, h⟩) (Fin.ext (by dsimp only; omega))
  · rename_i h
    split
    · rename_i h'
      rw [h2 h h']
      exact congrArg (fun u => x u * cs ⟨d.val - 8, by omega⟩ + x ⟨d.val - 8, by omega⟩ * sn ⟨d.val - 8, by omega⟩) (Fin.ext (by dsimp only; omega))
    · rename_i h'
      rw [h3 h']
      exact congrArg x (Fin.ext (by dsimp only; omega))

/-- A rotated query's entry. -/
theorem turn16_apply (x : FVec Ideal S2x8192x16x64 .f32) (cs sn : FVec Ideal S8192x8 .f32) (b : Fin 2) (p : Fin 8192) (h : Fin 16) (d : Fin 64) :
    turn16 x cs sn (ix4 b p h d) = rope (fun e => x (ix4 b p h e)) (fun e => cs (ix2 p e)) (fun e => sn (ix2 p e)) d := by
  apply rope_of
  · intro h1
    pointwise [turn16, lo16, hi16, over16]
    rw [dif_pos (by omega), dif_pos h1]
  · intro h1 h2
    pointwise [turn16, lo16, hi16, over16]
    rw [dif_pos h2, dif_neg h1]
  · intro h1
    pointwise [turn16, lo16, hi16, over16]
    rw [dif_neg h1]

/-- A rotated key's entry. -/
theorem turn4_apply (x : FVec Ideal S2x8192x4x64 .f32) (cs sn : FVec Ideal S8192x8 .f32) (b : Fin 2) (p : Fin 8192) (h : Fin 4) (d : Fin 64) :
    turn4 x cs sn (ix4 b p h d) = rope (fun e => x (ix4 b p h e)) (fun e => cs (ix2 p e)) (fun e => sn (ix2 p e)) d := by
  apply rope_of
  · intro h1
    pointwise [turn4, lo4, hi4, over4]
    rw [dif_pos (by omega), dif_pos h1]
  · intro h1 h2
    pointwise [turn4, lo4, hi4, over4]
    rw [dif_pos h2, dif_neg h1]
  · intro h1
    pointwise [turn4, lo4, hi4, over4]
    rw [dif_neg h1]

/-- The last window's entry. -/
theorem tail_apply (y : FVec Ideal S2x8192x4x64 .f32) (b : Fin 2) (r : Fin 128) (l : Fin 256) :
    tail y (ix3 b r l) = y (ix4 b ⟨8064 + r.val, by omega⟩ ⟨l.val / 64, by omega⟩ ⟨l.val % 64, by omega⟩) := by
  pointwise [tail]

end Cert.AttnRefIdeal.Pv

end
-- ==== Proof.AttnTables.lean ====
/-
  The prompt attention: the rotation's tables the host prepares, entry by entry.
-/
module

public import proofs.«01_k».proof.Proof.AttnBlock
public import proofs.«01_k».proof.Proof.AttnRefTurn

@[expose] public section

set_option maxRecDepth 16384
set_option maxHeartbeats 400000

noncomputable section

namespace Cert.AttnIdeal.Pv

open Cert.AttnIdeal Cert.AttnIdeal.Gen Cert.AttnIdeal.Value Idealize.ShloMosaic Idealize.ShloMosaic.TcCoe Idealize.SL.Sem
open Cert.Proof.Attn

/-- A table of 64 entries a position, twice side by side. -/
def twice (t : FVec Ideal S8192x64 .f32) : FVec Ideal S8192x128 .f32 :=
  shapeCast S8192x128 (broadcastInDim S1x8192x2x64 ![0, 1, 2, 3] bcast_S1x8192x1x64_S1x8192x2x64_0_1_2_3 (shapeCast S1x8192x1x64 t shapeCasts_S8192x64_S1x8192x1x64))
    shapeCasts_S1x8192x2x64_S8192x128

/-- The cosines of a head: each twice, then ones. -/
def costab (cs : FVec Ideal S8192x8 .f32) : FVec Ideal S8192x64 .f32 :=
  concatenate S8192x64 1 [⟨S8192x8, cs⟩, ⟨S8192x8, cs⟩, ⟨S8192x48, broadcastInDim S8192x48 ![] bcast_S_S8192x48 (constant (F := Ideal) S_ .f32 0x3F800000#32)⟩]
    concatenates_S8192x8_S8192x8_S8192x48_S8192x64_d1

/-- The negated sines of a head, then zeros. -/
def negtab (sn : FVec Ideal S8192x8 .f32) : FVec Ideal S8192x64 .f32 :=
  concatenate S8192x64 1 [⟨S8192x8, Host.negf sn⟩, ⟨S8192x56, broadcastInDim S8192x56 ![] bcast_S_S8192x56 (constant (F := Ideal) S_ .f32 0x00000000#32)⟩]
    concatenates_S8192x8_S8192x56_S8192x64_d1

/-- The sines of a head in its second eight entries, zeros elsewhere. -/
def postab (sn : FVec Ideal S8192x8 .f32) : FVec Ideal S8192x64 .f32 :=
  concatenate S8192x64 1 [⟨S8192x8, broadcastInDim S8192x8 ![] bcast_S_S8192x8 (constant (F := Ideal) S_ .f32 0x00000000#32)⟩, ⟨S8192x8, sn⟩,
    ⟨S8192x48, broadcastInDim S8192x48 ![] bcast_S_S8192x48 (constant (F := Ideal) S_ .f32 0x00000000#32)⟩] concatenates_S8192x8_S8192x8_S8192x48_S8192x64_d1

/-- A lane of the cosines' table. -/
theorem costab_apply (cs : FVec Ideal S8192x8 .f32) (p : Fin 8192) (l : Fin 128) :
    twice (costab cs) (ix2 p l) = if h : l.val % 64 < 8 then (cs (ix2 p ⟨l.val % 64, h⟩) : EReal)
      else if h' : l.val % 64 - 8 < 8 then (cs (ix2 p ⟨l.val % 64 - 8, h'⟩) : EReal) else 1 := by
  pointwise [twice, costab]

/-- A lane of the negated sines' table. -/
theorem negtab_apply (sn : FVec Ideal S8192x8 .f32) (p : Fin 8192) (l : Fin 128) :
    twice (negtab sn) (ix2 p l) = if h : l.val % 64 < 8 then -(sn (ix2 p ⟨l.val % 64, h⟩) : EReal) else 0 := by
  pointwise [twice, negtab]

/-- A lane of the sines' table. -/
theorem postab_apply (sn : FVec Ideal S8192x8 .f32) (p : Fin 8192) (l : Fin 128) :
    twice (postab sn) (ix2 p l) = if h : l.val % 64 < 8 then (0 : EReal)
      else if h' : l.val % 64 - 8 < 8 then (sn (ix2 p ⟨l.val % 64 - 8, h'⟩) : EReal) else 0 := by
  pointwise [twice, postab]

/-- A lane by the three tables is the head's entry rotated. -/
theorem lane (x : Fin 64 → EReal) (cs sn : FVec Ideal S8192x8 .f32) (p : Fin 8192) (l : Fin 128) (d : Fin 64) (hd : l.val % 64 = d.val) (y1 y2 : EReal)
    (h1 : ∀ h : d.val < 8, y1 = x ⟨d.val + 8, by omega⟩) (h2 : ∀ h : ¬ d.val < 8, y2 = x ⟨d.val - 8, by omega⟩) :
    x d * twice (costab cs) (ix2 p l) + y1 * twice (negtab sn) (ix2 p l) + y2 * twice (postab sn) (ix2 p l)
      = rope x (fun e => cs (ix2 p e)) (fun e => sn (ix2 p e)) d := by
  rw [costab_apply, negtab_apply, postab_apply]
  unfold rope
  simp only [hd]
  by_cases h : d.val < 8
  · rw [dif_pos h, dif_pos h, dif_pos h, dif_pos h, h1 h, mul_zero, add_zero, mul_neg, sub_eq_add_neg]
  · by_cases h' : d.val < 16
    · have h'' : d.val - 8 < 8 := by omega
      rw [dif_neg h, dif_neg h, dif_neg h, dif_neg h, dif_pos h'', dif_pos h'', dif_pos h', h2 h, mul_zero, add_zero]
    · have h'' : ¬ d.val - 8 < 8 := by omega
      rw [dif_neg h, dif_neg h, dif_neg h, dif_neg h, dif_neg h'', dif_neg h'', dif_neg h', mul_zero, mul_zero, mul_one, add_zero, add_zero]

variable (m : (ℓ : Loc nD τ sig) → Buf (Elt Ideal) ℓ) (c : Dev nD)

/-- The region reads the three tables of the reference's angles. -/
theorem cos_eq : (V m c main_v26 : Vec Ideal S8192x128 .f32) = twice (costab (Host.cos Cert.AttnRefIdeal.Pv.angle)) := by
  unfold V
  after_results <;> rfl

@[inherit_doc cos_eq] theorem neg_eq : (V m c main_v29 : Vec Ideal S8192x128 .f32) = twice (negtab (Host.sin Cert.AttnRefIdeal.Pv.angle)) := by
  unfold V
  after_results <;> rfl

@[inherit_doc cos_eq] theorem pos_eq : (V m c main_v32 : Vec Ideal S8192x128 .f32) = twice (postab (Host.sin Cert.AttnRefIdeal.Pv.angle)) := by
  unfold V
  after_results <;> rfl

end Cert.AttnIdeal.Pv

end
-- ==== Proof.AttnRope.lean ====
/-
  The prompt attention: the rotated queries and keys of a tile, entry by entry.
-/
module

public import proofs.«01_k».proof.Proof.AttnHead
public import Idealize.ShloMosaic.Lib.KernelVsHost

@[expose] public section

set_option maxRecDepth 16384
set_option maxHeartbeats 400000

noncomputable section

namespace Cert.AttnIdeal.Pv

open Cert.AttnIdeal Cert.AttnIdeal.Gen Idealize.ShloMosaic Idealize.ShloMosaic.TcCoe Idealize.SL.Sem

/-- One slab of 128 lanes rotated: the lanes by the first table, the lanes 8 up by the second, the lanes 8 down by the third. -/
def slab {F : FTy → Type} [FloatOps F] (x c a b : FVec F S128x128 .f32) : FVec F S128x128 .f32 :=
  addf (addf (mulf x c) (mulf (dynamicRotate 1 120#32 none x rotates_S128x128_d1) a)) (mulf (dynamicRotate 1 8#32 none x rotates_S128x128_d1) b)

/-- A lane rotated by 120 of 128 reads the lane 8 up. -/
theorem roll_up (x : FVec Ideal S128x128 .f32) (r l : Fin 128) :
    dynamicRotate 1 120#32 none x rotates_S128x128_d1 (ix2 r l) = x (ix2 r ⟨(l.val + 8) % 128, Nat.mod_lt _ (by decide)⟩) := by
  refine dynamicRotate_apply (1 : Fin 2) 120#32 x _ (ix2 r l) _ fun b => ?_
  match b with
  | ⟨0, _⟩ => rfl
  | ⟨1, _⟩ => show (l.val + 8) % 128 = (l.val + 128 - 120 % 128) % 128; omega

/-- A lane rotated by 8 reads the lane 8 down. -/
theorem roll_down (x : FVec Ideal S128x128 .f32) (r l : Fin 128) :
    dynamicRotate 1 8#32 none x rotates_S128x128_d1 (ix2 r l) = x (ix2 r ⟨(l.val + 120) % 128, Nat.mod_lt _ (by decide)⟩) := by
  refine dynamicRotate_apply (1 : Fin 2) 8#32 x _ (ix2 r l) _ fun b => ?_
  match b with
  | ⟨0, _⟩ => rfl
  | ⟨1, _⟩ => show (l.val + 120) % 128 = (l.val + 128 - 8 % 128) % 128; omega

/-- One entry of a rotated slab. -/
theorem slab_apply (x c a b : FVec Ideal S128x128 .f32) (r l : Fin 128) :
    slab x c a b (ix2 r l) = x (ix2 r l) * c (ix2 r l) + x (ix2 r ⟨(l.val + 8) % 128, Nat.mod_lt _ (by decide)⟩) * a (ix2 r l)
      + x (ix2 r ⟨(l.val + 120) % 128, Nat.mod_lt _ (by decide)⟩) * b (ix2 r l) := by
  rw [← roll_up x r l, ← roll_down x r l]
  rfl

theorem slices8 : ∀ j : Fin 8, S128x1024.Slices ![0, 128 * j.val] S128x128 := by decide
theorem slices2 : ∀ j : Fin 2, S128x256.Slices ![0, 128 * j.val] S128x128 := by decide

/-- The rotated slab `j` of the queries. -/
def qslab {F : FTy → Type} [FloatOps F] (x1 : Vec F S128x1024 .f32) (x4 x5 x6 : Vec F S128x128 .f32) (j : Fin 8) : FVec F S128x128 .f32 :=
  slab (extractStridedSlice S128x128 ![0, 128 * j.val] x1 (slices8 j)) (k0_pay4 x4) (k0_pay5 x5) (k0_pay6 x6)

/-- The rotated slab `j` of the keys. -/
def kslab {F : FTy → Type} [FloatOps F] (x2 : Vec F S128x256 .f32) (x4 x5 x6 : Vec F S128x128 .f32) (j : Fin 2) : FVec F S128x128 .f32 :=
  slab (extractStridedSlice S128x128 ![0, 128 * j.val] x2 (slices2 j)) (k0_pay4 x4) (k0_pay5 x5) (k0_pay6 x6)

/-- Eight slabs side by side, read in slab `j`. -/
theorem join8 (f : Fin 8 → FVec Ideal S128x128 .f32) (r : Fin 128) (j : Fin 8) (l : Fin 128) :
    concatenate S128x1024 1 [⟨S128x128, f 0⟩, ⟨S128x128, f 1⟩, ⟨S128x128, f 2⟩, ⟨S128x128, f 3⟩, ⟨S128x128, f 4⟩, ⟨S128x128, f 5⟩, ⟨S128x128, f 6⟩,
      ⟨S128x128, f 7⟩] concatenates_S128x128_S128x128_S128x128_S128x128_S128x128_S128x128_S128x128_S128x128_S128x1024_d1
      (ix2 r ⟨128 * j.val + l.val, by omega⟩) = f j (ix2 r l) := by
  have hl := l.isLt
  pointwise
  fin_cases j <;> dsimp only <;>
    first
    | (repeat (first | rw [dif_pos (by omega)] | rw [dif_neg (by omega)])) <;>
      exact congrArg (fun u => f _ (ix2 r u)) (Fin.ext (by dsimp only; omega))

/-- Two slabs side by side, read in slab `j`. -/
theorem join2 (f : Fin 2 → FVec Ideal S128x128 .f32) (r : Fin 128) (j : Fin 2) (l : Fin 128) :
    concatenate S128x256 1 [⟨S128x128, f 0⟩, ⟨S128x128, f 1⟩] concatenates_S128x128_S128x128_S128x256_d1
      (ix2 r ⟨128 * j.val + l.val, by omega⟩) = f j (ix2 r l) := by
  have hl := l.isLt
  pointwise
  fin_cases j <;> dsimp only <;>
    first
    | (repeat (first | rw [dif_pos (by omega)] | rw [dif_neg (by omega)])) <;>
      exact congrArg (fun u => f _ (ix2 r u)) (Fin.ext (by dsimp only; omega))

/-- The rotated and scaled queries are the eight slabs side by side, scaled. -/
theorem qs_eq (x1 : Vec Ideal S128x1024 .f32) (x4 x5 x6 : Vec Ideal S128x128 .f32) (r : Fin 128) (j : Fin 8) (l : Fin 128) :
    qs (F := Ideal) x1 x4 x5 x6 (ix2 r ⟨128 * j.val + l.val, by omega⟩) = qslab x1 x4 x5 x6 j (ix2 r l) * Ideal.ofBits .f32 0x3E000000#32 :=
  congrArg (fun y : EReal => y * Ideal.ofBits .f32 0x3E000000#32) (join8 (qslab x1 x4 x5 x6) r j l)

/-- The rotated keys are the two slabs side by side. -/
theorem ks_eq (x2 : Vec Ideal S128x256 .f32) (x4 x5 x6 : Vec Ideal S128x128 .f32) (r : Fin 128) (j : Fin 2) (l : Fin 128) :
    ks (F := Ideal) x2 x4 x5 x6 (ix2 r ⟨128 * j.val + l.val, by omega⟩) = kslab x2 x4 x5 x6 j (ix2 r l) :=
  join2 (kslab x2 x4 x5 x6) r j l

/-- A lane of a query slab. -/
theorem qslab_apply (x1 : Vec Ideal S128x1024 .f32) (x4 x5 x6 : Vec Ideal S128x128 .f32) (r : Fin 128) (j : Fin 8) (l : Fin 128) :
    qslab x1 x4 x5 x6 j (ix2 r l) = x1 (ix2 r ⟨128 * j.val + l.val, by omega⟩) * x4 (ix2 r l)
      + x1 (ix2 r ⟨128 * j.val + (l.val + 8) % 128, by omega⟩) * x5 (ix2 r l)
      + x1 (ix2 r ⟨128 * j.val + (l.val + 120) % 128, by omega⟩) * x6 (ix2 r l) := by
  unfold qslab
  rw [slab_apply]
  pointwise [k0_pay4, k0_pay5, k0_pay6]

/-- A lane of a key slab. -/
theorem kslab_apply (x2 : Vec Ideal S128x256 .f32) (x4 x5 x6 : Vec Ideal S128x128 .f32) (r : Fin 128) (j : Fin 2) (l : Fin 128) :
    kslab x2 x4 x5 x6 j (ix2 r l) = x2 (ix2 r ⟨128 * j.val + l.val, by omega⟩) * x4 (ix2 r l)
      + x2 (ix2 r ⟨128 * j.val + (l.val + 8) % 128, by omega⟩) * x5 (ix2 r l)
      + x2 (ix2 r ⟨128 * j.val + (l.val + 120) % 128, by omega⟩) * x6 (ix2 r l) := by
  unfold kslab
  rw [slab_apply]
  pointwise [k0_pay4, k0_pay5, k0_pay6]

end Cert.AttnIdeal.Pv
-- ==== Proof.AttnMath.lean ====
/-
  The arithmetic the two attentions agree by: the softmax with a sink over two blocks, and its blocks joined.
-/
module

public import Idealize.ShloMosaic.Lib.Pointwise
public import Idealize.ShloMosaic.Lib.Tactic

@[expose] public section

set_option maxRecDepth 16384

noncomputable section

namespace Cert.Proof.Attn

open Idealize.ShloMosaic

/-- The exponential is not negative. -/
theorem exp_nonneg (x : EReal) : 0 ≤ Ideal.exp x := by
  induction x with
  | bot => exact le_refl _
  | top => exact le_top
  | coe r => exact EReal.coe_nonneg.2 (Real.exp_pos r).le

/-- The exponential of anything but the lowest value is positive. -/
theorem exp_pos (x : EReal) (h : x ≠ ⊥) : 0 < Ideal.exp x := by
  induction x with
  | bot => exact absurd rfl h
  | top => exact EReal.coe_lt_top 0
  | coe r => exact EReal.coe_pos.2 (Real.exp_pos r)

/-- Dividing by a nonzero sum is multiplying by its reciprocal. -/
theorem div_eq (x d : EReal) (h : d ≠ 0) : Ideal.div x d = x * Ideal.div 1 d := by
  unfold Ideal.div
  rw [if_neg h, if_neg h, one_mul]

/-- The largest of two rows of scores and a sink. -/
def top2 (sp sc : Fin 128 → EReal) (s : EReal) : EReal :=
  max (max (Finset.univ.sup sp) (Finset.univ.sup sc)) s

/-- The sum of the exponentials of two rows of scores and a sink below their largest. -/
def den2 (sp sc : Fin 128 → EReal) (s : EReal) : EReal :=
  (∑ j, Ideal.exp (sp j - top2 sp sc s)) + (∑ j, Ideal.exp (sc j - top2 sp sc s)) + Ideal.exp (s - top2 sp sc s)

/-- The sum is not zero where no score is the largest value there is and the sink is not the lowest. -/
theorem den2_ne (sp sc : Fin 128 → EReal) (s : EReal) (hp : ∀ j, sp j ≠ ⊤) (hc : ∀ j, sc j ≠ ⊤) (hs : s ≠ ⊤) (hs' : s ≠ ⊥) : den2 sp sc s ≠ 0 := by
  have ht : top2 sp sc s < ⊤ := by
    unfold top2
    refine max_lt (max_lt ?_ ?_) (lt_top_iff_ne_top.2 hs)
    · exact (Finset.sup_lt_iff (bot_lt_top)).2 fun j _ => lt_top_iff_ne_top.2 (hp j)
    · exact (Finset.sup_lt_iff (bot_lt_top)).2 fun j _ => lt_top_iff_ne_top.2 (hc j)
  have h1 : 0 < Ideal.exp (s - top2 sp sc s) := by
    refine exp_pos _ fun h => ?_
    induction s with
    | bot => exact hs' rfl
    | top => exact hs rfl
    | coe s =>
      generalize top2 sp sc (s : EReal) = u at h ht
      induction u with
      | bot => exact absurd h (by simp)
      | top => exact absurd ht (lt_irrefl _)
      | coe u => exact absurd h (by rw [← EReal.coe_sub]; exact EReal.coe_ne_bot _)
  have h2 : 0 ≤ (∑ j, Ideal.exp (sp j - top2 sp sc s)) + (∑ j, Ideal.exp (sc j - top2 sp sc s)) :=
    add_nonneg (Finset.sum_nonneg fun j _ => exp_nonneg _) (Finset.sum_nonneg fun j _ => exp_nonneg _)
  exact (lt_of_lt_of_le h1 (le_add_of_nonneg_left h2)).ne'

/-- A row's attention over two blocks, by the reciprocal of the sum. -/
def mix2 (sp sc : Fin 128 → EReal) (s : EReal) (vp vc : Fin 128 → EReal) : EReal :=
  (∑ j, Ideal.exp (sp j - top2 sp sc s) * Ideal.div 1 (den2 sp sc s) * vp j)
    + ∑ j, Ideal.exp (sc j - top2 sp sc s) * Ideal.div 1 (den2 sp sc s) * vc j

/-- Two rows of 128 one after the other. -/
def both (a b : Fin 128 → EReal) (k : Fin 256) : EReal :=
  if h : k.val < 128 then a ⟨k.val, h⟩ else b ⟨k.val - 128, by omega⟩

/-- Two rows of 128 and one entry after them. -/
def all3 (a b : Fin 128 → EReal) (s : EReal) (k : Fin 257) : EReal :=
  if h : k.val < 256 then both a b ⟨k.val, h⟩ else s

theorem both_lo (a b : Fin 128 → EReal) (j : Fin 128) : both a b (Fin.castAdd 128 j) = a j := by
  unfold both
  rw [dif_pos (show (Fin.castAdd 128 j).val < 128 from j.isLt)]
  rfl

theorem both_hi (a b : Fin 128 → EReal) (j : Fin 128) : both a b (Fin.natAdd 128 j) = b j := by
  unfold both
  rw [dif_neg (show ¬ (Fin.natAdd 128 j).val < 128 by simp)]
  exact congrArg b (Fin.ext (by simp))

theorem all3_lo (a b : Fin 128 → EReal) (s : EReal) (k : Fin 256) : all3 a b s (Fin.castSucc k) = both a b k := by
  unfold all3
  rw [dif_pos (show (Fin.castSucc k).val < 256 from k.isLt)]
  rfl

theorem all3_last (a b : Fin 128 → EReal) (s : EReal) : all3 a b s (Fin.last 256) = s := by
  unfold all3
  rw [dif_neg (by simp)]

/-- A sum over two rows joined. -/
theorem sum_both (f : Fin 256 → EReal) (g h : Fin 128 → EReal) (e : ∀ j, f (Fin.castAdd 128 j) = g j) (e' : ∀ j, f (Fin.natAdd 128 j) = h j) :
    ∑ k, f k = (∑ j, g j) + ∑ j, h j := by
  rw [Fin.sum_univ_add (a := 128) (b := 128) f]
  simp only [e, e']

/-- The largest of the joined row. -/
theorem sup_all3 (a b : Fin 128 → EReal) (s : EReal) : Finset.univ.sup (all3 a b s) = top2 a b s := by
  unfold top2
  apply le_antisymm
  · refine Finset.sup_le fun k _ => ?_
    unfold all3 both
    split
    · split
      · exact le_max_of_le_left (le_max_of_le_left (Finset.le_sup (f := a) (Finset.mem_univ _)))
      · exact le_max_of_le_left (le_max_of_le_right (Finset.le_sup (f := b) (Finset.mem_univ _)))
    · exact le_max_right _ _
  · refine max_le (max_le (Finset.sup_le fun j _ => ?_) (Finset.sup_le fun j _ => ?_)) ?_
    · rw [← both_lo a b j, ← all3_lo a b s]; exact Finset.le_sup (f := all3 a b s) (Finset.mem_univ _)
    · rw [← both_hi a b j, ← all3_lo a b s]; exact Finset.le_sup (f := all3 a b s) (Finset.mem_univ _)
    · have e := Finset.le_sup (f := all3 a b s) (Finset.mem_univ (Fin.last 256))
      rwa [all3_last] at e

/-- The sum of the exponentials of the joined row. -/
theorem sum_all3 (a b : Fin 128 → EReal) (s : EReal) : ∑ k, Ideal.exp (all3 a b s k - top2 a b s) = den2 a b s := by
  unfold den2
  rw [Fin.sum_univ_castSucc, all3_last]
  refine congrArg (fun u : EReal => u + Ideal.exp (s - top2 a b s)) (sum_both _ _ _ (fun j => ?_) (fun j => ?_))
  · rw [all3_lo, both_lo]
  · rw [all3_lo, both_hi]

/-- The joined row's attention, by division, is the two blocks', by the reciprocal. -/
theorem mix_all3 (a b : Fin 128 → EReal) (s : EReal) (vp vc : Fin 128 → EReal) (hp : ∀ j, a j ≠ ⊤) (hc : ∀ j, b j ≠ ⊤) (hs : s ≠ ⊤) (hs' : s ≠ ⊥) :
    ∑ k : Fin 256, both vp vc k * Ideal.div (Ideal.exp (both a b k - top2 a b s)) (den2 a b s) = mix2 a b s vp vc := by
  have hd := den2_ne a b s hp hc hs hs'
  unfold mix2
  refine sum_both _ _ _ (fun j => ?_) (fun j => ?_)
  · rw [both_lo, both_lo, div_eq _ _ hd, mul_comm]
  · rw [both_hi, both_hi, div_eq _ _ hd, mul_comm]

/-- A positive scale comes out of a sum. -/
theorem scale_sum {n : ℕ} (x : ℝ) (hx : 0 ≤ x) (f : Fin n → EReal) : (∑ d, f d) * (x : EReal) = ∑ d, f d * (x : EReal) := by
  classical
  refine Finset.induction_on (Finset.univ : Finset (Fin n)) ?_ ?_
  · simp
  · intro i s hi ih
    rw [Finset.sum_insert hi, Finset.sum_insert hi, ← ih, EReal.right_distrib_of_nonneg_of_ne_top (EReal.coe_nonneg.2 hx) (EReal.coe_ne_top x)]

end Cert.Proof.Attn
-- ==== Proof.AttnTile.lean ====
/-
  The prompt attention: one entry of a head's tile, from the scores.
-/
module

public import proofs.«01_k».proof.Proof.AttnHead
public import proofs.«01_k».proof.Proof.AttnMath

@[expose] public section

set_option maxRecDepth 16384

noncomputable section

namespace Cert.AttnIdeal.Pv

open Cert.AttnIdeal Cert.AttnIdeal.Gen Idealize.ShloMosaic Idealize.ShloMosaic.TcCoe Idealize.SL.Sem
open Cert.Proof.Attn

/-- The bits of the lowest value. -/
theorem low_bits : Ideal.ofBits .f32 0xFF800000#32 = ⊥ := by
  simp [Ideal.ofBits, Ideal.ieee]

/-- A score: the query's row against the key's where the mask lets it through. -/
theorem scores_apply (mask : IVec S128x128 1) (q k : FVec Ideal S128x64 .bf16) (r j : Fin 128) :
    scores mask q k (ix2 r j) = if mask (ix2 r j) = 1#1 then ∑ d : Fin 64, q (ix2 r d) * k (ix2 j d) else (⊥ : EReal) := by
  pointwise [scores]
  rw [low_bits]
  rfl

/-- The largest score of a row. -/
theorem top_apply (sp sc : FVec Ideal S128x128 .f32) (s : EReal) (r : Fin 128) :
    top (F := Ideal) sp sc s (ix2 r 0) = top2 (fun j => sp (ix2 r j)) (fun j => sc (ix2 r j)) s := by
  unfold top2
  pointwise [top]
  rw [low_bits]
  rfl

/-- The exponential of a score below the row's largest. -/
theorem expo_apply (sc : FVec Ideal S128x128 .f32) (t : FVec Ideal S128x1 .f32) (r j : Fin 128) :
    expo (F := Ideal) sc t (ix2 r j) = Ideal.exp (sc (ix2 r j) - t (ix2 r 0)) := by
  pointwise [expo]

/-- The reciprocal of a row's sum. -/
theorem recip_apply (pp pc : FVec Ideal S128x128 .f32) (t : FVec Ideal S128x1 .f32) (s : EReal) (r : Fin 128) :
    recip (F := Ideal) pp pc t s (ix2 r 0)
      = Ideal.div 1 ((∑ j : Fin 128, pp (ix2 r j)) + (∑ j : Fin 128, pc (ix2 r j)) + Ideal.exp (s - t (ix2 r 0))) := by
  pointwise [recip]

/-- A row of weights against a column of values. -/
theorem weigh_apply (p : FVec Ideal S128x128 .f32) (i : FVec Ideal S128x1 .f32) (v : FVec Ideal S128x64 .bf16) (r : Fin 128) (d : Fin 64) :
    weigh (F := Ideal) p i v (ix2 r d) = ∑ j : Fin 128, p (ix2 r j) * i (ix2 r 0) * v (ix2 j d) := by
  pointwise [weigh]

/-- One entry of a head over two blocks of scores. -/
theorem mix_apply (sp sc : FVec Ideal S128x128 .f32) (vp vc : FVec Ideal S128x64 .bf16) (s : EReal) (r : Fin 128) (d : Fin 64) :
    mix (F := Ideal) sp sc vp vc s (ix2 r d)
      = mix2 (fun j => sp (ix2 r j)) (fun j => sc (ix2 r j)) s (fun j => vp (ix2 j d)) (fun j => vc (ix2 j d)) := by
  unfold mix mix2 den2
  refine congrArg₂ (fun y z : EReal => y + z) ?_ ?_
  · refine (weigh_apply _ _ _ r d).trans ?_
    rw [recip_apply]
    simp only [expo_apply, top_apply]
  · refine (weigh_apply _ _ _ r d).trans ?_
    rw [recip_apply]
    simp only [expo_apply, top_apply]

end Cert.AttnIdeal.Pv
-- ==== Proof.AttnRows.lean ====
/-
  The prompt attention: a tile's rotated queries, rotated keys and values are the mathematics' rows.
-/
module

public import proofs.«01_k».proof.Proof.AttnTables
public import proofs.«01_k».proof.Proof.AttnRope
public import proofs.«01_k».proof.Proof.AttnTile

@[expose] public section

set_option maxRecDepth 16384
set_option maxHeartbeats 400000

noncomputable section

namespace Cert.AttnIdeal.Pv

open Cert.AttnIdeal Cert.AttnIdeal.Gen Cert.AttnIdeal.Value Idealize.ShloMosaic Idealize.ShloMosaic.TcCoe Idealize.SL.Sem
open Cert.Proof.Attn

/-- The rotated queries and keys, and the values, by head. -/
def Q (z : FVec Ideal S16896x7680 .f32) : FVec Ideal Cert.AttnRefIdeal.S2x8192x16x64 .f32 :=
  Cert.AttnRefIdeal.Pv.turn16 (Cert.AttnRefIdeal.Pv.qin z) (Host.cos Cert.AttnRefIdeal.Pv.angle) (Host.sin Cert.AttnRefIdeal.Pv.angle)
@[inherit_doc Q] def K (z : FVec Ideal S16896x7680 .f32) : FVec Ideal Cert.AttnRefIdeal.S2x8192x4x64 .f32 :=
  Cert.AttnRefIdeal.Pv.turn4 (Cert.AttnRefIdeal.Pv.kin z) (Host.cos Cert.AttnRefIdeal.Pv.angle) (Host.sin Cert.AttnRefIdeal.Pv.angle)
@[inherit_doc Q] def W (z : FVec Ideal S16896x7680 .f32) : FVec Ideal Cert.AttnRefIdeal.S2x8192x4x64 .f32 := Cert.AttnRefIdeal.Pv.vin z

variable (m : (ℓ : Loc nD τ sig) → Buf (Elt Ideal) ℓ) (c : Dev nD)

/-- The projected rows. -/
abbrev zof : FVec Ideal S16896x7680 .f32 := V m c main_arg0

/-- A tile's rotated and scaled query. -/
theorem Qt_apply (t : Fin cfg0.N) (b : Fin 2) (n : Fin 64) (ht : t.val = 64 * b.val + n.val) (r : Fin 128) (h : Fin 16) (d : Fin 64) :
    Qt m c t (ix2 r ⟨64 * h.val + d.val, by omega⟩) = (Q (zof m c) (ix4 b ⟨n.val * 128 + r.val, by omega⟩ h d) : EReal) * Ideal.ofBits .f32 0x3E000000#32 := by
  have hN : (⟨64 * h.val + d.val, by omega⟩ : Fin 1024) = ⟨128 * (⟨h.val / 2, by omega⟩ : Fin 8).val + (⟨64 * (h.val % 2) + d.val, by omega⟩ : Fin 128).val, by dsimp only; omega⟩ :=
    Fin.ext (by dsimp only; omega)
  unfold Qt Q
  rw [hN, qs_eq, qslab_apply, Cert.AttnRefIdeal.Pv.turn16_apply]
  refine congrArg (fun y : EReal => y * Ideal.ofBits .f32 0x3E000000#32) ?_
  have hP : (⟨n.val * 128 + r.val, by omega⟩ : Fin 8192).val = 128 * (t.val % 64) + r.val := by dsimp only; omega
  rw [blk_c m c t r _ _ hP, blk_a m c t r _ _ hP, blk_b m c t r _ _ hP, cos_eq, neg_eq, pos_eq]
  have hR : (⟨8192 * b.val + (n.val * 128 + r.val), by omega⟩ : Fin 16896).val = 128 * t.val + r.val := by dsimp only; omega
  rw [blk_q m c t r _ _ hR, blk_q m c t r _ _ hR, blk_q m c t r _ _ hR]
  refine Eq.trans ?_ (lane _ _ _ _ ⟨64 * (h.val % 2) + d.val, by omega⟩ d (by dsimp only; omega)
    (zof m c (ix2 ⟨8192 * b.val + (n.val * 128 + r.val), by omega⟩ ⟨128 * (h.val / 2) + (64 * (h.val % 2) + d.val + 8) % 128, by omega⟩))
    (zof m c (ix2 ⟨8192 * b.val + (n.val * 128 + r.val), by omega⟩ ⟨128 * (h.val / 2) + (64 * (h.val % 2) + d.val + 120) % 128, by omega⟩)) ?_ ?_)
  · rw [Cert.AttnRefIdeal.Pv.qin_apply]
    refine congrArg (fun u : Fin 7680 => (zof m c (ix2 ⟨8192 * b.val + (n.val * 128 + r.val), by omega⟩ u) : EReal) * _ + _ + _) (Fin.ext (by dsimp only; omega))
  · intro h1
    rw [Cert.AttnRefIdeal.Pv.qin_apply]
    exact congrArg (fun u => zof m c (ix2 _ u)) (Fin.ext (by dsimp only; omega))
  · intro h1
    rw [Cert.AttnRefIdeal.Pv.qin_apply]
    exact congrArg (fun u => zof m c (ix2 _ u)) (Fin.ext (by dsimp only; omega))

/-- A key slab's lane is the head's rotated key. -/
theorem key_lane (t : Fin cfg0.N) (b : Fin 2) (n : Fin 64) (ht : t.val = 64 * b.val + n.val) (r : Fin 128) (h : Fin 4) (d : Fin 64) :
    kslab (iblk m c 2 t) (iblk m c 4 t) (iblk m c 5 t) (iblk m c 6 t) ⟨h.val / 2, by omega⟩ (ix2 r ⟨64 * (h.val % 2) + d.val, by omega⟩)
      = (K (zof m c) (ix4 b ⟨n.val * 128 + r.val, by omega⟩ h d) : EReal) := by
  unfold K
  rw [kslab_apply, Cert.AttnRefIdeal.Pv.turn4_apply]
  have hP : (⟨n.val * 128 + r.val, by omega⟩ : Fin 8192).val = 128 * (t.val % 64) + r.val := by dsimp only; omega
  rw [blk_c m c t r _ _ hP, blk_a m c t r _ _ hP, blk_b m c t r _ _ hP, cos_eq, neg_eq, pos_eq]
  have hR : (⟨8192 * b.val + (n.val * 128 + r.val), by omega⟩ : Fin 16896).val = 128 * t.val + r.val := by dsimp only; omega
  rw [blk_k m c t r _ _ hR, blk_k m c t r _ _ hR, blk_k m c t r _ _ hR]
  refine Eq.trans ?_ (lane _ _ _ _ ⟨64 * (h.val % 2) + d.val, by omega⟩ d (by dsimp only; omega)
    (zof m c (ix2 ⟨8192 * b.val + (n.val * 128 + r.val), by omega⟩ ⟨7168 + (128 * (h.val / 2) + (64 * (h.val % 2) + d.val + 8) % 128), by omega⟩))
    (zof m c (ix2 ⟨8192 * b.val + (n.val * 128 + r.val), by omega⟩ ⟨7168 + (128 * (h.val / 2) + (64 * (h.val % 2) + d.val + 120) % 128), by omega⟩)) ?_ ?_)
  · rw [Cert.AttnRefIdeal.Pv.kin_apply]
    refine congrArg (fun u : Fin 7680 => (zof m c (ix2 ⟨8192 * b.val + (n.val * 128 + r.val), by omega⟩ u) : EReal) * _ + _ + _) (Fin.ext (by dsimp only; omega))
  · intro h1
    rw [Cert.AttnRefIdeal.Pv.kin_apply]
    exact congrArg (fun u => zof m c (ix2 _ u)) (Fin.ext (by dsimp only; omega))
  · intro h1
    rw [Cert.AttnRefIdeal.Pv.kin_apply]
    exact congrArg (fun u => zof m c (ix2 _ u)) (Fin.ext (by dsimp only; omega))

/-- A tile's rotated key. -/
theorem Kt_apply (t : Fin cfg0.N) (b : Fin 2) (n : Fin 64) (ht : t.val = 64 * b.val + n.val) (r : Fin 128) (h : Fin 4) (d : Fin 64) :
    Kt m c t (ix2 r ⟨64 * h.val + d.val, by omega⟩) = (K (zof m c) (ix4 b ⟨n.val * 128 + r.val, by omega⟩ h d) : EReal) := by
  have hN : (⟨64 * h.val + d.val, by omega⟩ : Fin 256) = ⟨128 * (⟨h.val / 2, by omega⟩ : Fin 2).val + (⟨64 * (h.val % 2) + d.val, by omega⟩ : Fin 128).val, by dsimp only; omega⟩ :=
    Fin.ext (by dsimp only; omega)
  unfold Kt
  rw [hN, ks_eq]
  exact key_lane m c t b n ht r h d

/-- A tile's value. -/
theorem Wt_apply (t : Fin cfg0.N) (b : Fin 2) (n : Fin 64) (ht : t.val = 64 * b.val + n.val) (r : Fin 128) (h : Fin 4) (d : Fin 64) :
    Wt m c t (ix2 r ⟨64 * h.val + d.val, by omega⟩) = (W (zof m c) (ix4 b ⟨n.val * 128 + r.val, by omega⟩ h d) : EReal) := by
  have hR : (⟨8192 * b.val + (n.val * 128 + r.val), by omega⟩ : Fin 16896).val = 128 * t.val + r.val := by dsimp only; omega
  unfold Wt W
  rw [Cert.AttnRefIdeal.Pv.vin_apply]
  exact blk_v m c t r ⟨64 * h.val + d.val, by omega⟩ _ hR

/-- The key of the block before, zero where there is none. -/
theorem kprev_apply (t : Fin cfg0.N) (b : Fin 2) (n : Fin 64) (ht : t.val = 64 * b.val + n.val) (r : Fin 128) (h : Fin 4) (d : Fin 64) :
    kprev m c t (ix3 h r d) = if hn : 0 < n.val then (K (zof m c) (ix4 b ⟨128 * (n.val - 1) + r.val, by omega⟩ h d) : EReal) else 0 := by
  unfold kprev
  by_cases hn : 0 < n.val
  · rw [dif_pos hn, if_neg (by omega)]
    have e := Kt_apply m c ⟨t.val - 1, Nat.lt_of_le_of_lt (Nat.sub_le _ _) t.isLt⟩ b ⟨n.val - 1, by omega⟩ (by dsimp only; omega) r h d
    refine Eq.trans e (congrArg (fun u => K (zof m c) (ix4 b u h d)) (Fin.ext (by dsimp only; omega)))
  · rw [dif_neg hn, if_pos (by omega)]
    pointwise [k0_pay2]

/-- The value of the block before, zero where there is none. -/
theorem vprev_apply (t : Fin cfg0.N) (b : Fin 2) (n : Fin 64) (ht : t.val = 64 * b.val + n.val) (r : Fin 128) (h : Fin 4) (d : Fin 64) :
    vprev m c t (ix3 h r d) = if hn : 0 < n.val then (W (zof m c) (ix4 b ⟨128 * (n.val - 1) + r.val, by omega⟩ h d) : EReal) else 0 := by
  unfold vprev
  by_cases hn : 0 < n.val
  · rw [dif_pos hn, if_neg (by omega)]
    have e := Wt_apply m c ⟨t.val - 1, Nat.lt_of_le_of_lt (Nat.sub_le _ _) t.isLt⟩ b ⟨n.val - 1, by omega⟩ (by dsimp only; omega) r h d
    refine Eq.trans e (congrArg (fun u => W (zof m c) (ix4 b u h d)) (Fin.ext (by dsimp only; omega)))
  · rw [dif_neg hn, if_pos (by omega)]
    pointwise [k0_pay3]

/-- The block of keys a point keeps, before and after the change of format. -/
theorem same_keys (x2 : Vec Ideal S128x256 .f32) (x4 x5 x6 : Vec Ideal S128x128 .f32) (r : Fin 128) (l : Fin 256) :
    k0_pay19 (F := Ideal) (k0_pay4 x4) (k0_pay5 x5) (k0_pay6 x6) x2 (k0_pay16 (k0_pay4 x4) (k0_pay5 x5) x2) (k0_pay17 (k0_pay6 x6) x2) (ix3 0 r l)
      = ks (F := Ideal) x2 x4 x5 x6 (ix2 r l) := by
  unfold k0_pay19 ks k0_pay21
  generalize k0_pay18 (F := Ideal) (k0_pay4 x4) (k0_pay5 x5) (k0_pay6 x6) x2 (k0_pay16 (k0_pay4 x4) (k0_pay5 x5) x2) (k0_pay17 (k0_pay6 x6) x2) = y
  pointwise

/-- The second result is the last window's rotated keys. -/
theorem kept_keys : G8 m c = Cert.AttnRefIdeal.Pv.tail (K (zof m c)) := by
  funext i
  obtain ⟨b, r, l, rfl⟩ : ∃ (b : Fin 2) (r : Fin 128) (l : Fin 256), i = ix3 b r l := ⟨i 0, i 1, i 2, eq_ix3 i⟩
  obtain ⟨t, ht⟩ : ∃ t : Fin cfg0.N, t.val = 64 * b.val + 63 := ⟨⟨64 * b.val + 63, by have := b.isLt; show _ < 128; omega⟩, rfl⟩
  rw [G8_apply m c t b ht, left_kn, Cert.AttnRefIdeal.Pv.tail_apply, same_keys]
  have hl : l = ⟨64 * (⟨l.val / 64, by omega⟩ : Fin 4).val + (⟨l.val % 64, by omega⟩ : Fin 64).val, by dsimp only; omega⟩ := Fin.ext (by dsimp only; omega)
  refine (congrArg (fun u => Kt m c t (ix2 r u)) hl).trans ((Kt_apply m c t b 63 ht r ⟨l.val / 64, by omega⟩ ⟨l.val % 64, by omega⟩).trans ?_)
  exact congrArg (fun u => K (zof m c) (ix4 b u ⟨l.val / 64, by omega⟩ ⟨l.val % 64, by omega⟩)) (Fin.ext (by show 63 * 128 + r.val = 8064 + r.val; omega))

/-- The block of values a point keeps, before and after the change of format. -/
theorem same_values (x3 : Vec Ideal S128x256 .f32) (r : Fin 128) (l : Fin 256) : k0_pay20 (F := Ideal) x3 (ix3 0 r l) = k0_pay22 (F := Ideal) x3 (ix2 r l) := by
  pointwise [k0_pay20, k0_pay22]

/-- The third result is the last window's values. -/
theorem kept_values : G9 m c = Cert.AttnRefIdeal.Pv.tail (W (zof m c)) := by
  funext i
  obtain ⟨b, r, l, rfl⟩ : ∃ (b : Fin 2) (r : Fin 128) (l : Fin 256), i = ix3 b r l := ⟨i 0, i 1, i 2, eq_ix3 i⟩
  obtain ⟨t, ht⟩ : ∃ t : Fin cfg0.N, t.val = 64 * b.val + 63 := ⟨⟨64 * b.val + 63, by have := b.isLt; show _ < 128; omega⟩, rfl⟩
  rw [G9_apply m c t b ht, left_vn, Cert.AttnRefIdeal.Pv.tail_apply, same_values]
  have hl : l = ⟨64 * (⟨l.val / 64, by omega⟩ : Fin 4).val + (⟨l.val % 64, by omega⟩ : Fin 64).val, by dsimp only; omega⟩ := Fin.ext (by dsimp only; omega)
  refine (congrArg (fun u => Wt m c t (ix2 r u)) hl).trans ((Wt_apply m c t b 63 ht r ⟨l.val / 64, by omega⟩ ⟨l.val % 64, by omega⟩).trans ?_)
  exact congrArg (fun u => W (zof m c) (ix4 b u ⟨l.val / 64, by omega⟩ ⟨l.val % 64, by omega⟩)) (Fin.ext (by show 63 * 128 + r.val = 8064 + r.val; omega))

end Cert.AttnIdeal.Pv

end
-- ==== Proof.AttnRefMask.lean ====
/-
  The prompt attention's mathematics: which keys a query reads, and the blocks of keys and values.
-/
module

public import proofs.«01_k».proof.Proof.AttnRef
public import Idealize.ShloMosaic.Lib.Pointwise

@[expose] public section

set_option maxRecDepth 16384
set_option maxHeartbeats 400000

noncomputable section

namespace Cert.AttnRefIdeal.Pv

open Cert.AttnRefIdeal Cert.AttnRefIdeal.Gen Idealize.ShloMosaic Idealize.ShloMosaic.TcCoe Idealize.SL.Sem

/-- A small number is its own signed residue. -/
theorem bmod_small (x : ℤ) (h : -2147483648 ≤ x) (h' : x < 2147483648) : x.bmod (2 ^ 32) = x := by
  have e : ((2 ^ 32 : ℕ) : ℤ) = 4294967296 := by norm_num
  rw [Int.bmod_def, e]
  split <;> omega

/-- A position from 128 before the first, as a signed word. -/
theorem spot_val (k : ℕ) (h : k < 16384) : (IntOp.addi (4294967168#32) (BitVec.ofNat 32 k)).toInt = (k : ℤ) - 128 := by
  have hk : (BitVec.ofNat 32 k).toInt = k := by
    rw [BitVec.toInt_eq_toNat_bmod, BitVec.toNat_ofNat, Nat.mod_eq_of_lt (by omega)]
    exact bmod_small _ (by omega) (by omega)
  show (4294967168#32 + BitVec.ofNat 32 k).toInt = _
  rw [BitVec.toInt_add, hk, show (4294967168#32).toInt = -128 from by decide, bmod_small _ (by omega) (by omega)]
  omega

/-- A window before a position, as a signed word. -/
theorem spot_sub (k : ℕ) (h : k < 16384) : (IntOp.subi (IntOp.addi (4294967168#32) (BitVec.ofNat 32 k)) 128#32).toInt = (k : ℤ) - 256 := by
  show (IntOp.addi (4294967168#32) (BitVec.ofNat 32 k) - 128#32).toInt = _
  rw [BitVec.toInt_sub, spot_val k h, show (128#32).toInt = 128 from by decide, bmod_small _ (by omega) (by omega)]
  omega

/-- A bit's conjunction holds where both bits do. -/
theorem both_bits (x y : BitVec 1) : IntOp.andi x y = 1#1 ↔ x = 1#1 ∧ y = 1#1 := by
  revert x y; decide

/-- A signed comparison's bit. -/
theorem sle_bit (x y : BitVec 32) : IntOp.cmpi CmpIPredicate.sle x y = 1#1 ↔ x.toInt ≤ y.toInt := by
  show BitVec.ofBool (decide (x.toInt ≤ y.toInt)) = 1#1 ↔ _
  by_cases h : x.toInt ≤ y.toInt <;> simp [h]

@[inherit_doc sle_bit] theorem sge_bit (x y : BitVec 32) : IntOp.cmpi CmpIPredicate.sge x y = 1#1 ↔ y.toInt ≤ x.toInt := by
  show BitVec.ofBool (decide (y.toInt ≤ x.toInt)) = 1#1 ↔ _
  by_cases h : y.toInt ≤ x.toInt <;> simp [h]

/-- Of the block before, a query reads the keys a window back and after; before the first block there is none. -/
theorem seen_prev (n : Fin 64) (r j : Fin 128) :
    seen (ix3 n r (Fin.castAdd 128 j)) = 1#1 ↔ 0 < n.val ∧ r.val ≤ j.val := by
  have e : (Fin.castAdd 128 j).val = j.val := rfl
  pointwise [seen, kspot, qspot, spots]
  simp only [e, j.isLt, dif_pos]
  rw [both_bits, both_bits, sle_bit, sge_bit, sge_bit, spot_sub _ (by omega), spot_val _ (by omega), spot_val _ (by omega)]
  rw [show (0#32).toInt = 0 from rfl]
  omega

/-- Of its own block a query reads the keys up to itself. -/
theorem seen_own (n : Fin 64) (r j : Fin 128) :
    seen (ix3 n r (Fin.natAdd 128 j)) = 1#1 ↔ j.val ≤ r.val := by
  have e : (Fin.natAdd 128 j).val = 128 + j.val := rfl
  have e' : ¬ 128 + j.val < 128 := by omega
  pointwise [seen, kspot, qspot, spots]
  simp only [e, e', dif_neg, not_false_eq_true]
  rw [both_bits, both_bits, sle_bit, sge_bit, sge_bit, spot_sub _ (by omega), spot_val _ (by omega), spot_val _ (by omega)]
  rw [show (0#32).toInt = 0 from rfl]
  omega

/-- The block before, where there is one. -/
theorem band_prev (y : FVec Ideal S2x8192x4x64 .f32) (b : Fin 2) (n : Fin 64) (j : Fin 128) (h : Fin 4) (d : Fin 64) :
    band y (ix5 b n (Fin.castAdd 128 j) h d)
      = if hn : 0 < n.val then y (ix4 b ⟨128 * (n.val - 1) + j.val, by omega⟩ h d) else 0 := by
  have e : (Fin.castAdd 128 j).val = j.val := rfl
  pointwise [band, led]
  simp only [e]
  rw [dif_pos j.isLt]
  split
  · rename_i h1
    rw [dif_pos (by omega)]
    exact congrArg (fun u => y (ix4 b u h d)) (Fin.ext (by dsimp only; omega))
  · rename_i h1
    rw [dif_neg (by omega)]
    show (((0#32 : BitVec 32).toInt : ℝ) : EReal) = 0
    simp

/-- The block itself. -/
theorem band_own (y : FVec Ideal S2x8192x4x64 .f32) (b : Fin 2) (n : Fin 64) (j : Fin 128) (h : Fin 4) (d : Fin 64) :
    band y (ix5 b n (Fin.natAdd 128 j) h d) = y (ix4 b ⟨128 * n.val + j.val, by omega⟩ h d) := by
  have e : (Fin.natAdd 128 j).val = 128 + j.val := rfl
  have e' : ¬ 128 + j.val < 128 := by omega
  pointwise [band, led]
  simp only [e]
  rw [dif_neg e', dif_pos (by omega)]
  exact congrArg (fun u => y (ix4 b u h d)) (Fin.ext (by dsimp only; omega))

end Cert.AttnRefIdeal.Pv

end
-- ==== Proof.AttnJoin.lean ====
/-
  The prompt attention: an entry of the kernel's first result, over the mathematics' rows.
-/
module

public import proofs.«01_k».proof.Proof.AttnRows
public import proofs.«01_k».proof.Proof.AttnRefMask

@[expose] public section

set_option maxRecDepth 16384
set_option maxHeartbeats 400000

noncomputable section

namespace Cert.AttnIdeal.Pv

open Cert.AttnIdeal Cert.AttnIdeal.Gen Cert.AttnIdeal.Value Idealize.ShloMosaic Idealize.ShloMosaic.TcCoe Idealize.SL.Sem
open Cert.Proof.Attn
open Cert.AttnRefIdeal.Pv (band band_prev band_own sge_bit sle_bit)

/-- A word below 2³¹ read signed. -/
theorem small_word (k : ℕ) (h : k < 16384) : (BitVec.ofNat 32 k).toInt = k := by
  rw [BitVec.toInt_eq_toNat_bmod, BitVec.toNat_ofNat, Nat.mod_eq_of_lt (by omega)]
  exact Cert.AttnRefIdeal.Pv.bmod_small _ (by omega) (by omega)

/-- Of the block before, a tile's query reads the keys at and after its own row; the first tile of a sequence reads none. -/
theorem mask_prev (n : ℕ) (hn : n < 64) (r j : Fin 128) : k0_pay23 (BitVec.ofNat 32 n) (ix2 r j) = 1#1 ↔ 0 < n ∧ r.val ≤ j.val := by
  have e : Scalar.cmpi .sgt (BitVec.ofNat 32 n) 0#32 = BitVec.ofBool (decide (0 < n)) := by
    show BitVec.ofBool (decide ((0#32).toInt < (BitVec.ofNat 32 n).toInt)) = _
    rw [small_word n (by omega), show (0#32).toInt = 0 from rfl]
    exact congrArg BitVec.ofBool (decide_eq_decide.2 (by omega))
  unfold k0_pay23
  rw [e]
  by_cases h : 0 < n
  · rw [decide_eq_true h]
    pointwise
    refine (sge_bit _ _).trans ?_
    rw [small_word j.val (by omega), small_word r.val (by omega)]
    omega
  · rw [decide_eq_false h, show (Scalar.select (BitVec.ofBool false) (iota Kind.tc S128x128 32 [0] iota_S128x128_d0_w32) (broadcast S128x128 128#32) : IVec S128x128 32) = broadcast S128x128 128#32 from if_neg (by decide)]
    pointwise
    show IntOp.cmpi CmpIPredicate.sge (BitVec.ofNat 32 j.val) (128#32) = 1#1 ↔ _
    refine (sge_bit _ _).trans ?_
    rw [small_word j.val (by omega), show (128#32).toInt = 128 from rfl]
    omega

/-- Of its own block a tile's query reads the keys up to its own row. -/
theorem mask_own (r j : Fin 128) : k0_pay24 (ix2 r j) = 1#1 ↔ j.val ≤ r.val := by
  pointwise [k0_pay24]
  refine (sle_bit _ _).trans ?_
  rw [small_word j.val (by omega), small_word r.val (by omega)]
  omega

/-- A head's column of the queries, of the keys, of a slab, and its sink. -/
theorem cut_q (x : FVec Ideal S128x1024 .bf16) (h : Fin 16) (r : Fin 128) (d : Fin 64) :
    extractStridedSlice S128x64 ![0, 64 * h.val] x (slQ h) (ix2 r d) = x (ix2 r ⟨64 * h.val + d.val, by omega⟩) := by
  pointwise
@[inherit_doc cut_q] theorem cut_k (x : FVec Ideal S128x256 .bf16) (h : Fin 16) (r : Fin 128) (d : Fin 64) :
    extractStridedSlice S128x64 ![0, 64 * (h.val / 4)] x (slK h) (ix2 r d) = x (ix2 r ⟨64 * (h.val / 4) + d.val, by omega⟩) := by
  pointwise
/-- A slab laid flat. -/
theorem flat_slab (y : FVec Ideal S1x128x64 .bf16) (r : Fin 128) (d : Fin 64) :
    shapeCast S128x64 y shapeCasts_S1x128x64_S128x64 (ix2 r d) = y (ix3 0 r d) := by
  pointwise
/-- A slab read out of the four. -/
theorem ld_slab (x : Vec Ideal S4x128x64 .bf16) (k : ℕ) (hk : k < 4) (inb : ∀ a, (![k, 0, 0] : Fin 3 → Nat) a + S1x128x64.size a ≤ S4x128x64.size a) (r : Fin 128) (d : Fin 64) :
    (View.ld x (Rect.unit ![k, 0, 0] S1x128x64.size inb) : Vec Ideal S1x128x64 .bf16) (ix3 0 r d) = x (ix3 ⟨k, hk⟩ r d) := by
  show x _ = x _
  refine congrArg x (funext fun a => Fin.ext ?_)
  fin_cases a
  · show k + 1 * 0 = k; omega
  · show 0 + 1 * r.val = r.val; omega
  · show 0 + 1 * d.val = d.val; omega
@[inherit_doc cut_q] theorem cut_p (x : Vec Ideal S4x128x64 .bf16) (h : Fin 16) (r : Fin 128) (d : Fin 64) :
    shapeCast S128x64 (View.ld x (Rect.unit ![h.val / 4, 0, 0] S1x128x64.size (inP h)) : Vec Ideal S1x128x64 .bf16) shapeCasts_S1x128x64_S128x64 (ix2 r d)
      = x (ix3 ⟨h.val / 4, by omega⟩ r d) :=
  (flat_slab _ r d).trans (ld_slab x (h.val / 4) (by omega) (inP h) r d)
@[inherit_doc cut_q] theorem cut_s (x : Vec Ideal S16 .f32) (h : Fin 16) :
    View.ld x (Rect.unit ![h.val] S1.size (inS h)) (Shape.Idx.first Cert.AttnIdeal.Pv.h1) = x (ix1 h) := by
  show x _ = x _
  refine congrArg x (funext fun a => Fin.ext ?_)
  match a with
  | ⟨0, _⟩ => show h.val + 1 * 0 = h.val; omega

/-- The scale of the products. -/
abbrev sc : EReal := Ideal.ofBits .f32 0x3E000000#32

/-- A query's scores against the block before its own. -/
def SP (k : FVec Ideal Cert.AttnRefIdeal.S2x8192x4x64 .f32) (q : FVec Ideal Cert.AttnRefIdeal.S2x8192x16x64 .f32) (b : Fin 2) (n : Fin 64) (h g : Fin 4) (r j : Fin 128) : EReal :=
  if 0 < n.val ∧ r.val ≤ j.val then
    (∑ d : Fin 64, (band k (ix5 b n (Fin.castAdd 128 j) h d) : EReal) * q (ix4 b ⟨n.val * 128 + r.val, by omega⟩ ⟨h.val * 4 + g.val, by omega⟩ d)) * sc
  else ⊥

/-- A query's scores against its own block. -/
def SC (k : FVec Ideal Cert.AttnRefIdeal.S2x8192x4x64 .f32) (q : FVec Ideal Cert.AttnRefIdeal.S2x8192x16x64 .f32) (b : Fin 2) (n : Fin 64) (h g : Fin 4) (r j : Fin 128) : EReal :=
  if j.val ≤ r.val then
    (∑ d : Fin 64, (band k (ix5 b n (Fin.natAdd 128 j) h d) : EReal) * q (ix4 b ⟨n.val * 128 + r.val, by omega⟩ ⟨h.val * 4 + g.val, by omega⟩ d)) * sc
  else ⊥

/-- The scale is a nonnegative real number. -/
theorem sc_real : ∃ x : ℝ, 0 ≤ x ∧ sc = (x : EReal) := by
  refine ⟨8388608 * (2 ^ 26)⁻¹, by positivity, ?_⟩
  simp [sc, Ideal.ofBits, Ideal.ieee]

/-- A scaled sum of products, the scale on the second factor. -/
theorem scaled (f g : Fin 64 → EReal) : ∑ d, (g d * sc) * f d = (∑ d, f d * g d) * sc := by
  obtain ⟨x, hx, e⟩ := sc_real
  rw [e, scale_sum x hx]
  exact Finset.sum_congr rfl fun d _ => by rw [mul_comm (f d), mul_right_comm]

variable (m : (ℓ : Loc nD τ sig) → Buf (Elt Ideal) ℓ) (c : Dev nD)

/-- An entry of the first result. -/
theorem out_apply (t : Fin cfg0.N) (b : Fin 2) (n : Fin 64) (ht : t.val = 64 * b.val + n.val) (r : Fin 128) (h g : Fin 4) (d : Fin 64)
    (R : Fin 16384) (hR : R.val = 128 * t.val + r.val) (l : Fin 1024) (hl : l.val = 64 * (h.val * 4 + g.val) + d.val) :
    G7 m c (ix2 R l) = mix2 (SP (K (zof m c)) (Q (zof m c)) b n h g r) (SC (K (zof m c)) (Q (zof m c)) b n h g r)
      ((V m c main_arg1 : Vec Ideal S16 .f32) (ix1 ⟨h.val * 4 + g.val, by omega⟩))
      (fun j => band (W (zof m c)) (ix5 b n (Fin.castAdd 128 j) h d)) (fun j => band (W (zof m c)) (ix5 b n (Fin.natAdd 128 j) h d)) := by
  rw [G7_apply m c t r l R hR, left_out, coord1, show t.val % 64 = n.val by omega]
  show tile _ _ _ _ _ _ _ _ ⟨l.val / 64, _⟩ (ix2 r ⟨l.val % 64, _⟩) = _
  obtain ⟨H, hH⟩ : ∃ H : Fin 16, H = ⟨h.val * 4 + g.val, by omega⟩ := ⟨_, rfl⟩
  have e1 : (⟨l.val / 64, by omega⟩ : Fin 16) = H := by rw [hH]; exact Fin.ext (by dsimp only; omega)
  have e2 : (⟨l.val % 64, by omega⟩ : Fin 64) = d := Fin.ext (by dsimp only; omega)
  have e5 : H.val = h.val * 4 + g.val := congrArg Fin.val hH
  have e4 : H.val / 4 = h.val := by omega
  have e3 : (⟨H.val / 4, by omega⟩ : Fin 4) = h := Fin.ext e4
  rw [e1, e2, ← hH]
  unfold tile
  rw [mix_apply]
  refine congr (congr (congr (congrArg₂ mix2 (funext fun j => ?_) (funext fun j => ?_)) ?_) (funext fun j => ?_)) (funext fun j => ?_)
  · rw [scores_apply]
    unfold SP
    refine if_congr (mask_prev n.val n.isLt r j) ?_ rfl
    rw [← scaled]
    refine Finset.sum_congr rfl fun e _ => ?_
    rw [cut_q, Qt_apply m c t b n ht, cut_p, e3, kprev_apply m c t b n ht, band_prev, ← hH]
  · rw [scores_apply]
    unfold SC
    refine if_congr (mask_own r j) ?_ rfl
    rw [← scaled]
    refine Finset.sum_congr rfl fun e _ => ?_
    rw [cut_q, Qt_apply m c t b n ht, cut_k, band_own, ← hH]
    refine congrArg (fun u : EReal => Q (zof m c) (ix4 b ⟨n.val * 128 + r.val, by omega⟩ H e) * sc * u) ?_
    simp only [e4]
    exact (Kt_apply m c t b n ht j h e).trans (congrArg (fun u => K (zof m c) (ix4 b u h e)) (Fin.ext (by dsimp only; omega)))
  · rw [cut_s, blk_s]
  · rw [cut_p, e3, vprev_apply m c t b n ht, band_prev]
  · rw [cut_k, band_own]
    simp only [e4]
    exact (Wt_apply m c t b n ht j h d).trans (congrArg (fun u => W (zof m c) (ix4 b u h d)) (Fin.ext (by dsimp only; omega)))

end Cert.AttnIdeal.Pv

end
-- ==== Proof.AttnFinite.lean ====
/-
  The prompt attention: from finite rows the rotated queries and keys are real numbers.
-/
module

public import proofs.«01_k».proof.Proof.AttnRows
public import proofs.«01_k».proof.Pre_attn_finite
public import Idealize.ShloMosaic.Lib.ReduceAll

@[expose] public section

set_option maxRecDepth 16384
set_option maxHeartbeats 400000

noncomputable section

namespace Cert.Proof.Attn

open Idealize.ShloMosaic Cert.Pre_attn_finite Cert.Pre_attn_finite.Facts

/-- The shape relations the precondition's operations take. -/
instance finiteFacts : Cert.Pre_attn_finite.Facts where
  bcast_S_S16896x7680 := by decide
  reducesTo_S16896x7680_S_d0_1 := by decide
  h_S_ := by decide
  bcast_S_S16 := by decide
  reducesTo_S16_S_d0 := by decide

/-- A value is a real number. -/
def Real' (x : EReal) : Prop := ∃ r : ℝ, x = (r : EReal)

/-- A conjunction of two bits is set only when both are. -/
theorem two_bits : ∀ x y : BitVec 1, IntOp.andi x y = 1#1 → x = 1#1 ∧ y = 1#1 := by decide

/-- A value whose size is below the largest is a real number. -/
theorem real_of_bit (x : EReal) (h : FloatOps.cmpf (F := Ideal) (φ := .f32) .olt (FloatOps.hostAbsf (F := Ideal) (φ := .f32) x) (Ideal.ofBits .f32 0x7F800000#32) = 1#1) : Real' x := by
  have e : Ideal.ofBits .f32 0x7F800000#32 = ⊤ := by simp [Ideal.ofBits, Ideal.ieee]
  rw [e] at h
  have h1 : max x (-x) < ⊤ := by
    by_contra hn
    have h2 : BitVec.ofBool (decide (max x (-x) < (⊤ : EReal))) = 1#1 := h
    rw [decide_eq_false hn] at h2
    exact absurd h2 (by decide)
  induction x with
  | bot => exact absurd h1 (by simp)
  | top => exact absurd h1 (by simp)
  | coe r => exact ⟨r, rfl⟩

instance : Subsingleton S_.Idx := ⟨fun i j => funext fun a => a.elim0⟩

/-- The precondition, read: every entry of both arguments is a real number. -/
theorem finite [Cert.Pre_attn_finite.Facts] (z : FVec Ideal S16896x7680 .f32) (a : FVec Ideal S16 .f32)
    (h : Cert.Pre_attn_finite.fn (F := Ideal) z a = fun _ => 1#1) : (∀ R l, Real' (z (ix2 R l))) ∧ ∀ k, Real' (a (ix1 k)) := by
  have h0 := congrFun h ix0
  unfold Cert.Pre_attn_finite.fn at h0
  obtain ⟨e0, e1⟩ := two_bits _ _ h0
  refine ⟨fun R l => real_of_bit _ ?_, fun k => real_of_bit _ ?_⟩
  · exact Host.reduce_andi_all _ _ _ _ ix0 e0 (ix2 R l)
  · exact Host.reduce_andi_all _ _ _ _ ix0 e1 (ix1 k)

theorem real_add {x y : EReal} : Real' x → Real' y → Real' (x + y) := fun ⟨a, e⟩ ⟨b, f⟩ => ⟨a + b, by rw [e, f, EReal.coe_add]⟩
theorem real_sub {x y : EReal} : Real' x → Real' y → Real' (x - y) := fun ⟨a, e⟩ ⟨b, f⟩ => ⟨a - b, by rw [e, f, EReal.coe_sub]⟩
theorem real_mul {x y : EReal} : Real' x → Real' y → Real' (x * y) := fun ⟨a, e⟩ ⟨b, f⟩ => ⟨a * b, by rw [e, f, EReal.coe_mul]⟩
theorem real_zero : Real' 0 := ⟨0, rfl⟩

/-- A finite sum of real numbers is one. -/
theorem real_sum {n : ℕ} (f : Fin n → EReal) (h : ∀ k, Real' (f k)) : Real' (∑ k, f k) := by
  classical
  refine Finset.induction_on (Finset.univ : Finset (Fin n)) ?_ ?_
  · rw [Finset.sum_empty]; exact real_zero
  · intro i s hi ih
    rw [Finset.sum_insert hi]
    exact real_add (h i) ih

/-- A rotated head of real numbers is of real numbers. -/
theorem real_rope (x : Fin 64 → EReal) (cs sn : Fin 8 → EReal) (hx : ∀ d, Real' (x d)) (hc : ∀ e, Real' (cs e)) (hs : ∀ e, Real' (sn e)) (d : Fin 64) :
    Real' (rope x cs sn d) := by
  unfold rope
  split
  · exact real_sub (real_mul (hx _) (hc _)) (real_mul (hx _) (hs _))
  · split
    · exact real_add (real_mul (hx _) (hc _)) (real_mul (hx _) (hs _))
    · exact hx d

/-- The cosine and the sine of a real number are real numbers. -/
theorem real_cos {x : EReal} : Real' x → Real' (Ideal.cos x) := fun ⟨a, e⟩ => ⟨Real.cos a, by rw [e]; rfl⟩
theorem real_sin {x : EReal} : Real' x → Real' (Ideal.sin x) := fun ⟨a, e⟩ => ⟨Real.sin a, by rw [e]; rfl⟩

/-- The angle's constants. -/
theorem base_bits : Real' (Ideal.ofBits .f32 0x48F42400#32) := by
  simp [Ideal.ofBits, Ideal.ieee]
  exact ⟨_, (EReal.coe_mul _ _).symm⟩
theorem two_bits' : Real' (Ideal.ofBits .f32 0xC0000000#32) := by
  simp [Ideal.ofBits, Ideal.ieee]
  exact ⟨-(8388608 * (2 ^ 22)⁻¹), by rw [EReal.coe_neg, EReal.coe_mul]⟩
theorem sixteen_bits : ∃ r : ℝ, r ≠ 0 ∧ Ideal.ofBits .f32 0x41800000#32 = (r : EReal) := by
  simp [Ideal.ofBits, Ideal.ieee]
  exact ⟨8388608 * (2 ^ 19)⁻¹, by positivity, (EReal.coe_mul _ _).symm⟩

/-- A power of real numbers is one. -/
theorem real_pow {x y : EReal} : Real' x → Real' y → Real' (Ideal.pow x y) := fun ⟨a, e⟩ ⟨b, f⟩ => ⟨Real.rpow a b, by rw [e, f]; rfl⟩
/-- A quotient of real numbers, the lower not zero. -/
theorem real_div {x y : EReal} : Real' x → (∃ r : ℝ, r ≠ 0 ∧ y = (r : EReal)) → Real' (Ideal.div x y) := fun ⟨a, e⟩ ⟨b, hb, f⟩ =>
  ⟨a * b⁻¹, by rw [e, f]; unfold Ideal.div; rw [if_neg (by exact_mod_cast hb), EReal.coe_mul, EReal.coe_inv]⟩
/-- A whole number is a real number. -/
theorem real_whole (w : BitVec 32) : Real' (FloatOps.sitofp (F := Ideal) .f32 w) := ⟨_, rfl⟩

/-- The angles are real numbers. -/
theorem real_angle (p : Fin 8192) (e : Fin 8) : Real' ((Cert.AttnRefIdeal.Pv.angle : FVec Ideal Cert.AttnRefIdeal.S8192x8 .f32) (ix2 p e)) := by
  pointwise [Cert.AttnRefIdeal.Pv.angle]
  exact real_mul (real_whole _) (real_pow base_bits (real_div (real_mul two_bits' (real_whole _)) sixteen_bits))

end Cert.Proof.Attn

end
-- ==== Proof.AttnRefSoft.lean ====
/-
  The prompt attention's mathematics: the scores, their shares and the mixed values entry by entry.
-/
module

public import proofs.«01_k».proof.Proof.AttnRef
public import Idealize.ShloMosaic.Lib.Pointwise
public import Idealize.ShloMosaic.PureOps.Ideal.Laws
public import Idealize.ShloMosaic.PureOps.Reduce

@[expose] public section

set_option maxRecDepth 16384
set_option maxHeartbeats 400000

noncomputable section

namespace Cert.AttnRefIdeal.Pv

open Cert.AttnRefIdeal Cert.AttnRefIdeal.Gen Idealize.ShloMosaic Idealize.ShloMosaic.TcCoe Idealize.SL.Sem

/-- The bits of the lowest value. -/
theorem low_bits : Ideal.ofBits .f32 0xFF800000#32 = ⊥ := by
  simp [Ideal.ofBits, Ideal.ieee]

/-- A scaled product of a query with a key of its block. -/
theorem dots_apply (k : FVec Ideal S2x64x256x4x64 .f32) (q : FVec Ideal S2x8192x16x64 .f32) (b : Fin 2) (n : Fin 64) (h g : Fin 4) (r : Fin 128) (j : Fin 256) :
    dots k q (ix6 b n h g r j) = (∑ d : Fin 64, k (ix5 b n j h d) * q (ix4 b ⟨n.val * 128 + r.val, by omega⟩ ⟨h.val * 4 + g.val, by omega⟩ d)) * Ideal.ofBits .f32 0x3E000000#32 := by
  pointwise [dots]

/-- A score: the product where the key may be read. -/
theorem kept_apply (ok : IVec S64x128x256 1) (s : FVec Ideal S2x64x4x4x128x256 .f32) (b : Fin 2) (n : Fin 64) (h g : Fin 4) (r : Fin 128) (j : Fin 256) :
    kept ok s (ix6 b n h g r j) = if ok (ix3 n r j) = 1#1 then s (ix6 b n h g r j) else (⊥ : EReal) := by
  pointwise [kept]
  rw [low_bits]
  rfl

/-- The scores with the sink last. -/
theorem sunk_apply (s : FVec Ideal S2x64x4x4x128x256 .f32) (a : FVec Ideal S16 .f32) (b : Fin 2) (n : Fin 64) (h g : Fin 4) (r : Fin 128) (j : Fin 257) :
    sunk s a (ix6 b n h g r j) = if hj : j.val < 256 then s (ix6 b n h g r ⟨j.val, hj⟩) else a (ix1 ⟨h.val * 4 + g.val, by omega⟩) := by
  pointwise [sunk]

/-- A row's value over its columns. -/
theorem over257_apply (y : FVec Ideal S2x64x4x4x128 .f32) (b : Fin 2) (n : Fin 64) (h g : Fin 4) (r : Fin 128) (j : Fin 257) :
    over257 y (ix6 b n h g r j) = y (ix5 b n h g r) := by
  pointwise [over257]

/-- A row's largest is the largest of its entries. -/
theorem crest_apply (x : FVec Ideal S2x64x4x4x128x257 .f32) (b : Fin 2) (n : Fin 64) (h g : Fin 4) (r : Fin 128) :
    crest x (ix5 b n h g r) = Finset.univ.sup fun k : Fin 257 => (x (ix6 b n h g r k) : EReal) := by
  unfold crest
  rw [Host.reduce_eq_fold_single FloatOps.maximumf x _ reducesTo_S2x64x4x4x128x257_S2x64x4x4x128_d5 (by decide) h_S_]
  show Finset.fold (max : EReal → EReal → EReal) (Ideal.ofBits .f32 0xFF800000#32) _ _ = Finset.fold (max : EReal → EReal → EReal) ⊥ _ _
  rw [low_bits]
  refine congrArg (fun f => Finset.fold (max : EReal → EReal → EReal) ⊥ f Finset.univ) (funext fun k => ?_)
  exact congrArg x (funext fun a => Fin.ext (by match a with | ⟨0, _⟩ => rfl | ⟨1, _⟩ => rfl | ⟨2, _⟩ => rfl | ⟨3, _⟩ => rfl | ⟨4, _⟩ => rfl | ⟨5, _⟩ => rfl))

/-- The lowest value. -/
theorem floor_apply (i : S2x64x4x4x128.Idx) : (floor : FVec Ideal S2x64x4x4x128 .f32) i = (⊥ : EReal) := by
  obtain ⟨b, n, h, g, r, rfl⟩ : ∃ (b : Fin 2) (n : Fin 64) (h g : Fin 4) (r : Fin 128), i = ix5 b n h g r := ⟨i 0, i 1, i 2, i 3, i 4, eq_ix5 i⟩
  pointwise [floor]
  exact low_bits

/-- A row's sum is the sum of its entries. -/
theorem total_apply (x : FVec Ideal S2x64x4x4x128x257 .f32) (b : Fin 2) (n : Fin 64) (h g : Fin 4) (r : Fin 128) :
    total x (ix5 b n h g r) = ∑ k : Fin 257, (x (ix6 b n h g r k) : EReal) := by
  unfold total
  simp only [Host.reduceAdd, Ideal.hostReduceAdd_def]
  rw [Ideal.hostReduceAdd_single reducesTo_S2x64x4x4x128x257_S2x64x4x4x128_d5 (by decide)]
  have e0 : (constant (F := Ideal) S_ .f32 0x00000000#32) (Shape.Idx.first h_S_) = (0 : EReal) := by
    show Ideal.ofBits .f32 0x00000000#32 = 0
    simp [Ideal.ofBits, Ideal.ieee]
  refine (congrArg₂ (fun u v : EReal => u + v) e0 (Finset.sum_congr rfl fun k _ => ?_)).trans (zero_add _)
  exact congrArg x (funext fun a => Fin.ext (by match a with | ⟨0, _⟩ => rfl | ⟨1, _⟩ => rfl | ⟨2, _⟩ => rfl | ⟨3, _⟩ => rfl | ⟨4, _⟩ => rfl | ⟨5, _⟩ => rfl))

/-- The larger of two arrays, the exponential of a difference and a quotient, entry by entry. -/
theorem larger {S : Shape} (x y : FVec Ideal S .f32) (i : S.Idx) : maximumf x y i = max (x i : EReal) (y i) := rfl
@[inherit_doc larger] theorem expsub {S : Shape} (x y : FVec Ideal S .f32) (i : S.Idx) : Host.exp (subf x y) i = Ideal.exp ((x i : EReal) - y i) := rfl
@[inherit_doc larger] theorem ratio {S : Shape} (x y : FVec Ideal S .f32) (i : S.Idx) : Host.divf x y i = Ideal.div (x i : EReal) (y i) := rfl

/-- An exponential below its row's largest. -/
theorem exps_apply (x : FVec Ideal S2x64x4x4x128x257 .f32) (b : Fin 2) (n : Fin 64) (h g : Fin 4) (r : Fin 128) (j : Fin 257) :
    exps x (ix6 b n h g r j) = Ideal.exp ((x (ix6 b n h g r j) : EReal) - Finset.univ.sup fun k : Fin 257 => (x (ix6 b n h g r k) : EReal)) := by
  unfold exps
  rw [expsub, over257_apply, larger, floor_apply, crest_apply]
  exact congrArg (fun u : EReal => Ideal.exp ((x (ix6 b n h g r j) : EReal) - u)) (max_eq_right bot_le)

/-- A share. -/
theorem shares_apply (x : FVec Ideal S2x64x4x4x128x257 .f32) (b : Fin 2) (n : Fin 64) (h g : Fin 4) (r : Fin 128) (j : Fin 257) :
    shares x (ix6 b n h g r j) = Ideal.div (x (ix6 b n h g r j)) (∑ k : Fin 257, (x (ix6 b n h g r k) : EReal)) := by
  unfold shares
  rw [ratio, over257_apply, total_apply]

/-- A mixed value. -/
theorem mixed_apply (v : FVec Ideal S2x64x256x4x64 .f32) (p : FVec Ideal S2x64x4x4x128x257 .f32) (b : Fin 2) (n : Fin 64) (h g : Fin 4) (r : Fin 128) (d : Fin 64) :
    mixed v p (ix6 b n h d g r) = ∑ k : Fin 256, v (ix5 b n k h d) * p (ix6 b n h g r ⟨k.val, by omega⟩) := by
  pointwise [mixed]

/-- A row's entry. -/
theorem rows_apply (y : FVec Ideal S2x64x4x64x4x128 .f32) (R : Fin 16384) (l : Fin 1024) :
    rows y (ix2 R l) = y (ix6 ⟨R.val / 8192, by omega⟩ ⟨R.val / 128 % 64, by omega⟩ ⟨l.val / 256, by omega⟩ ⟨l.val % 64, by omega⟩ ⟨l.val / 64 % 4, by omega⟩ ⟨R.val % 128, by omega⟩) := by
  pointwise [rows]

end Cert.AttnRefIdeal.Pv

end
-- ==== Proof.AttnEq.lean ====
/-
  The prompt attention equals its reference.
-/
module

public import proofs.«01_k».proof.Proof.AttnJoin
public import proofs.«01_k».proof.Proof.AttnFinite
public import proofs.«01_k».proof.Proof.AttnRefSoft
public import proofs.«01_k».proof.Defs

@[expose] public section

set_option maxRecDepth 16384
set_option maxHeartbeats 400000

noncomputable section

namespace Cert.Proof.Attn

open Idealize.ShloMosaic Idealize.ShloMosaic.TcCoe Idealize.SL.Sem
open Cert.AttnRefIdeal.Pv Cert.AttnIdeal.Pv

/-- A real number is not infinite. -/
theorem Real'.fin {x : EReal} : Real' x → x ≠ ⊤ ∧ x ≠ ⊥ := fun ⟨r, e⟩ => by
  rw [e]; exact ⟨EReal.coe_ne_top r, EReal.coe_ne_bot r⟩

/-- The cosines and sines of the angles are real numbers. -/
theorem real_turns (p : Fin 8192) (e : Fin 8) :
    Real' ((Host.cos Cert.AttnRefIdeal.Pv.angle : FVec Ideal Cert.AttnRefIdeal.S8192x8 .f32) (ix2 p e))
      ∧ Real' ((Host.sin Cert.AttnRefIdeal.Pv.angle : FVec Ideal Cert.AttnRefIdeal.S8192x8 .f32) (ix2 p e)) :=
  ⟨real_cos (real_angle p e), real_sin (real_angle p e)⟩

variable (z : FVec Ideal Cert.AttnIdeal.S16896x7680 .f32) (a : FVec Ideal Cert.AttnIdeal.S16 .f32) (hz : ∀ R l, Real' (z (ix2 R l)))

include hz in
/-- The rotated queries are real numbers. -/
theorem real_Q (b : Fin 2) (p : Fin 8192) (h : Fin 16) (d : Fin 64) : Real' (Q z (ix4 b p h d)) := by
  unfold Q
  rw [turn16_apply]
  refine real_rope _ _ _ (fun e => ?_) (fun e => (real_turns p e).1) (fun e => (real_turns p e).2) d
  rw [qin_apply]
  exact hz _ _

include hz in
/-- The rotated keys are real numbers. -/
theorem real_K (b : Fin 2) (p : Fin 8192) (h : Fin 4) (d : Fin 64) : Real' (K z (ix4 b p h d)) := by
  unfold K
  rw [turn4_apply]
  refine real_rope _ _ _ (fun e => ?_) (fun e => (real_turns p e).1) (fun e => (real_turns p e).2) d
  rw [kin_apply]
  exact hz _ _

/-- A scaled sum of products of real numbers is not the largest value. -/
theorem dot_fin (f g : Fin 64 → EReal) (hf : ∀ d, Real' (f d)) (hg : ∀ d, Real' (g d)) : (∑ d, f d * g d) * sc ≠ ⊤ := by
  obtain ⟨x, _, e⟩ := sc_real
  exact (real_mul (real_sum _ fun d => real_mul (hf d) (hg d)) ⟨x, e⟩).fin.1

include hz in
/-- No score is the largest value. -/
theorem SP_fin (b : Fin 2) (n : Fin 64) (h g : Fin 4) (r j : Fin 128) : SP (K z) (Q z) b n h g r j ≠ ⊤ := by
  unfold SP
  split
  · refine dot_fin _ _ (fun d => ?_) (fun d => real_Q z hz _ _ _ _)
    rw [band_prev]
    split
    · exact real_K z hz _ _ _ _
    · exact real_zero
  · exact bot_ne_top

include hz in
@[inherit_doc SP_fin] theorem SC_fin (b : Fin 2) (n : Fin 64) (h g : Fin 4) (r j : Fin 128) : SC (K z) (Q z) b n h g r j ≠ ⊤ := by
  unfold SC
  split
  · refine dot_fin _ _ (fun d => ?_) (fun d => real_Q z hz _ _ _ _)
    rw [band_own]
    exact real_K z hz _ _ _ _
  · exact bot_ne_top

/-- The reference's row of scores, the sink last. -/
def line : FVec Ideal Cert.AttnRefIdeal.S2x64x4x4x128x257 .f32 := sunk (kept seen (dots (band (K z)) (Q z))) a

/-- A row of scores against the two blocks. -/
theorem line_both (b : Fin 2) (n : Fin 64) (h g : Fin 4) (r : Fin 128) (k : Fin 256) :
    kept seen (dots (band (K z)) (Q z)) (ix6 b n h g r k) = both (SP (K z) (Q z) b n h g r) (SC (K z) (Q z) b n h g r) k := by
  refine Fin.addCases (m := 128) (n := 128) (motive := fun k : Fin 256 => kept seen (dots (band (K z)) (Q z)) (ix6 b n h g r k)
    = both (SP (K z) (Q z) b n h g r) (SC (K z) (Q z) b n h g r) k) (fun j => ?_) (fun j => ?_) k
  · rw [both_lo, kept_apply, dots_apply]
    exact if_congr (seen_prev n r j) rfl rfl
  · rw [both_hi, kept_apply, dots_apply]
    exact if_congr (seen_own n r j) rfl rfl

/-- A row of scores. -/
theorem line_apply (b : Fin 2) (n : Fin 64) (h g : Fin 4) (r : Fin 128) (k : Fin 257) :
    line z a (ix6 b n h g r k) = all3 (SP (K z) (Q z) b n h g r) (SC (K z) (Q z) b n h g r) (a (ix1 ⟨h.val * 4 + g.val, by omega⟩)) k := by
  unfold line all3
  rw [sunk_apply]
  split
  · exact line_both z b n h g r _
  · rfl

/-- An exponential of a row. -/
theorem exps_line (b : Fin 2) (n : Fin 64) (h g : Fin 4) (r : Fin 128) (k : Fin 257) :
    exps (line z a) (ix6 b n h g r k) = Ideal.exp (all3 (SP (K z) (Q z) b n h g r) (SC (K z) (Q z) b n h g r) (a (ix1 ⟨h.val * 4 + g.val, by omega⟩)) k
      - top2 (SP (K z) (Q z) b n h g r) (SC (K z) (Q z) b n h g r) (a (ix1 ⟨h.val * 4 + g.val, by omega⟩))) := by
  rw [exps_apply, ← sup_all3]
  refine congrArg₂ (fun u v : EReal => Ideal.exp (u - v)) (line_apply z a b n h g r k) (congrArg (Finset.univ.sup) (funext fun k' => line_apply z a b n h g r k'))

/-- A share of a row. -/
theorem shares_line (b : Fin 2) (n : Fin 64) (h g : Fin 4) (r : Fin 128) (k : Fin 257) :
    shares (exps (line z a)) (ix6 b n h g r k) = Ideal.div
      (Ideal.exp (all3 (SP (K z) (Q z) b n h g r) (SC (K z) (Q z) b n h g r) (a (ix1 ⟨h.val * 4 + g.val, by omega⟩)) k
        - top2 (SP (K z) (Q z) b n h g r) (SC (K z) (Q z) b n h g r) (a (ix1 ⟨h.val * 4 + g.val, by omega⟩))))
      (den2 (SP (K z) (Q z) b n h g r) (SC (K z) (Q z) b n h g r) (a (ix1 ⟨h.val * 4 + g.val, by omega⟩))) := by
  rw [shares_apply, ← sum_all3]
  exact congrArg₂ Ideal.div (exps_line z a b n h g r k) (Finset.sum_congr rfl fun k' _ => exps_line z a b n h g r k')

/-- The values of the two blocks. -/
theorem band_both (v : FVec Ideal Cert.AttnRefIdeal.S2x8192x4x64 .f32) (b : Fin 2) (n : Fin 64) (h : Fin 4) (d : Fin 64) (k : Fin 256) :
    (band v (ix5 b n k h d) : EReal) = both (fun j => band v (ix5 b n (Fin.castAdd 128 j) h d)) (fun j => band v (ix5 b n (Fin.natAdd 128 j) h d)) k := by
  refine Fin.addCases (m := 128) (n := 128) (motive := fun k : Fin 256 => (band v (ix5 b n k h d) : EReal)
    = both (fun j => band v (ix5 b n (Fin.castAdd 128 j) h d)) (fun j => band v (ix5 b n (Fin.natAdd 128 j) h d)) k) (fun j => ?_) (fun j => ?_) k
  · rw [both_lo]
  · rw [both_hi]

include hz in
/-- A mixed value of the reference. -/
theorem mixed_line (ha : ∀ k, Real' (a (ix1 k))) (b : Fin 2) (n : Fin 64) (h g : Fin 4) (r : Fin 128) (d : Fin 64) :
    mixed (band (W z)) (shares (exps (line z a))) (ix6 b n h d g r)
      = mix2 (SP (K z) (Q z) b n h g r) (SC (K z) (Q z) b n h g r) (a (ix1 ⟨h.val * 4 + g.val, by omega⟩))
        (fun j => band (W z) (ix5 b n (Fin.castAdd 128 j) h d)) (fun j => band (W z) (ix5 b n (Fin.natAdd 128 j) h d)) := by
  rw [mixed_apply, ← mix_all3 _ _ _ _ _ (SP_fin z hz b n h g r) (SC_fin z hz b n h g r) (ha _).fin.1 (ha _).fin.2]
  refine Finset.sum_congr rfl fun k _ => ?_
  refine congrArg₂ (fun u v : EReal => u * v) (band_both _ b n h d k) ((shares_line z a b n h g r _).trans ?_)
  exact congrArg (fun u : EReal => Ideal.div (Ideal.exp (u - _)) _) (all3_lo _ _ _ k)

/-- The first results agree. -/
theorem mixed_rows (m : (ℓ : Loc Cert.AttnIdeal.nD Cert.AttnIdeal.τ Cert.AttnIdeal.sig) → Buf (Elt Ideal) ℓ) (c : Dev Cert.AttnIdeal.nD)
    (a : FVec Ideal Cert.AttnIdeal.S16 .f32) (hs : (Cert.AttnIdeal.Gen.V m c Cert.AttnIdeal.main_arg1 : Vec Ideal Cert.AttnIdeal.S16 .f32) = a)
    (hz : ∀ R l, Real' (zof m c (ix2 R l))) (ha : ∀ k, Real' (a (ix1 k))) :
    Cert.AttnIdeal.Value.G7 m c = attn (zof m c) a := by
  funext i
  obtain ⟨R, l, rfl⟩ : ∃ (R : Fin 16384) (l : Fin 1024), i = ix2 R l := ⟨i 0, i 1, eq_ix2 i⟩
  have hR := R.isLt
  have hl := l.isLt
  rw [out_apply m c ⟨R.val / 128, by show _ < 128; omega⟩ ⟨R.val / 8192, by omega⟩ ⟨R.val / 128 % 64, by omega⟩ (by dsimp only; omega) ⟨R.val % 128, by omega⟩
    ⟨l.val / 256, by omega⟩ ⟨l.val / 64 % 4, by omega⟩ ⟨l.val % 64, by omega⟩ R (by dsimp only; omega) l (by dsimp only; omega), hs]
  show _ = rows (mixed (band (W (zof m c))) (shares (exps (line (zof m c) a)))) (ix2 R l)
  rw [rows_apply, mixed_line (zof m c) a hz ha]

/-- The attention's kernel and its reference leave the same results. -/
theorem algebraic : Cert.algebraic_AttnIdeal_AttnRefIdeal_pre_attn_finite (hAttnIdeal := Cert.AttnIdeal.Gen.facts)
    (hAttnRefIdeal := Cert.AttnRefIdeal.Gen.facts) (hPre_attn_finite := finiteFacts) := by
  intro m ρ m' ρ' hpre hagree
  refine ⟨fun c => Cert.AttnIdeal.Value.G7 m c, fun c => Cert.AttnIdeal.Value.G8 m c, fun c => Cert.AttnIdeal.Value.G9 m c,
    Cert.AttnIdeal.Value.run m ρ, ?_⟩
  refine (θ_run Cert.AttnRefIdeal.defs _ _).mono
    (fun _ h c => ⟨((h c).1.trans ?_), ((h c).2.1.trans ?_), ((h c).2.2.1.trans ?_), (h c).2.2.2⟩)
    (Cert.AttnRefIdeal.Value.run (F := Ideal) m' ρ')
  all_goals obtain ⟨a0, a1⟩ := hagree c
  all_goals have ez : zof m c = m ((c.tc : Thread Cert.AttnIdeal.nD Cert.AttnIdeal.τ).loc Cert.AttnIdeal.main_arg0) := Cert.AttnIdeal.Gen.V_main_arg0 m c
  · obtain ⟨hz, ha⟩ := finite _ _ (hpre c)
    rw [first m' c, a0, a1, ← ez]
    rw [← ez] at hz
    exact (mixed_rows m c _ (Cert.AttnIdeal.Gen.V_main_arg1 m c) hz ha).symm
  · rw [second m' c, a0, ← ez]
    exact (kept_keys m c).symm
  · rw [a0, ← ez]
    exact (kept_values m c).symm

end Cert.Proof.Attn

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.AttnRefIdeal
public import proofs.«01_k».proof.Proof.Gen.AttnRefIdeal.Run
public import proofs.«01_k».proof.Proof.Gen.ProjRefIdeal
public import proofs.«01_k».proof.Proof.Gen.ProjRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.ProjEq
public import proofs.«01_k».proof.Proof.MergeEq
public import proofs.«01_k».proof.Proof.ExpertBitsMaps
public import proofs.«01_k».proof.Proof.ExpertEq
public import proofs.«01_k».proof.Proof.AttnEq
public import Idealize.ShloMosaic.Lib.Quiescent
public import proofs.«01_k».proof.Proof.Gen.Expert
public import proofs.«01_k».proof.Proof.Gen.ExpertIdeal
public import proofs.«01_k».proof.Proof.Gen.Expert.Skeleton
public import proofs.«01_k».proof.Proof.Gen.ExpertIdeal.Skeleton
public import proofs.«01_k».proof.Proof.Gen.Expert.Launch
public import proofs.«01_k».proof.Proof.Gen.ExpertIdeal.Launch
public import proofs.«01_k».proof.Proof.Gen.ExpertRefIdeal
public import proofs.«01_k».proof.Proof.Gen.ExpertRefIdeal.Run
public import proofs.«01_k».proof.Proof.Gen.ExpertRefIdeal.Read
public import Idealize.ShloMosaic.Adequacy
public import Idealize.ShloMosaic.Init

@[expose] public section

noncomputable section

namespace Cert.Proof

open Idealize.ShloMosaic Idealize.SL.Sem

/-- The projection's reference is a program without kernels: every run of it leaves its semaphores at zero. -/
theorem proj_ref_frame : Cert.quiescent_ProjRefIdeal (hProjRefIdeal := Cert.ProjRefIdeal.Gen.facts) := fun m ρ _ =>
  (θ_run Cert.ProjRefIdeal.defs _ _).mono
    (fun r h => ⟨fun c => ⟨(h c).2.1, (h c).2.2⟩, Idealize.ShloMosaic.sem_eq_zero_of_no_sems (by decide) r.2⟩)
    (Cert.ProjRefIdeal.Value.run (F := Ideal) m ρ)

/-- The attention's reference is a program without kernels: every run of it leaves its semaphores at zero. -/
theorem attn_ref_frame : Cert.quiescent_AttnRefIdeal (hAttnRefIdeal := Cert.AttnRefIdeal.Gen.facts) := fun m ρ _ =>
  (θ_run Cert.AttnRefIdeal.defs _ _).mono
    (fun r h => ⟨fun c => ⟨(h c).2.2.2.1, (h c).2.2.2.2⟩, Idealize.ShloMosaic.sem_eq_zero_of_no_sems (by decide) r.2⟩)
    (Cert.AttnRefIdeal.Value.run (F := Ideal) m ρ)

/-- The merge's reference is a program without kernels: every run of it leaves its semaphores at zero. -/
theorem merge_ref_frame : Cert.quiescent_MergeRefIdeal (hMergeRefIdeal := Cert.MergeRefIdeal.Gen.facts) := fun m ρ _ =>
  (θ_run Cert.MergeRefIdeal.defs _ _).mono
    (fun r h => ⟨fun c => (h c).2.2.2, Idealize.ShloMosaic.sem_eq_zero_of_no_sems (by decide) r.2⟩)
    (Cert.MergeRefIdeal.Value.run (F := Ideal) m ρ)

/-- The experts' reference is a program without kernels: every run of it leaves its semaphores at zero. -/
theorem expert_ref_frame : Cert.quiescent_ExpertRefIdeal (hExpertRefIdeal := Cert.ExpertRefIdeal.Gen.facts)
    (hPre_tables_ok := Cert.Proof.Expert.preFacts) := fun m ρ _ =>
  (θ_run Cert.ExpertRefIdeal.defs _ _).mono
    (fun r h => ⟨fun c => (h c).2, Idealize.ShloMosaic.sem_eq_zero_of_no_sems (by decide) r.2⟩)
    (Cert.ExpertRefIdeal.Value.run (F := Ideal) m ρ)

/-- The experts' frame, for the tables that the precondition admits. -/
theorem expert_frame : Cert.quiescent_ExpertIdeal (hExpertIdeal := Cert.ExpertIdeal.Gen.facts)
    (hPre_tables_ok := Cert.Proof.Expert.preFacts) := fun m ρ h =>
  Cert.ExpertIdeal.Pv.frame m ρ (Cert.ExpertIdeal.Pv.ok_of_good m (Cert.Proof.Expert.tables _ _ _ _ _ _ _ (h 0)))

/-- The same at machine words. -/
theorem expert_bits_frame : Cert.quiescent_Expert (hExpert := Cert.Expert.Gen.facts)
    (hPre_tables_ok := Cert.Proof.Expert.preFacts) := fun m ρ h =>
  Cert.Expert.Pv.frame m ρ (Cert.Expert.Pv.ok_of_good m (Cert.Proof.Expert.tables _ _ _ _ _ _ _ (h 0)))

/-- The claim: every frame, every preservation and the equations. -/
theorem claim : Cert.Claim :=
  ⟨Cert.Attn.Gen.facts, Cert.AttnIdeal.Gen.facts, Cert.AttnRefIdeal.Gen.facts,
   Cert.Proj.Gen.facts, Cert.ProjIdeal.Gen.facts, Cert.ProjRefIdeal.Gen.facts,
   Cert.Merge.Gen.facts, Cert.MergeIdeal.Gen.facts, Cert.MergeRefIdeal.Gen.facts,
   Cert.Expert.Gen.facts, Cert.ExpertIdeal.Gen.facts, Cert.ExpertRefIdeal.Gen.facts, Cert.Proof.Attn.finiteFacts, Cert.Proof.Expert.preFacts,
   fun m ρ _ => Cert.Attn.Gen.frame m ρ, fun m ρ _ => Cert.AttnIdeal.Gen.frame m ρ, fun m ρ _ => Cert.AttnIdeal.Gen.frame m ρ,
   attn_ref_frame, fun m ρ _ => attn_ref_frame m ρ trivial,
   fun m ρ _ => Cert.Proj.Gen.frame m ρ, fun m ρ _ => Cert.ProjIdeal.Gen.frame m ρ, proj_ref_frame,
   fun m ρ _ => Cert.Merge.Gen.frame m ρ, fun m ρ _ => Cert.MergeIdeal.Gen.frame m ρ, merge_ref_frame,
   expert_bits_frame, expert_frame, expert_ref_frame,
   trivial, Cert.Proof.Attn.algebraic, trivial, Cert.Proof.Proj.algebraic, trivial, Cert.Proof.Merge.algebraic, trivial, Cert.Proof.Expert.algebraic⟩

end Cert.Proof

end
